-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)) (v7 : (c : Dev Cert.KernelIdeal.nD) → Buf (Elt Ideal) ((c.tc : Thread Cert.KernelIdeal.nD Cert.KernelIdeal.τ).loc Cert.KernelIdeal.main_v1_7)) (v8 : (c : Dev Cert.KernelIdeal.nD) → Buf (Elt Ideal) ((c.tc : Thread Cert.KernelIdeal.nD Cert.KernelIdeal.τ).loc Cert.KernelIdeal.main_v1_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_v1_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_v1_7) = v7 c
          ∧ r.2.mem ((c.tc : Thread Cert.ReferenceIdeal.nD Cert.ReferenceIdeal.τ).loc Cert.ReferenceIdeal.main_v1_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x2560 : Shape := ⟨3, ![16, 1, 2560]⟩
abbrev S2x320x128 : Shape := ⟨3, ![2, 320, 128]⟩
abbrev S2x640x2560 : Shape := ⟨3, ![2, 640, 2560]⟩
abbrev S2x1728x2560 : Shape := ⟨3, ![2, 1728, 2560]⟩
abbrev S2x640x6912 : Shape := ⟨3, ![2, 640, 6912]⟩
abbrev S2x7 : Shape := ⟨2, ![2, 7]⟩
abbrev S2x2560 : Shape := ⟨2, ![2, 2560]⟩
abbrev S2x6912 : Shape := ⟨2, ![2, 6912]⟩
abbrev S16 : Shape := ⟨1, ![16]⟩
abbrev S16x2560 : Shape := ⟨2, ![16, 2560]⟩
abbrev S2x864x128 : Shape := ⟨3, ![2, 864, 128]⟩
abbrev S2x16x2560 : Shape := ⟨3, ![2, 16, 2560]⟩
abbrev S2x1x16 : Shape := ⟨3, ![2, 1, 16]⟩
abbrev S2x16x6912 : Shape := ⟨3, ![2, 16, 6912]⟩
abbrev S640x2560 : Shape := ⟨2, ![640, 2560]⟩
abbrev S1728x2560 : Shape := ⟨2, ![1728, 2560]⟩
abbrev S640x6912 : Shape := ⟨2, ![640, 6912]⟩
abbrev S20x16x128 : Shape := ⟨3, ![20, 16, 128]⟩
abbrev S54x16x128 : Shape := ⟨3, ![54, 16, 128]⟩
abbrev S320x128 : Shape := ⟨2, ![320, 128]⟩
abbrev S864x128 : Shape := ⟨2, ![864, 128]⟩
abbrev S16x6912 : Shape := ⟨2, ![16, 6912]⟩
abbrev S14x1x16 : Shape := ⟨3, ![14, 1, 16]⟩
abbrev S8 : Shape := ⟨1, ![8]⟩
abbrev S9 : Shape := ⟨1, ![9]⟩
abbrev S1 : Shape := ⟨1, ![1]⟩
abbrev S_ : Shape := ⟨0, ![]⟩
abbrev S1x640x2560 : Shape := ⟨3, ![1, 640, 2560]⟩
abbrev S1x1728x2560 : Shape := ⟨3, ![1, 1728, 2560]⟩
abbrev S1x640x6912 : Shape := ⟨3, ![1, 640, 6912]⟩
abbrev S16x128 : Shape := ⟨2, ![16, 128]⟩
abbrev S1x16x128 : Shape := ⟨3, ![1, 16, 128]⟩
abbrev S1x7 : Shape := ⟨2, ![1, 7]⟩
abbrev S1x320x128 : Shape := ⟨3, ![1, 320, 128]⟩
abbrev S16x1 : Shape := ⟨2, ![16, 1]⟩
abbrev S1x128 : Shape := ⟨2, ![1, 128]⟩
abbrev S16x256 : Shape := ⟨2, ![16, 256]⟩
abbrev S128x256 : Shape := ⟨2, ![128, 256]⟩
abbrev S256x128 : Shape := ⟨2, ![256, 128]⟩
abbrev S256x256 : Shape := ⟨2, ![256, 256]⟩
abbrev S1x1 : Shape := ⟨2, ![1, 1]⟩
abbrev S64x256 : Shape := ⟨2, ![64, 256]⟩
abbrev S128x16 : Shape := ⟨2, ![128, 16]⟩
abbrev S1x16 : Shape := ⟨2, ![1, 16]⟩
abbrev S1x1x16 : Shape := ⟨3, ![1, 1, 16]⟩
abbrev S1x864x128 : Shape := ⟨3, ![1, 864, 128]⟩
abbrev S1x16x2560 : Shape := ⟨3, ![1, 16, 2560]⟩
abbrev S1x16x6912 : Shape := ⟨3, ![1, 16, 6912]⟩

abbrev nBuf : Space → Nat
  | .hbm => 21
  | .vmem => 21
  | .smem => 1
  | _ => 0

abbrev bufTy : (tb : Table) → Fin (tcTables nBuf tb) → BufTy
  | .hbm, ⟨0, _⟩ => ⟨S16x1x2560, .bf16⟩
  | .hbm, ⟨1, _⟩ => ⟨S2x320x128, .f32⟩
  | .hbm, ⟨2, _⟩ => ⟨S2x640x2560, .i8⟩
  | .hbm, ⟨3, _⟩ => ⟨S2x1728x2560, .i8⟩
  | .hbm, ⟨4, _⟩ => ⟨S2x1728x2560, .i8⟩
  | .hbm, ⟨5, _⟩ => ⟨S2x640x6912, .i8⟩
  | .hbm, ⟨6, _⟩ => ⟨S2x7, .bf16⟩
  | .hbm, ⟨7, _⟩ => ⟨S2x2560, .f32⟩
  | .hbm, ⟨8, _⟩ => ⟨S2x2560, .f32⟩
  | .hbm, ⟨9, _⟩ => ⟨S2x6912, .f32⟩
  | .hbm, ⟨10, _⟩ => ⟨S16, .i32⟩
  | .hbm, ⟨11, _⟩ => ⟨S16x2560, .bf16⟩
  | .hbm, ⟨12, _⟩ => ⟨S2x320x128, .f32⟩
  | .hbm, ⟨13, _⟩ => ⟨S2x320x128, .f32⟩
  | .hbm, ⟨14, _⟩ => ⟨S2x864x128, .f32⟩
  | .hbm, ⟨15, _⟩ => ⟨S2x16x2560, .i8⟩
  | .hbm, ⟨16, _⟩ => ⟨S2x1x16, .f32⟩
  | .hbm, ⟨17, _⟩ => ⟨S2x16x2560, .i8⟩
  | .hbm, ⟨18, _⟩ => ⟨S2x1x16, .f32⟩
  | .hbm, ⟨19, _⟩ => ⟨S2x16x6912, .i8⟩
  | .hbm, ⟨20, _⟩ => ⟨S2x1x16, .f32⟩
  | .local _ .vmem, ⟨0, _⟩ => ⟨S16x2560, .bf16⟩
  | .local _ .vmem, ⟨1, _⟩ => ⟨S640x2560, .i8⟩
  | .local _ .vmem, ⟨2, _⟩ => ⟨S1728x2560, .i8⟩
  | .local _ .vmem, ⟨3, _⟩ => ⟨S1728x2560, .i8⟩
  | .local _ .vmem, ⟨4, _⟩ => ⟨S640x6912, .i8⟩
  | .local _ .vmem, ⟨5, _⟩ => ⟨S2x7, .bf16⟩
  | .local _ .vmem, ⟨6, _⟩ => ⟨S2x2560, .f32⟩
  | .local _ .vmem, ⟨7, _⟩ => ⟨S2x2560, .f32⟩
  | .local _ .vmem, ⟨8, _⟩ => ⟨S2x6912, .f32⟩
  | .local _ .vmem, ⟨9, _⟩ => ⟨S20x16x128, .f32⟩
  | .local _ .vmem, ⟨10, _⟩ => ⟨S20x16x128, .f32⟩
  | .local _ .vmem, ⟨11, _⟩ => ⟨S54x16x128, .bf16⟩
  | .local _ .vmem, ⟨12, _⟩ => ⟨S54x16x128, .f32⟩
  | .local _ .vmem, ⟨13, _⟩ => ⟨S320x128, .f32⟩
  | .local _ .vmem, ⟨14, _⟩ => ⟨S320x128, .f32⟩
  | .local _ .vmem, ⟨15, _⟩ => ⟨S320x128, .f32⟩
  | .local _ .vmem, ⟨16, _⟩ => ⟨S864x128, .f32⟩
  | .local _ .vmem, ⟨17, _⟩ => ⟨S16x2560, .i8⟩
  | .local _ .vmem, ⟨18, _⟩ => ⟨S16x2560, .i8⟩
  | .local _ .vmem, ⟨19, _⟩ => ⟨S16x6912, .i8⟩
  | .local _ .vmem, ⟨20, _⟩ => ⟨S14x1x16, .f32⟩
  | .local _ .smem, ⟨0, _⟩ => ⟨S16, .i32⟩
  | _, _ => ⟨S16x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_80 : BitVec 32 := 0#32
  let c2_i32_81 : BitVec 32 := 2#32
  let v137 : BitVec 32 := Scalar.addi c0_i32_80 c2_i32_81
  let c1_i32_82 : BitVec 32 := 1#32
  ⟨c0_i32_80, v137, c1_i32_82⟩
def k0_off1 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_90 : BitVec 32 := 0#32
  let c0_i32_91 : BitVec 32 := 0#32
  ![arg44.toNat, 0, 0]
def k0_off2 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_523 : BitVec 32 := 0#32
  let c0_i32_524 : BitVec 32 := 0#32
  ![arg44.toNat, 0, 0]
def k0_cond1 (k0_t1 : Fin k0_t1_loop.trips) : BitVec 1 :=
  let c0_i32_80 : BitVec 32 := 0#32
  let c1_i32_82 : BitVec 32 := 1#32
  let arg44 : BitVec 32 := Scf.iv c0_i32_80 c1_i32_82 k0_t1
  let c1_i32_85 : BitVec 32 := 1#32
  let v139 : BitVec 32 := Scalar.addi arg44 c1_i32_85
  let c2_i32_86 : BitVec 32 := 2#32
  let v140 : BitVec 1 := Scalar.cmpi .slt v139 c2_i32_86
  let v2534 : BitVec 32 := Scalar.extui v140
  let c0_i32_1401 : BitVec 32 := 0#32
  let v2535 : BitVec 1 := Scalar.cmpi .ne v2534 c0_i32_1401
  v2535

def k0_off3 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c1_i32_6045 : BitVec 32 := 1#32
  let v10604 : BitVec 32 := Scalar.addi arg44 c1_i32_6045
  let c0_i32_6047 : BitVec 32 := 0#32
  let c0_i32_6048 : BitVec 32 := 0#32
  ![v10604.toNat, 0, 0]
def k0_off4 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_1891 : BitVec 32 := 0#32
  let c0_i32_1892 : BitVec 32 := 0#32
  ![arg44.toNat, 0, 0]
@[reducible] def k0_t2_loop : Scf.Loop 32 :=
  let c0_i32_2372 : BitVec 32 := 0#32
  let c3_i32_2373 : BitVec 32 := 3#32
  let v4280 : BitVec 32 := Scalar.addi c0_i32_2372 c3_i32_2373
  let c1_i32_2374 : BitVec 32 := 1#32
  ⟨c0_i32_2372, v4280, c1_i32_2374⟩
def k0_mult1 (k0_t2 : Fin k0_t2_loop.trips) : BitVec 32 :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let c0_i32_6047 : BitVec 32 := 0#32
  let v10606 : BitVec 32 := Scalar.addi v10605 c0_i32_6047
  let c128_i32 : BitVec 32 := 128#32
  let v10607 : BitVec 32 := Scalar.muli v10606 c128_i32
  v10607
def k0_off5 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10614 : Index := Scalar.indexCast v10608
  let c0_6054 : Index := 0#32
  ![v10614.toNat, 0]
def k0_off6 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10638 : Index := Scalar.indexCast v10608
  let c256_6067 : Index := 256#32
  ![v10638.toNat, 256]
def k0_off7 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10664 : Index := Scalar.indexCast v10608
  let c512_6080 : Index := 512#32
  ![v10664.toNat, 512]
def k0_off8 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10690 : Index := Scalar.indexCast v10608
  let c768_6093 : Index := 768#32
  ![v10690.toNat, 768]
def k0_off9 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10716 : Index := Scalar.indexCast v10608
  let c1024_6106 : Index := 1024#32
  ![v10716.toNat, 1024]
def k0_off10 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10742 : Index := Scalar.indexCast v10608
  let c1280_6119 : Index := 1280#32
  ![v10742.toNat, 1280]
def k0_off11 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10768 : Index := Scalar.indexCast v10608
  let c1536_6132 : Index := 1536#32
  ![v10768.toNat, 1536]
def k0_off12 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10794 : Index := Scalar.indexCast v10608
  let c1792_6145 : Index := 1792#32
  ![v10794.toNat, 1792]
def k0_off13 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10820 : Index := Scalar.indexCast v10608
  let c2048_6158 : Index := 2048#32
  ![v10820.toNat, 2048]
def k0_off14 (k0_t2 : Fin k0_t2_loop.trips) (c0_i32_6047 : BitVec 32) : Fin 2 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let c128_i32 : BitVec 32 := 128#32
  let v10607 : BitVec 32 := Scalar.muli v10606 c128_i32
  let v10608 : BitVec 32 := v10607
  let v10846 : Index := Scalar.indexCast v10608
  let c2304_6171 : Index := 2304#32
  ![v10846.toNat, 2304]
def k0_off15 (k0_t2 : Fin k0_t2_loop.trips) (c0_i32_6317 : BitVec 32) (c0_i32_6047 : BitVec 32) : Fin 3 → Nat :=
  let c1_i32_6046 : BitVec 32 := 1#32
  let c0_i32_2372 : BitVec 32 := 0#32
  let c1_i32_2374 : BitVec 32 := 1#32
  let arg45 : BitVec 32 := Scf.iv c0_i32_2372 c1_i32_2374 k0_t2
  let c4_i32_6045 : BitVec 32 := 4#32
  let v10604 : BitVec 32 := Scalar.muli arg45 c4_i32_6045
  let v10605 : BitVec 32 := Scalar.addi c1_i32_6046 v10604
  let v10606 : BitVec 32 := Scalar.addi v10605 c0_i32_6047
  let v11161 : BitVec 32 := Scalar.addi c0_i32_6317 v10606
  let v11162 : Index := Scalar.indexCast v11161
  let c0_6318 : Index := 0#32
  let c0_6319 : Index := 0#32
  ![v11162.toNat, 0, 0]
def k0_off15_at (r : Fin 16) : BitVec 32 × BitVec 32 :=
  if r.val < 8 then
    if r.val < 4 then
      if r.val < 2 then
        if r.val < 1 then
          (0#32, 0#32)
        else
          (13#32, 0#32)
      else
        if r.val < 3 then
          (27#32, 0#32)
        else
          (40#32, 0#32)
    else
      if r.val < 6 then
        if r.val < 5 then
          (0#32, 1#32)
        else
          (13#32, 1#32)
      else
        if r.val < 7 then
          (27#32, 1#32)
        else
          (40#32, 1#32)
  else
    if r.val < 12 then
      if r.val < 10 then
        if r.val < 9 then
          (0#32, 2#32)
        else
          (13#32, 2#32)
      else
        if r.val < 11 then
          (27#32, 2#32)
        else
          (40#32, 2#32)
    else
      if r.val < 14 then
        if r.val < 13 then
          (0#32, 3#32)
        else
          (13#32, 3#32)
      else
        if r.val < 15 then
          (27#32, 3#32)
        else
          (40#32, 3#32)
def k0_mult2 (k0_t2 : Fin k0_t2_loop.trips) : BitVec 32 :=
  let c1_i32_6333 : BitVec 32 := 1#32
  let c0_i32_2372 : BitVec 32 := 0#32
  let c1_i32_2374 : BitVec 32 := 1#32
  let arg45 : BitVec 32 := Scf.iv c0_i32_2372 c1_i32_2374 k0_t2
  let c4_i32_6332 : BitVec 32 := 4#32
  let v11221 : BitVec 32 := Scalar.muli arg45 c4_i32_6332
  let v11222 : BitVec 32 := Scalar.addi c1_i32_6333 v11221
  let c1_i32_6334 : BitVec 32 := 1#32
  let v11223 : BitVec 32 := Scalar.addi v11222 c1_i32_6334
  let c128_i32_6335 : BitVec 32 := 128#32
  let v11224 : BitVec 32 := Scalar.muli v11223 c128_i32_6335
  v11224
def k0_mult3 (k0_t2 : Fin k0_t2_loop.trips) : BitVec 32 :=
  let c1_i32_6623 : BitVec 32 := 1#32
  let c0_i32_2372 : BitVec 32 := 0#32
  let c1_i32_2374 : BitVec 32 := 1#32
  let arg45 : BitVec 32 := Scf.iv c0_i32_2372 c1_i32_2374 k0_t2
  let c4_i32_6622 : BitVec 32 := 4#32
  let v11838 : BitVec 32 := Scalar.muli arg45 c4_i32_6622
  let v11839 : BitVec 32 := Scalar.addi c1_i32_6623 v11838
  let c2_i32_6624 : BitVec 32 := 2#32
  let v11840 : BitVec 32 := Scalar.addi v11839 c2_i32_6624
  let c128_i32_6625 : BitVec 32 := 128#32
  let v11841 : BitVec 32 := Scalar.muli v11840 c128_i32_6625
  v11841
def k0_mult4 (k0_t2 : Fin k0_t2_loop.trips) : BitVec 32 :=
  let c1_i32_6913 : BitVec 32 := 1#32
  let c0_i32_2372 : BitVec 32 := 0#32
  let c1_i32_2374 : BitVec 32 := 1#32
  let arg45 : BitVec 32 := Scf.iv c0_i32_2372 c1_i32_2374 k0_t2
  let c4_i32_6912 : BitVec 32 := 4#32
  let v12455 : BitVec 32 := Scalar.muli arg45 c4_i32_6912
  let v12456 : BitVec 32 := Scalar.addi c1_i32_6913 v12455
  let c3_i32_6914 : BitVec 32 := 3#32
  let v12457 : BitVec 32 := Scalar.addi v12456 c3_i32_6914
  let c128_i32_6915 : BitVec 32 := 128#32
  let v12458 : BitVec 32 := Scalar.muli v12457 c128_i32_6915
  v12458
def k0_cond2 (k0_t1 : Fin k0_t1_loop.trips) : BitVec 1 :=
  let c0_i32_80 : BitVec 32 := 0#32
  let c1_i32_82 : BitVec 32 := 1#32
  let arg44 : BitVec 32 := Scf.iv c0_i32_80 c1_i32_82 k0_t1
  let c1_i32_85 : BitVec 32 := 1#32
  let v139 : BitVec 32 := Scalar.addi arg44 c1_i32_85
  let c2_i32_86 : BitVec 32 := 2#32
  let v140 : BitVec 1 := Scalar.cmpi .slt v139 c2_i32_86
  let v4292 : BitVec 32 := Scalar.extui v140
  let c0_i32_2382 : BitVec 32 := 0#32
  let v4293 : BitVec 1 := Scalar.cmpi .ne v4292 c0_i32_2382
  v4293

def k0_off16 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c1_i32_6045 : BitVec 32 := 1#32
  let v10604 : BitVec 32 := Scalar.addi arg44 c1_i32_6045
  let c0_i32_6047 : BitVec 32 := 0#32
  let c0_i32_6048 : BitVec 32 := 0#32
  ![v10604.toNat, 0, 0]
def k0_cond3 (k0_t1 : Fin k0_t1_loop.trips) : BitVec 1 :=
  let c0_i32_80 : BitVec 32 := 0#32
  let c1_i32_82 : BitVec 32 := 1#32
  let arg44 : BitVec 32 := Scf.iv c0_i32_80 c1_i32_82 k0_t1
  let c1_i32_85 : BitVec 32 := 1#32
  let v139 : BitVec 32 := Scalar.addi arg44 c1_i32_85
  let c2_i32_86 : BitVec 32 := 2#32
  let v140 : BitVec 1 := Scalar.cmpi .slt v139 c2_i32_86
  let v4294 : BitVec 32 := Scalar.extui v140
  let c0_i32_2383 : BitVec 32 := 0#32
  let v4295 : BitVec 1 := Scalar.cmpi .ne v4294 c0_i32_2383
  v4295

def k0_off17 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c1_i32_6045 : BitVec 32 := 1#32
  let v10604 : BitVec 32 := Scalar.addi arg44 c1_i32_6045
  let c0_i32_6047 : BitVec 32 := 0#32
  let c0_i32_6048 : BitVec 32 := 0#32
  ![v10604.toNat, 0, 0]
def k0_off18 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_3895 : BitVec 32 := 0#32
  let c0_i32_3896 : BitVec 32 := 0#32
  ![arg44.toNat, 0, 0]
def k0_cond4 (k0_t1 : Fin k0_t1_loop.trips) : BitVec 1 :=
  let c0_i32_80 : BitVec 32 := 0#32
  let c1_i32_82 : BitVec 32 := 1#32
  let arg44 : BitVec 32 := Scf.iv c0_i32_80 c1_i32_82 k0_t1
  let c1_i32_85 : BitVec 32 := 1#32
  let v139 : BitVec 32 := Scalar.addi arg44 c1_i32_85
  let c2_i32_86 : BitVec 32 := 2#32
  let v140 : BitVec 1 := Scalar.cmpi .slt v139 c2_i32_86
  let v10489 : BitVec 32 := Scalar.extui v140
  let c0_i32_5967 : BitVec 32 := 0#32
  let v10490 : BitVec 1 := Scalar.cmpi .ne v10489 c0_i32_5967
  v10490

def k0_off19 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c1_i32_6045 : BitVec 32 := 1#32
  let v10604 : BitVec 32 := Scalar.addi arg44 c1_i32_6045
  let c0_i32_6047 : BitVec 32 := 0#32
  let c0_i32_6048 : BitVec 32 := 0#32
  ![v10604.toNat, 0, 0]
def k0_off20 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_5985 : BitVec 32 := 0#32
  let c0_i32_5986 : BitVec 32 := 0#32
  ![arg44.toNat, 0, 0]
def k0_off21 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_5987 : BitVec 32 := 0#32
  let c0_i32_5988 : BitVec 32 := 0#32
  ![arg44.toNat, 0, 0]
def k0_off22 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_5991 : BitVec 32 := 0#32
  let c0_i32_5992 : BitVec 32 := 0#32
  ![arg44.toNat, 0, 0]
def k0_off23 (k0_t1 : Fin k0_t1_loop.trips) : Fin 3 → Nat :=
  let c0_i32_80 : BitVec 32 := 0#32
  let c1_i32_82 : BitVec 32 := 1#32
  let arg44 : BitVec 32 := Scf.iv c0_i32_80 c1_i32_82 k0_t1
  let c0_i32_5995 : BitVec 32 := 0#32
  let c0_i32_5996 : BitVec 32 := 0#32
  ![arg44.toNat, 0, 0]
abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x1x2560 : Shape := ⟨3, ![16, 1, 2560]⟩
abbrev S2x320x128 : Shape := ⟨3, ![2, 320, 128]⟩
abbrev S2x640x2560 : Shape := ⟨3, ![2, 640, 2560]⟩
abbrev S2x1728x2560 : Shape := ⟨3, ![2, 1728, 2560]⟩
abbrev S2x640x6912 : Shape := ⟨3, ![2, 640, 6912]⟩
abbrev S2x7 : Shape := ⟨2, ![2, 7]⟩
abbrev S2x2560 : Shape := ⟨2, ![2, 2560]⟩
abbrev S2x6912 : Shape := ⟨2, ![2, 6912]⟩
abbrev S16 : Shape := ⟨1, ![16]⟩
abbrev S16x2560 : Shape := ⟨2, ![16, 2560]⟩
abbrev S2x864x128 : Shape := ⟨3, ![2, 864, 128]⟩
abbrev S2x16x2560 : Shape := ⟨3, ![2, 16, 2560]⟩
abbrev S2x1x16 : Shape := ⟨3, ![2, 1, 16]⟩
abbrev S2x16x6912 : Shape := ⟨3, ![2, 16, 6912]⟩
abbrev S1x7 : Shape := ⟨2, ![1, 7]⟩
abbrev S1x320x128 : Shape := ⟨3, ![1, 320, 128]⟩
abbrev S320x128 : Shape := ⟨2, ![320, 128]⟩
abbrev S1x2560 : Shape := ⟨2, ![1, 2560]⟩
abbrev S16x1 : Shape := ⟨2, ![16, 1]⟩
abbrev S1x640x2560 : Shape := ⟨3, ![1, 640, 2560]⟩
abbrev S640x2560 : Shape := ⟨2, ![640, 2560]⟩
abbrev S1x1 : Shape := ⟨2, ![1, 1]⟩
abbrev S16x640 : Shape := ⟨2, ![16, 640]⟩
abbrev S1x1728x2560 : Shape := ⟨3, ![1, 1728, 2560]⟩
abbrev S1728x2560 : Shape := ⟨2, ![1728, 2560]⟩
abbrev S16x1728 : Shape := ⟨2, ![16, 1728]⟩
abbrev S16x6912 : Shape := ⟨2, ![16, 6912]⟩
abbrev S1x6912 : Shape := ⟨2, ![1, 6912]⟩
abbrev S1x640x6912 : Shape := ⟨3, ![1, 640, 6912]⟩
abbrev S640x6912 : Shape := ⟨2, ![640, 6912]⟩
abbrev S864x128 : Shape := ⟨2, ![864, 128]⟩
abbrev S1x864x128 : Shape := ⟨3, ![1, 864, 128]⟩
abbrev S1x16x2560 : Shape := ⟨3, ![1, 16, 2560]⟩
abbrev S1x16x6912 : Shape := ⟨3, ![1, 16, 6912]⟩
abbrev S1x16 : Shape := ⟨2, ![1, 16]⟩
abbrev S1x1x16 : Shape := ⟨3, ![1, 1, 16]⟩

abbrev nBuf : Space → Nat
  | .hbm => 21
  | .vmem => 19
  | .smem => 0
  | _ => 0

abbrev bufTy : (tb : Table) → Fin (tcTables nBuf tb) → BufTy
  | .hbm, ⟨0, _⟩ => ⟨S16x1x2560, .bf16⟩
  | .hbm, ⟨1, _⟩ => ⟨S2x320x128, .f32⟩
  | .hbm, ⟨2, _⟩ => ⟨S2x640x2560, .i8⟩
  | .hbm, ⟨3, _⟩ => ⟨S2x1728x2560, .i8⟩
  | .hbm, ⟨4, _⟩ => ⟨S2x1728x2560, .i8⟩
  | .hbm, ⟨5, _⟩ => ⟨S2x640x6912, .i8⟩
  | .hbm, ⟨6, _⟩ => ⟨S2x7, .bf16⟩
  | .hbm, ⟨7, _⟩ => ⟨S2x2560, .f32⟩
  | .hbm, ⟨8, _⟩ => ⟨S2x2560, .f32⟩
  | .hbm, ⟨9, _⟩ => ⟨S2x6912, .f32⟩
  | .hbm, ⟨10, _⟩ => ⟨S16, .i32⟩
  | .hbm, ⟨11, _⟩ => ⟨S16x2560, .bf16⟩
  | .hbm, ⟨12, _⟩ => ⟨S2x320x128, .f32⟩
  | .hbm, ⟨13, _⟩ => ⟨S2x320x128, .f32⟩
  | .hbm, ⟨14, _⟩ => ⟨S2x864x128, .f32⟩
  | .hbm, ⟨15, _⟩ => ⟨S2x16x2560, .i8⟩
  | .hbm, ⟨16, _⟩ => ⟨S2x1x16, .f32⟩
  | .hbm, ⟨17, _⟩ => ⟨S2x16x2560, .i8⟩
  | .hbm, ⟨18, _⟩ => ⟨S2x1x16, .f32⟩
  | .hbm, ⟨19, _⟩ => ⟨S2x16x6912, .i8⟩
  | .hbm, ⟨20, _⟩ => ⟨S2x1x16, .f32⟩
  | .local _ .vmem, ⟨0, _⟩ => ⟨S16x2560, .bf16⟩
  | .local _ .vmem, ⟨1, _⟩ => ⟨S2x320x128, .f32⟩
  | .local _ .vmem, ⟨2, _⟩ => ⟨S2x640x2560, .i8⟩
  | .local _ .vmem, ⟨3, _⟩ => ⟨S2x1728x2560, .i8⟩
  | .local _ .vmem, ⟨4, _⟩ => ⟨S2x1728x2560, .i8⟩
  | .local _ .vmem, ⟨5, _⟩ => ⟨S2x640x6912, .i8⟩
  | .local _ .vmem, ⟨6, _⟩ => ⟨S2x7, .bf16⟩
  | .local _ .vmem, ⟨7, _⟩ => ⟨S2x2560, .f32⟩
  | .local _ .vmem, ⟨8, _⟩ => ⟨S2x2560, .f32⟩
  | .local _ .vmem, ⟨9, _⟩ => ⟨S2x6912, .f32⟩
  | .local _ .vmem, ⟨10, _⟩ => ⟨S2x320x128, .f32⟩
  | .local _ .vmem, ⟨11, _⟩ => ⟨S2x320x128, .f32⟩
  | .local _ .vmem, ⟨12, _⟩ => ⟨S2x864x128, .f32⟩
  | .local _ .vmem, ⟨13, _⟩ => ⟨S2x16x2560, .i8⟩
  | .local _ .vmem, ⟨14, _⟩ => ⟨S2x1x16, .f32⟩
  | .local _ .vmem, ⟨15, _⟩ => ⟨S2x16x2560, .i8⟩
  | .local _ .vmem, ⟨16, _⟩ => ⟨S2x1x16, .f32⟩
  | .local _ .vmem, ⟨17, _⟩ => ⟨S2x16x6912, .i8⟩
  | .local _ .vmem, ⟨18, _⟩ => ⟨S2x1x16, .f32⟩
  | _, _ => ⟨S16x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S16x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1728x2560 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1728x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x640x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x7 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x6912 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x320x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x320x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x864x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x16x2560 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x16x2560 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x16x6912 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.SetupKernel.lean ====
/- What the symbolic run of the body and the launch are stated over: the contents of every operand when
   the call is reached (`V`, `hmain`, `iblk`), what the call's schedule does with its one window, and the
   resources the body owns: the HBM operands, the copies' semaphores. The text is that of the library's
   frame kit for a kernel with these operands, under the namespace `Hand`. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v1_0, main_v1_1, main_v1_2, main_v1_3, main_v1_4, main_v1_5, main_v1_6, main_v1_7, main_v1_8}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).1 0).trans (((dats 0 c).arrAt_in 0 rfl _).trans ((hA c 0).trans (V_main_arg10 m c)))⟩) h

/-! ## The kernel body on any staging memrefs: a subtype the run finds -/

/-- Each window's current staging memref at point `t`, spelled as the pipeline passes it (`bodyAt0`), and its wholeness. -/
abbrev ms0_0 (t : Fin cfg0.N) : Memref sig .tc .smem S16 .i32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S16x2560 .bf16 := Memref.whole cc0_scratch0
abbrev scM0_1 : Memref sig .tc .vmem S640x2560 .i8 := Memref.whole cc0_scratch1
abbrev scM0_2 : Memref sig .tc .vmem S1728x2560 .i8 := Memref.whole cc0_scratch2
abbrev scM0_3 : Memref sig .tc .vmem S1728x2560 .i8 := Memref.whole cc0_scratch3
abbrev scM0_4 : Memref sig .tc .vmem S640x6912 .i8 := Memref.whole cc0_scratch4
abbrev scM0_5 : Memref sig .tc .vmem S2x7 .bf16 := Memref.whole cc0_scratch5
abbrev scM0_6 : Memref sig .tc .vmem S2x2560 .f32 := Memref.whole cc0_scratch6
abbrev scM0_7 : Memref sig .tc .vmem S2x2560 .f32 := Memref.whole cc0_scratch7
abbrev scM0_8 : Memref sig .tc .vmem S2x6912 .f32 := Memref.whole cc0_scratch8
abbrev scM0_9 : Memref sig .tc .vmem S20x16x128 .f32 := Memref.whole cc0_scratch9
abbrev scM0_10 : Memref sig .tc .vmem S20x16x128 .f32 := Memref.whole cc0_scratch10
abbrev scM0_11 : Memref sig .tc .vmem S54x16x128 .bf16 := Memref.whole cc0_scratch11
abbrev scM0_12 : Memref sig .tc .vmem S54x16x128 .f32 := Memref.whole cc0_scratch12
abbrev scM0_13 : Memref sig .tc .vmem S320x128 .f32 := Memref.whole cc0_scratch13
abbrev scM0_14 : Memref sig .tc .vmem S320x128 .f32 := Memref.whole cc0_scratch14
abbrev scM0_15 : Memref sig .tc .vmem S320x128 .f32 := Memref.whole cc0_scratch15
abbrev scM0_16 : Memref sig .tc .vmem S864x128 .f32 := Memref.whole cc0_scratch16
abbrev scM0_17 : Memref sig .tc .vmem S16x2560 .i8 := Memref.whole cc0_scratch17
abbrev scM0_18 : Memref sig .tc .vmem S16x2560 .i8 := Memref.whole cc0_scratch18
abbrev scM0_19 : Memref sig .tc .vmem S16x6912 .i8 := Memref.whole cc0_scratch19
abbrev scM0_20 : Memref sig .tc .vmem S14x1x16 .f32 := Memref.whole cc0_scratch20
/-- The operands left in HBM that the body copies into scratch itself, whole. -/
abbrev hbM0_0 : Memref sig .tc .hbm S16x2560 .bf16 := Memref.whole main_v0
abbrev hbM0_1 : Memref sig .tc .hbm S2x320x128 .f32 := Memref.whole main_arg1
abbrev hbM0_2 : Memref sig .tc .hbm S2x640x2560 .i8 := Memref.whole main_arg2
abbrev hbM0_3 : Memref sig .tc .hbm S2x1728x2560 .i8 := Memref.whole main_arg3
abbrev hbM0_4 : Memref sig .tc .hbm S2x1728x2560 .i8 := Memref.whole main_arg4
abbrev hbM0_5 : Memref sig .tc .hbm S2x640x6912 .i8 := Memref.whole main_arg5
abbrev hbM0_6 : Memref sig .tc .hbm S2x7 .bf16 := Memref.whole main_arg6
abbrev hbM0_7 : Memref sig .tc .hbm S2x2560 .f32 := Memref.whole main_arg7
abbrev hbM0_8 : Memref sig .tc .hbm S2x2560 .f32 := Memref.whole main_arg8
abbrev hbM0_9 : Memref sig .tc .hbm S2x6912 .f32 := Memref.whole main_arg9
abbrev hbM0_10 : Memref sig .tc .hbm S2x320x128 .f32 := Memref.whole main_v1_0
abbrev hbM0_11 : Memref sig .tc .hbm S2x320x128 .f32 := Memref.whole main_v1_1
abbrev hbM0_12 : Memref sig .tc .hbm S2x864x128 .f32 := Memref.whole main_v1_2
abbrev hbM0_13 : Memref sig .tc .hbm S2x16x2560 .i8 := Memref.whole main_v1_3
abbrev hbM0_14 : Memref sig .tc .hbm S2x1x16 .f32 := Memref.whole main_v1_4
abbrev hbM0_15 : Memref sig .tc .hbm S2x16x2560 .i8 := Memref.whole main_v1_5
abbrev hbM0_16 : Memref sig .tc .hbm S2x1x16 .f32 := Memref.whole main_v1_6
abbrev hbM0_17 : Memref sig .tc .hbm S2x16x6912 .i8 := Memref.whole main_v1_7
abbrev hbM0_18 : Memref sig .tc .hbm S2x1x16 .f32 := Memref.whole main_v1_8
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 33 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 33 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32] (by decide) (by decide)]; rfl
/-- The HBM operands the body copies from and leaves unchanged, as references: unscoped, no window's array (`Pipeline.restRefs`). -/
def H0 : Finset (Ref sig .tc) := {main_v0, main_arg1, main_arg2, main_arg3, main_arg4, main_arg5, main_arg6, main_arg7, main_arg8, main_arg9}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg1) ∗ hbPt0 c hbM0_2 (V m c main_arg2) ∗ hbPt0 c hbM0_3 (V m c main_arg3) ∗ hbPt0 c hbM0_4 (V m c main_arg4) ∗ hbPt0 c hbM0_5 (V m c main_arg5) ∗ hbPt0 c hbM0_6 (V m c main_arg6) ∗ hbPt0 c hbM0_7 (V m c main_arg7) ∗ hbPt0 c hbM0_8 (V m c main_arg8) ∗ hbPt0 c hbM0_9 (V m c main_arg9)) := by
  rw [BI.bigSep_eq_bigSepL_of_eq [main_v0, main_arg1, main_arg2, main_arg3, main_arg4, main_arg5, main_arg6, main_arg7, main_arg8, main_arg9] (by decide) (by decide)]; rfl
/-- The written operands' points-tos at some contents each (`Pipeline.owned`), listed. -/
theorem ownedPts0_eq (c : Dev nD) :
    (Pipeline.owned R0 c : sProp 𝕄) = iprop((∃ f, hbPt0 c hbM0_10 f) ∗ (∃ f, hbPt0 c hbM0_11 f) ∗ (∃ f, hbPt0 c hbM0_12 f) ∗ (∃ f, hbPt0 c hbM0_13 f) ∗ (∃ f, hbPt0 c hbM0_14 f) ∗ (∃ f, hbPt0 c hbM0_15 f) ∗ (∃ f, hbPt0 c hbM0_16 f) ∗ (∃ f, hbPt0 c hbM0_17 f) ∗ (∃ f, hbPt0 c hbM0_18 f)) := by
  unfold Pipeline.owned; rw [BI.bigSep_eq_bigSepL_of_eq [main_v1_0, main_v1_1, main_v1_2, main_v1_3, main_v1_4, main_v1_5, main_v1_6, main_v1_7, main_v1_8] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v0) ∗ hbPt0 c hbM0_1 (V m c main_arg1) ∗ hbPt0 c hbM0_2 (V m c main_arg2) ∗ hbPt0 c hbM0_3 (V m c main_arg3) ∗ hbPt0 c hbM0_4 (V m c main_arg4) ∗ hbPt0 c hbM0_5 (V m c main_arg5) ∗ hbPt0 c hbM0_6 (V m c main_arg6) ∗ hbPt0 c hbM0_7 (V m c main_arg7) ∗ hbPt0 c hbM0_8 (V m c main_arg8) ∗ hbPt0 c hbM0_9 (V m c main_arg9)) ∗ iprop((∃ f, hbPt0 c hbM0_10 f) ∗ (∃ f, hbPt0 c hbM0_11 f) ∗ (∃ f, hbPt0 c hbM0_12 f) ∗ (∃ f, hbPt0 c hbM0_13 f) ∗ (∃ f, hbPt0 c hbM0_14 f) ∗ (∃ f, hbPt0 c hbM0_15 f) ∗ (∃ f, hbPt0 c hbM0_16 f) ∗ (∃ f, hbPt0 c hbM0_17 f) ∗ (∃ f, hbPt0 c hbM0_18 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, owns_whole]; try rfl

end Cert.Kernel.Hand

end
-- ==== Proof.RunKernel.lean ====
/- The symbolic run of the whole body. The two counted loops (over the layers, and the gate/up loop inside
   a layer) are run trip by trip. The run is a definition: its first components are what each result array
   holds at the end, as a function of what the operands held at the start; the last is the triple that says so.
   The values it goes through get names (`bodyRun.sl.…`), which the value proof speaks about. -/
module

public import proofs.«01_k».proof.Proof.SetupKernel

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 0 in set_option sl_exec.dmaWindow true in set_option sl_exec.dmaWindowSet true in
/-- The body's triple: on whole staging memrefs — the inputs' at their contents,
    —
    the body runs to the continuation holding the inputs' as they were, the scratch at some contents: the printed functions are their skeletons (`Gen.*_eq_skeleton`),
    which `sl_exec` runs (Lib/Exec.lean). -/
def bodyRun (c : Dev nD) (arg10 : Memref sig .tc .smem S16 .i32) (harg10 : arg10.IsWhole) (arg20 : Memref sig .tc .vmem S16x2560 .bf16) (harg20 : arg20.IsWhole) (arg21 : Memref sig .tc .vmem S640x2560 .i8) (harg21 : arg21.IsWhole) (arg22 : Memref sig .tc .vmem S1728x2560 .i8) (harg22 : arg22.IsWhole) (arg23 : Memref sig .tc .vmem S1728x2560 .i8) (harg23 : arg23.IsWhole) (arg24 : Memref sig .tc .vmem S640x6912 .i8) (harg24 : arg24.IsWhole) (arg25 : Memref sig .tc .vmem S2x7 .bf16) (harg25 : arg25.IsWhole) (arg26 : Memref sig .tc .vmem S2x2560 .f32) (harg26 : arg26.IsWhole) (arg27 : Memref sig .tc .vmem S2x2560 .f32) (harg27 : arg27.IsWhole) (arg28 : Memref sig .tc .vmem S2x6912 .f32) (harg28 : arg28.IsWhole) (arg29 : Memref sig .tc .vmem S20x16x128 .f32) (harg29 : arg29.IsWhole) (arg30 : Memref sig .tc .vmem S20x16x128 .f32) (harg30 : arg30.IsWhole) (arg31 : Memref sig .tc .vmem S54x16x128 .bf16) (harg31 : arg31.IsWhole) (arg32 : Memref sig .tc .vmem S54x16x128 .f32) (harg32 : arg32.IsWhole) (arg33 : Memref sig .tc .vmem S320x128 .f32) (harg33 : arg33.IsWhole) (arg34 : Memref sig .tc .vmem S320x128 .f32) (harg34 : arg34.IsWhole) (arg35 : Memref sig .tc .vmem S320x128 .f32) (harg35 : arg35.IsWhole) (arg36 : Memref sig .tc .vmem S864x128 .f32) (harg36 : arg36.IsWhole) (arg37 : Memref sig .tc .vmem S16x2560 .i8) (harg37 : arg37.IsWhole) (arg38 : Memref sig .tc .vmem S16x2560 .i8) (harg38 : arg38.IsWhole) (arg39 : Memref sig .tc .vmem S16x6912 .i8) (harg39 : arg39.IsWhole) (arg40 : Memref sig .tc .vmem S14x1x16 .f32) (harg40 : arg40.IsWhole)
    (x0 : Vec F S16 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9)
    (fw10 : HbBuf0 (F := F) c hbM0_10) (fw11 : HbBuf0 (F := F) c hbM0_11) (fw12 : HbBuf0 (F := F) c hbM0_12) (fw13 : HbBuf0 (F := F) c hbM0_13) (fw14 : HbBuf0 (F := F) c hbM0_14) (fw15 : HbBuf0 (F := F) c hbM0_15) (fw16 : HbBuf0 (F := F) c hbM0_16) (fw17 : HbBuf0 (F := F) c hbM0_17) (fw18 : HbBuf0 (F := F) c hbM0_18)
    (fs0 : Buf (Elt F) (View.loc (c : Thread nD τ) arg20.view)) (fs1 : Buf (Elt F) (View.loc (c : Thread nD τ) arg21.view)) (fs2 : Buf (Elt F) (View.loc (c : Thread nD τ) arg22.view)) (fs3 : Buf (Elt F) (View.loc (c : Thread nD τ) arg23.view)) (fs4 : Buf (Elt F) (View.loc (c : Thread nD τ) arg24.view)) (fs5 : Buf (Elt F) (View.loc (c : Thread nD τ) arg25.view)) (fs6 : Buf (Elt F) (View.loc (c : Thread nD τ) arg26.view)) (fs7 : Buf (Elt F) (View.loc (c : Thread nD τ) arg27.view)) (fs8 : Buf (Elt F) (View.loc (c : Thread nD τ) arg28.view)) (fs9 : Buf (Elt F) (View.loc (c : Thread nD τ) arg29.view)) (fs10 : Buf (Elt F) (View.loc (c : Thread nD τ) arg30.view)) (fs11 : Buf (Elt F) (View.loc (c : Thread nD τ) arg31.view)) (fs12 : Buf (Elt F) (View.loc (c : Thread nD τ) arg32.view)) (fs13 : Buf (Elt F) (View.loc (c : Thread nD τ) arg33.view)) (fs14 : Buf (Elt F) (View.loc (c : Thread nD τ) arg34.view)) (fs15 : Buf (Elt F) (View.loc (c : Thread nD τ) arg35.view)) (fs16 : Buf (Elt F) (View.loc (c : Thread nD τ) arg36.view)) (fs17 : Buf (Elt F) (View.loc (c : Thread nD τ) arg37.view)) (fs18 : Buf (Elt F) (View.loc (c : Thread nD τ) arg38.view)) (fs19 : Buf (Elt F) (View.loc (c : Thread nD τ) arg39.view)) (fs20 : Buf (Elt F) (View.loc (c : Thread nD τ) arg40.view)) :
      Σ' (G10 : HbBuf0 (F := F) c hbM0_10), Σ' (G11 : HbBuf0 (F := F) c hbM0_11), Σ' (G12 : HbBuf0 (F := F) c hbM0_12), Σ' (G13 : HbBuf0 (F := F) c hbM0_13), Σ' (G14 : HbBuf0 (F := F) c hbM0_14), Σ' (G15 : HbBuf0 (F := F) c hbM0_15), Σ' (G16 : HbBuf0 (F := F) c hbM0_16), Σ' (G17 : HbBuf0 (F := F) c hbM0_17), { G18 : HbBuf0 (F := F) c hbM0_18 //
      ∀ (W : Waits sig Unit) (K : PUnit → sProp 𝕄),
        iprop(owns (c : Thread nD τ) arg10 fullShare x0 ∗ (View.loc (c : Thread nD τ) arg20.view ↦[arg20.view.set]{fullShare} fs0) ∗ (View.loc (c : Thread nD τ) arg21.view ↦[arg21.view.set]{fullShare} fs1) ∗ (View.loc (c : Thread nD τ) arg22.view ↦[arg22.view.set]{fullShare} fs2) ∗ (View.loc (c : Thread nD τ) arg23.view ↦[arg23.view.set]{fullShare} fs3) ∗ (View.loc (c : Thread nD τ) arg24.view ↦[arg24.view.set]{fullShare} fs4) ∗ (View.loc (c : Thread nD τ) arg25.view ↦[arg25.view.set]{fullShare} fs5) ∗ (View.loc (c : Thread nD τ) arg26.view ↦[arg26.view.set]{fullShare} fs6) ∗ (View.loc (c : Thread nD τ) arg27.view ↦[arg27.view.set]{fullShare} fs7) ∗ (View.loc (c : Thread nD τ) arg28.view ↦[arg28.view.set]{fullShare} fs8) ∗ (View.loc (c : Thread nD τ) arg29.view ↦[arg29.view.set]{fullShare} fs9) ∗ (View.loc (c : Thread nD τ) arg30.view ↦[arg30.view.set]{fullShare} fs10) ∗ (View.loc (c : Thread nD τ) arg31.view ↦[arg31.view.set]{fullShare} fs11) ∗ (View.loc (c : Thread nD τ) arg32.view ↦[arg32.view.set]{fullShare} fs12) ∗ (View.loc (c : Thread nD τ) arg33.view ↦[arg33.view.set]{fullShare} fs13) ∗ (View.loc (c : Thread nD τ) arg34.view ↦[arg34.view.set]{fullShare} fs14) ∗ (View.loc (c : Thread nD τ) arg35.view ↦[arg35.view.set]{fullShare} fs15) ∗ (View.loc (c : Thread nD τ) arg36.view ↦[arg36.view.set]{fullShare} fs16) ∗ (View.loc (c : Thread nD τ) arg37.view ↦[arg37.view.set]{fullShare} fs17) ∗ (View.loc (c : Thread nD τ) arg38.view ↦[arg38.view.set]{fullShare} fs18) ∗ (View.loc (c : Thread nD τ) arg39.view ↦[arg39.view.set]{fullShare} fs19) ∗ (View.loc (c : Thread nD τ) arg40.view ↦[arg40.view.set]{fullShare} fs20) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fw10 ∗ hbPt0 c hbM0_11 fw11 ∗ hbPt0 c hbM0_12 fw12 ∗ hbPt0 c hbM0_13 fw13 ∗ hbPt0 c hbM0_14 fw14 ∗ hbPt0 c hbM0_15 fw15 ∗ hbPt0 c hbM0_16 fw16 ∗ hbPt0 c hbM0_17 fw17 ∗ hbPt0 c hbM0_18 fw18 ∗ owes (c : Thread nD τ) 0 W
            ∗ (iprop(owns (c : Thread nD τ) arg10 fullShare x0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 G10 ∗ hbPt0 c hbM0_11 G11 ∗ hbPt0 c hbM0_12 G12 ∗ hbPt0 c hbM0_13 G13 ∗ hbPt0 c hbM0_14 G14 ∗ hbPt0 c hbM0_15 G15 ∗ hbPt0 c hbM0_16 G16 ∗ hbPt0 c hbM0_17 G17 ∗ hbPt0 c hbM0_18 G18 ∗ (∃ W', owes (c : Thread nD τ) 0 W')) -∗ K ⟨⟩))
          ⊢ wp frame (wpE (defs₀ (F := F)) Variants.none c none) Set.univ (cc0_bitnet_layers (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) arg10 harg10 (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 cc0_scratch21 cc0_scratch22 cc0_scratch23) K } := by
    refine ⟨?_, ?_, ?_, ?_, ?_, ?_, ?_, ?_, ?_, ?run⟩
    case run =>
    intro W K
    simp only [cc0_bitnet_layers_eq_skeleton]; unfold cc0_bitnet_layers_skel
    unfold owns
    iintro ⟨⟨%f0, %hf0, H0⟩, HS0, HS1, HS2, HS3, HS4, HS5, HS6, HS7, HS8, HS9, HS10, HS11, HS12, HS13, HS14, HS15, HS16, HS17, HS18, HS19, HS20, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2, Hh3, Hh4, Hh5, Hh6, Hh7, Hh8, Hh9, Hh10, Hh11, Hh12, Hh13, Hh14, Hh15, Hh16, Hh17, Hh18, HW, Hk⟩
    obtain rfl := harg10.eq_unread hf0
    set_option sl_exec.unrollTrips 4 in sl_exec_parts
    sl_step
    iapply Hk
    isplitl [H0]
    · iexists _; isplitr; · ipureintro; exact harg10.read_unread _
      iexact H0
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    isplitl [HS20]
    · iexists _, _; isplitr; swap; · iexact HS20
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    iexists _; iexact HW

end Cert.Kernel.Hand

end
-- ==== Proof.LaunchKernel.lean ====
/- The launch: the triple of the body (`bodyRun`) discharges what the pipeline asks of the body at its one grid
   point, and the library turns it into a statement about the whole program: it terminates without a fault, leaves
   its arguments as they were and every semaphore at zero. The text is that of the library's frame for a kernel with
   these operands; what the results hold is not named here. -/
module

public import proofs.«01_k».proof.Proof.RunKernel
public import Idealize.ShloMosaic.Lib.Pipeline.FrameValue
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ _ := Pipeline.ΦDR osem0 spec0 H0 R0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 2000000 in
/-- The body at any point: the inputs' memrefs hold their blocks (`before0_W`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    after0_0]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32⟩, ⟨Hh0, Hh1, Hh2, Hh3, Hh4, Hh5, Hh6, Hh7, Hh8, Hh9⟩, ⟨⟨%fw10, Hh10⟩, ⟨%fw11, Hh11⟩, ⟨%fw12, Hh12⟩, ⟨%fw13, Hh13⟩, ⟨%fw14, Hh14⟩, ⟨%fw15, Hh15⟩, ⟨%fw16, Hh16⟩, ⟨%fw17, Hh17⟩, ⟨%fw18, Hh18⟩⟩⟩, ⟨%W, -, HW⟩, ⟨%d0, H0⟩⟩
  iapply ((bodyRun c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) (iblk m c 0 t) (V m c main_v0) (V m c main_arg1) (V m c main_arg2) (V m c main_arg3) (V m c main_arg4) (V m c main_arg5) (V m c main_arg6) (V m c main_arg7) (V m c main_arg8) (V m c main_arg9) fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.2.2.2.2.2 W _)
  isplitl [H0]; · unfold owns; iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [HW]; · iexact HW
  unfold owns
  iintro ⟨H0, HS0, HS1, HS2, HS3, HS4, HS5, HS6, HS7, HS8, HS9, HS10, HS11, HS12, HS13, HS14, HS15, HS16, HS17, HS18, HS19, HS20, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2, Hh3, Hh4, Hh5, Hh6, Hh7, Hh8, Hh9, Hh10, Hh11, Hh12, Hh13, Hh14, Hh15, Hh16, Hh17, Hh18, ⟨%W', HW'⟩⟩
  isplitl [HS0 HS1 HS2 HS3 HS4 HS5 HS6 HS7 HS8 HS9 HS10 HS11 HS12 HS13 HS14 HS15 HS16 HS17 HS18 HS19 HS20 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh0 Hh1 Hh2 Hh3 Hh4 Hh5 Hh6 Hh7 Hh8 Hh9 Hh10 Hh11 Hh12 Hh13 Hh14 Hh15 Hh16 Hh17 Hh18]
  · isplitl [HS0 HS1 HS2 HS3 HS4 HS5 HS6 HS7 HS8 HS9 HS10 HS11 HS12 HS13 HS14 HS15 HS16 HS17 HS18 HS19 HS20]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      iexact HS20
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      iexact Hq32
    isplitl [Hh0 Hh1 Hh2 Hh3 Hh4 Hh5 Hh6 Hh7 Hh8 Hh9]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact Hh9
    isplitl [Hh10]; · iexists _; iexact Hh10
    isplitl [Hh11]; · iexists _; iexact Hh11
    isplitl [Hh12]; · iexists _; iexact Hh12
    isplitl [Hh13]; · iexists _; iexact Hh13
    isplitl [Hh14]; · iexists _; iexact Hh14
    isplitl [Hh15]; · iexists _; iexact Hh15
    isplitl [Hh16]; · iexists _; iexact Hh16
    isplitl [Hh17]; · iexists _; iexact Hh17
    iexists _; iexact Hh18
  isplitl [HW']
  · iexists W'; isplitr; · ipureintro; exact fun _ _ => Or.inl trivial
    iexact HW'
  iexact H0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dmaR`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostR cfgs (dats m) 0 R0 (V m)) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main : θ_run defs (onTc (τ := τ) (main (F := F))) (s₀ m ρ) (Pipeline.FramePostR cfgs (dats m) 0 R0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_Kernel`'s statement (Defs.lean) at any `F` — Proof.lean cites it at `Bits`:
    the claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Hand

end
-- ==== Proof.Spec.lean ====
module

public import Idealize.ShloMosaic.PureOps.Ideal.Laws
public import Idealize.ShloMosaic.Lib.Pointwise

/-!
# What one row of a layer computes, on extended reals

Columns are natural numbers. A layer's rows do not meet: each of the sixteen rows goes through the same
functions. `Layer.mid`, `Layer.hid` and `Layer.out` are the residual after the output projection, the gated
hidden vector and the residual after the down projection; `quantScale` and `quantCode` are the 8-bit
quantisation of a normalised row; `lin` is a row of codes against one output column of two-bit weights.
-/

@[expose] public section

noncomputable section

namespace Cert.Spec

open Idealize.ShloMosaic Finset

/-- The value of a 32-bit word as a float. -/
abbrev word (b : BitVec 32) : EReal := Ideal.ofBits .f32 b

/-- The root mean square of the first `n` entries of a row, `w` the width as a word. -/
def den (w : BitVec 32) (n : ℕ) (f : ℕ → EReal) : EReal :=
  Ideal.sqrt (Ideal.div (∑ i ∈ range n, f i * f i) (word w) + word 0x3727C5AC#32)

/-- A row normalised by its root mean square, times the gains. -/
def normed (w : BitVec 32) (n : ℕ) (g f : ℕ → EReal) (i : ℕ) : EReal :=
  Ideal.div (f i) (den w n f) * g i

/-- The greatest magnitude among the first `n` entries. -/
def peak (n : ℕ) (h : ℕ → EReal) : EReal := (range n).sup fun i => max (h i) (-h i)

/-- The scale that belongs to a greatest magnitude: one where that is zero, else a 127th of it. -/
def scaleOf (a : EReal) : EReal :=
  Scalar.select (Ideal.cmp .oeq a (word 0x00000000#32)) (word 0x3F800000#32) (Ideal.div a (word 0x42FE0000#32))

/-- A value over its scale, rounded and clipped. -/
def codeOf (s x : EReal) : EReal :=
  min (word 0x42FE0000#32) (max (word 0xC2FE0000#32) (Ideal.liftRound Ideal.roundHalfEven (Ideal.div x s)))

/-- The scale of a normalised row. -/
def quantScale (w : BitVec 32) (n : ℕ) (g f : ℕ → EReal) : EReal := scaleOf (peak n (normed w n g f))

/-- The codes of a normalised row. -/
def quantCode (w : BitVec 32) (n : ℕ) (g f : ℕ → EReal) (i : ℕ) : EReal :=
  codeOf (quantScale w n g f) (normed w n g f i)

/-- Field `i` of a packed byte, from minus one to two. -/
def fieldOf (w : BitVec 8) (i : ℕ) : ℤ := ((w.toNat / 4 ^ i % 4 : ℕ) : ℤ) - 1

/-- A row of codes against field `i` of a row of packed weights. -/
def lin (n : ℕ) (a : ℕ → EReal) (W : ℕ → BitVec 8) (i : ℕ) : EReal :=
  ∑ k ∈ range n, a k * (((fieldOf (W k) i : ℤ) : ℝ) : EReal)

/-- One output column of a packed linear map with `rows` rows of packed weights: column `o` is field `o / rows` of
    row `o % rows`. -/
def linear (n rows : ℕ) (a : ℕ → EReal) (s ws : EReal) (W : ℕ → ℕ → BitVec 8) (o : ℕ) : EReal :=
  lin n a (W (o % rows)) (o / rows) * (s * ws)

/-- What a layer holds: gains, packed weights and the weights' scales. -/
structure Layer where
  (ga gp gf : ℕ → EReal)
  (wo wg wu wd : ℕ → ℕ → BitVec 8)
  (so sg su sd : EReal)

namespace Layer
variable (L : Layer)

/-- The attention output's scale and codes. -/
def s2 (a : ℕ → EReal) : EReal := quantScale 0x45200000#32 2560 L.ga a
def c2 (a : ℕ → EReal) : ℕ → EReal := quantCode 0x45200000#32 2560 L.ga a
/-- The residual after the output projection, from the residual `r` and the attention output `a`. -/
def mid (r a : ℕ → EReal) (o : ℕ) : EReal := r o + linear 2560 640 (L.c2 a) (L.s2 a) L.so L.wo o
/-- That residual's scale and codes. -/
def s3 (m : ℕ → EReal) : EReal := quantScale 0x45200000#32 2560 L.gp m
def c3 (m : ℕ → EReal) : ℕ → EReal := quantCode 0x45200000#32 2560 L.gp m
/-- The gated hidden vector from the residual `m`. -/
def gate (m : ℕ → EReal) (o : ℕ) : EReal := max (linear 2560 1728 (L.c3 m) (L.s3 m) L.sg L.wg o) (word 0x00000000#32)
def hid (m : ℕ → EReal) (o : ℕ) : EReal :=
  L.gate m o * L.gate m o * linear 2560 1728 (L.c3 m) (L.s3 m) L.su L.wu o
/-- The hidden vector's scale and codes. -/
def s4 (h : ℕ → EReal) : EReal := quantScale 0x45D80000#32 6912 L.gf h
def c4 (h : ℕ → EReal) : ℕ → EReal := quantCode 0x45D80000#32 6912 L.gf h
/-- The residual after the down projection. -/
def out (m h : ℕ → EReal) (o : ℕ) : EReal := m o + linear 6912 640 (L.c4 h) (L.s4 h) L.sd L.wd o
end Layer

/-! ## Each function sees only the columns it needs -/

theorem den_congr {w n} {f f' : ℕ → EReal} (h : ∀ i < n, f i = f' i) : den w n f = den w n f' := by
  unfold den; rw [sum_congr rfl fun i hi => by rw [h i (mem_range.mp hi)]]

theorem normed_congr {w n} {g g' f f' : ℕ → EReal} (hg : ∀ i < n, g i = g' i) (h : ∀ i < n, f i = f' i) {i} (hi : i < n) :
    normed w n g f i = normed w n g' f' i := by
  unfold normed; rw [den_congr h, h i hi, hg i hi]

theorem quantScale_congr {w n} {g g' f f' : ℕ → EReal} (hg : ∀ i < n, g i = g' i) (h : ∀ i < n, f i = f' i) :
    quantScale w n g f = quantScale w n g' f' := by
  unfold quantScale peak
  congr 1
  exact sup_congr rfl fun i hi => by rw [normed_congr hg h (mem_range.mp hi)]

theorem quantCode_congr {w n} {g g' f f' : ℕ → EReal} (hg : ∀ i < n, g i = g' i) (h : ∀ i < n, f i = f' i) {i} (hi : i < n) :
    quantCode w n g f i = quantCode w n g' f' i := by
  unfold quantCode; rw [quantScale_congr hg h, normed_congr hg h hi]

theorem lin_congr {n} {a a' : ℕ → EReal} {W W' : ℕ → BitVec 8} (ha : ∀ k < n, a k = a' k) (hW : ∀ k < n, W k = W' k) (i : ℕ) :
    lin n a W i = lin n a' W' i := by
  unfold lin
  exact sum_congr rfl fun k hk => by rw [ha k (mem_range.mp hk), hW k (mem_range.mp hk)]

/-! ## The constants -/

theorem word_bot : word 0xFF800000#32 = ⊥ := by
  simp [word, Ideal.ofBits, Ideal.ieee]

theorem word_zero : word 0x00000000#32 = 0 := by simp [word, Ideal.ofBits, Ideal.ieee]

theorem word_127 : word 0x42FE0000#32 = (((127 : ℤ) : ℝ) : EReal) := by
  simp [word, Ideal.ofBits, Ideal.ieee, -EReal.coe_mul]; norm_num

theorem word_neg127 : word 0xC2FE0000#32 = (((-127 : ℤ) : ℝ) : EReal) := by
  simp [word, Ideal.ofBits, Ideal.ieee, -EReal.coe_mul, -EReal.coe_neg]; norm_num

/-- The words 1, 1/4, 1/16 and 1/64. -/
def down : ℕ → BitVec 32
  | 0 => 0x3F800000#32
  | 1 => 0x3E800000#32
  | 2 => 0x3D800000#32
  | _ => 0x3C800000#32

theorem word_down (i : ℕ) (hi : i < 4) : word (down i) = ((((4 : ℝ) ^ i)⁻¹ : ℝ) : EReal) := by
  interval_cases i <;> simp [down, word, Ideal.ofBits, Ideal.ieee, -EReal.coe_mul] <;> norm_num

/-! ## Codes are whole numbers -/

theorem codeOf_int (s x : EReal) : ∃ z : ℤ, -127 ≤ z ∧ z ≤ 127 ∧ codeOf s x = ((z : ℝ) : EReal) := by
  unfold codeOf
  rw [word_127, word_neg127]
  induction Ideal.div x s with
  | bot => exact ⟨-127, by norm_num, by norm_num, by
      show min _ (max _ (⊥ : EReal)) = _
      rw [max_eq_left bot_le]; exact min_eq_right (by exact_mod_cast (by norm_num : (-127 : ℤ) ≤ 127))⟩
  | top => exact ⟨127, by norm_num, by norm_num, by
      show min _ (max _ (⊤ : EReal)) = _
      rw [max_eq_right le_top]; exact min_eq_left le_top⟩
  | coe r =>
    refine ⟨min 127 (max (-127) (Ideal.roundHalfEven r)), by omega, by omega, ?_⟩
    show min _ (max _ (((Ideal.roundHalfEven r : ℤ) : ℝ) : EReal)) = _
    rw [Int.cast_min, Int.cast_max, EReal.coe_strictMono.monotone.map_min, EReal.coe_strictMono.monotone.map_max]

/-- A whole number from -127 to 127 comes back from its 8-bit word. -/
theorem fptosi_toInt (z : ℤ) (h₁ : -127 ≤ z) (h₂ : z ≤ 127) : (Ideal.fptosi 8 ((z : ℝ) : EReal)).toInt = z := by
  have h : Ideal.toIntClamped (-(2 ^ (8 - 1) : ℕ)) ((2 ^ (8 - 1) : ℕ) - 1) ((z : ℝ) : EReal) = z := by
    show max _ (min _ (if (0 : ℝ) ≤ (z : ℝ) then ⌊(z : ℝ)⌋ else ⌈(z : ℝ)⌉)) = z
    rw [Int.floor_intCast, Int.ceil_intCast, ite_self]
    norm_num; omega
  unfold Ideal.fptosi
  rw [h, BitVec.toInt_ofInt]
  have := Int.bmod_eq_of_le (n := z) (m := 2 ^ 8) (by norm_num; omega) (by norm_num; omega)
  exact_mod_cast this

theorem code_word (s x : EReal) : (((Ideal.fptosi 8 (codeOf s x)).toInt : ℝ) : EReal) = codeOf s x := by
  obtain ⟨z, h₁, h₂, h⟩ := codeOf_int s x
  rw [h, fptosi_toInt z h₁ h₂]

/-! ## The packed product -/

/-- The two bits of field `i`, in place. -/
def mask : ℕ → BitVec 8
  | 0 => 3#8
  | 1 => 12#8
  | 2 => 48#8
  | _ => 192#8

theorem mask_and (w : BitVec 8) (i : ℕ) (hi : i < 4) : ((w &&& mask i).toNat : ℤ) = 4 ^ i * (fieldOf w i + 1) := by
  have h : ∀ n : Fin 256, ∀ i : Fin 4, ((BitVec.ofFin (w := 8) n &&& mask i).toNat : ℤ) = 4 ^ i.val * (fieldOf (BitVec.ofFin (w := 8) n) i + 1) := by
    decide +kernel
  exact h w.toFin ⟨i, hi⟩

/-- A byte's field as the reference takes it: shifted down, masked, less one. -/
theorem shifted_field (w : BitVec 8) (i : ℕ) (hi : i < 4) :
    ((((w.setWidth 32).sshiftRight (2 * i)) &&& 3#32) - 1#32).toInt = fieldOf w i := by
  have h : ∀ n : Fin 256, ∀ i : Fin 4,
      ((((BitVec.ofFin (w := 8) n).setWidth 32).sshiftRight (2 * i.val) &&& 3#32) - 1#32).toInt = fieldOf (BitVec.ofFin (w := 8) n) i := by
    decide +kernel
  exact h w.toFin ⟨i, hi⟩

theorem coe_sum {ι : Type*} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

/-- A row of whole numbers against the fields in place, brought down, less the row's sum, is the row against the
    fields less one. -/
theorem lin_packed (n : ℕ) (a : ℕ → EReal) (W : ℕ → BitVec 8) (i : ℕ) (hi : i < 4)
    (ha : ∀ k < n, ∃ z : ℤ, a k = ((z : ℝ) : EReal)) :
    (∑ k ∈ range n, a k * ((((W k &&& mask i).toNat : ℕ) : ℝ) : EReal)) * word (down i) - ∑ k ∈ range n, a k = lin n a W i := by
  classical
  choose! z hz using ha
  have h₁ : ∑ k ∈ range n, a k * ((((W k &&& mask i).toNat : ℕ) : ℝ) : EReal)
      = ((∑ k ∈ range n, (z k : ℝ) * ((W k &&& mask i).toNat : ℝ) : ℝ) : EReal) := by
    rw [coe_sum]; exact sum_congr rfl fun k hk => by rw [hz k (mem_range.mp hk), ← EReal.coe_mul]
  have h₂ : ∑ k ∈ range n, a k = ((∑ k ∈ range n, (z k : ℝ) : ℝ) : EReal) := by
    rw [coe_sum]; exact sum_congr rfl fun k hk => hz k (mem_range.mp hk)
  have h₃ : lin n a W i = ((∑ k ∈ range n, (z k : ℝ) * (fieldOf (W k) i : ℝ) : ℝ) : EReal) := by
    unfold lin
    rw [coe_sum]; exact sum_congr rfl fun k hk => by rw [hz k (mem_range.mp hk), ← EReal.coe_mul]
  rw [h₁, h₂, h₃, word_down i hi, ← EReal.coe_mul, ← EReal.coe_sub]
  congr 1
  rw [sum_mul, ← sum_sub_distrib]
  refine sum_congr rfl fun k _ => ?_
  have h : (((W k &&& mask i).toNat : ℕ) : ℝ) = (4 : ℝ) ^ i * ((fieldOf (W k) i : ℝ) + 1) := by
    exact_mod_cast mask_and (W k) i hi
  rw [h]
  have : (4 : ℝ) ^ i ≠ 0 := by positivity
  field_simp
  ring

/-! ## Blocks of a row -/

theorem sum_blocks (F : ℕ → EReal) (q m : ℕ) :
    ∑ l : Fin q, ∑ j ∈ range m, F (q * j + l.val) = ∑ i ∈ range (q * m), F i := by
  rw [sum_comm]
  induction m with
  | zero => simp
  | succ m ih => rw [sum_range_succ, ih, Nat.mul_succ, sum_range_add, Fin.sum_univ_eq_sum_range (fun x => F (q * m + x)) q]

theorem sup_blocks (F : ℕ → EReal) (q m : ℕ) (hq : 0 < q) :
    (univ.sup fun l : Fin q => (range m).sup fun j => F (q * j + l.val)) = (range (q * m)).sup F := by
  apply le_antisymm
  · refine Finset.sup_le fun l _ => Finset.sup_le fun j hj => le_sup (f := F) (mem_range.mpr ?_)
    have := mem_range.mp hj
    calc q * j + l.val < q * j + q := by omega
      _ = q * (j + 1) := by ring
      _ ≤ q * m := Nat.mul_le_mul_left q this
  · refine Finset.sup_le fun i hi => ?_
    have hi := mem_range.mp hi
    have h : i = q * (i / q) + (⟨i % q, Nat.mod_lt _ hq⟩ : Fin q).val := (Nat.div_add_mod i q).symm
    calc F i = F (q * (i / q) + (⟨i % q, Nat.mod_lt _ hq⟩ : Fin q).val) := by rw [← h]
      _ ≤ (range m).sup fun j => F (q * j + (⟨i % q, Nat.mod_lt _ hq⟩ : Fin q).val) :=
        le_sup (f := fun j => F (q * j + (⟨i % q, Nat.mod_lt _ hq⟩ : Fin q).val))
          (mem_range.mpr (Nat.div_lt_of_lt_mul hi))
      _ ≤ _ := le_sup (f := fun l : Fin q => (range m).sup fun j => F (q * j + l.val)) (mem_univ _)

end Cert.Spec
-- ==== Proof.Reading.lean ====
module

public import proofs.«01_k».proof.Proof.Spec
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.Pipeline.Value

/-!
# Reading vectors of any width at an index

The operations both programs are made of, read at a row and a column on extended reals: sums and maxima
along a row, a column or a row spread over a matrix, matrices cut into blocks.
-/

@[expose] public section

noncomputable section

namespace Cert.Reading

open Idealize.ShloMosaic hiding ix1 ix2 ix3
open Idealize.ShloMosaic.ValueIdx Finset

/-- A finite list read at natural numbers, `d` beyond its end. -/
def ext {α : Type} {n : ℕ} (d : α) (v : Fin n → α) (k : ℕ) : α := if h : k < n then v ⟨k, h⟩ else d

theorem ext_val {α : Type} {n : ℕ} (d : α) (v : Fin n → α) (i : Fin n) : ext d v i.val = v i := by
  unfold ext; rw [dif_pos i.isLt]

theorem ext_lt {α : Type} {n : ℕ} (d : α) (v : Fin n → α) (k : ℕ) (h : k < n) : ext d v k = v ⟨k, h⟩ := dif_pos h

theorem fold_max_bot {n : ℕ} (f : Fin n → EReal) : (univ : Finset (Fin n)).fold max ⊥ f = univ.sup f := rfl

theorem sup_range (n : ℕ) (f : ℕ → EReal) : (univ : Finset (Fin n)).sup (fun i => f i.val) = (range n).sup f := by
  apply le_antisymm
  · exact Finset.sup_le fun i _ => le_sup (f := f) (mem_range.mpr i.isLt)
  · exact Finset.sup_le fun i hi => le_sup (f := fun i : Fin n => f i.val) (mem_univ ⟨i, mem_range.mp hi⟩)

variable {m n : ℕ}

theorem lift_eq (h : (⟨2, ![m, n]⟩ : Shape).Reduces [1] ⟨1, ![m]⟩) (b : Fin m) (k : Fin n) :
    h.lift (ix1 b) k = ix2 b k := by
  funext d
  match d with
  | ⟨0, _⟩ => exact Fin.ext rfl
  | ⟨1, _⟩ => exact Fin.ext rfl

/-- A row's sum. -/
theorem rowSum (v : FVec Ideal ⟨2, ![m, n]⟩ .f32) (h : (⟨2, ![m, n]⟩ : Shape).Reduces [1] ⟨1, ![m]⟩)
    (hφ : FKind.Formats FTy.f32) (hacc : (0x00000000#32 : BitVec 32) = FKind.add.neutral .f32 hφ) (b : Fin m) (f : ℕ → EReal)
    (hf : ∀ i : Fin n, v (ix2 b i) = f i.val) :
    multiReduction .add [1] ⟨1, ![m]⟩ v 0x00000000#32 h hφ hacc (ix1 b) = ∑ i ∈ range n, f i := by
  rw [Ideal.multiReduction_add_single, Finset.sum_range]
  refine sum_congr rfl fun k _ => ?_
  rw [lift_eq h b k]; exact hf k

/-- A row's greatest entry. -/
theorem rowMax (v : FVec Ideal ⟨2, ![m, n]⟩ .f32) (h : (⟨2, ![m, n]⟩ : Shape).Reduces [1] ⟨1, ![m]⟩)
    (hφ : FKind.Formats FTy.f32) (hacc : (0xFF800000#32 : BitVec 32) = FKind.maximumf.neutral .f32 hφ) (b : Fin m) (f : ℕ → EReal)
    (hf : ∀ i : Fin n, v (ix2 b i) = f i.val) :
    multiReduction .maximumf [1] ⟨1, ![m]⟩ v 0xFF800000#32 h hφ hacc (ix1 b) = (range n).sup f := by
  rw [Ideal.multiReduction_maximumf_single]
  have h₁ : (FloatOps.ofBits (F := Ideal) .f32 0xFF800000#32 : EReal) = ⊥ := Spec.word_bot
  have h₂ : (v ∘ h.lift (ix1 b)) = fun i : Fin n => f i.val := funext fun k => by
    show v (h.lift (ix1 b) k) = _
    rw [lift_eq h b k]; exact hf k
  rw [← sup_range]
  calc _ = (univ : Finset (Fin n)).fold max (⊥ : EReal) (v ∘ h.lift (ix1 b)) := by rw [← h₁]; rfl
    _ = _ := by rw [h₂]; exact fold_max_bot fun i : Fin n => f i.val

/-- A column spread over a matrix. -/
theorem spreadCol {α : Type} (x : (⟨2, ![m, 1]⟩ : Shape).Idx → α) (h : (⟨2, ![m, 1]⟩ : Shape).Broadcasts ⟨2, ![m, n]⟩) (b : Fin m)
    (i : Fin n) : broadcastTo ⟨2, ![m, n]⟩ x h (ix2 b i) = x (ix2 b 0) := by
  refine broadcastTo_apply x h (ix2 b i) (ix2 b (0 : Fin 1)) fun a => ?_
  match a with
  | ⟨0, _⟩ =>
    show b.val = if m = 1 then 0 else b.val
    split
    · have := b.isLt; omega
    · rfl
  | ⟨1, _⟩ => rfl

/-- A single entry spread over a matrix. -/
theorem spreadOne {α : Type} (x : (⟨2, ![1, 1]⟩ : Shape).Idx → α) (h : (⟨2, ![1, 1]⟩ : Shape).Broadcasts ⟨2, ![m, n]⟩) (b : Fin m)
    (i : Fin n) : broadcastTo ⟨2, ![m, n]⟩ x h (ix2 b i) = x (ix2 0 0) := by
  refine broadcastTo_apply x h (ix2 b i) (ix2 (0 : Fin 1) (0 : Fin 1)) fun a => ?_
  match a with
  | ⟨0, _⟩ => rfl
  | ⟨1, _⟩ => rfl

/-- A row spread over a matrix. -/
theorem spreadRow {α : Type} (x : (⟨2, ![1, n]⟩ : Shape).Idx → α) (h : (⟨2, ![1, n]⟩ : Shape).Broadcasts ⟨2, ![m, n]⟩) (b : Fin m)
    (i : Fin n) : broadcastTo ⟨2, ![m, n]⟩ x h (ix2 b i) = x (ix2 0 i) := broadcastTo_1b_ab_apply x h b i

/-- A vector as a column. -/
theorem asCol {α : Type} (x : (⟨1, ![m]⟩ : Shape).Idx → α) (h : (⟨1, ![m]⟩ : Shape).ShapeCasts ⟨2, ![m, 1]⟩) (b : Fin m) (u : Fin 1) :
    shapeCast ⟨2, ![m, 1]⟩ x h (ix2 b u) = x (ix1 b) := shapeCast_a_a1_apply x h b u

/-- A matrix with `m * q` rows of `l` entries as one with `m` rows. -/
theorem joinRows {α : Type} {r q l : ℕ} (x : (⟨2, ![r, l]⟩ : Shape).Idx → α)
    (h : (⟨2, ![r, l]⟩ : Shape).ShapeCasts ⟨2, ![m, n]⟩) (hn : n = q * l) (b : Fin m) (i : Fin n) (k : Fin r) (p : Fin l)
    (hk : k.val = q * b.val + i.val / l) (hp : p.val = i.val % l) :
    shapeCast ⟨2, ![m, n]⟩ x h (ix2 b i) = x (ix2 k p) :=
  shapeCast_apply x h _ _ (by
    rw [Shape.rowMajor_val_two, Shape.rowMajor_val_two]
    show k.val * l + p.val = b.val * n + i.val
    have e := Nat.div_add_mod' i.val l
    rw [hk, hp, Nat.add_mul, Nat.add_assoc, e]; generalize i.val = iv; subst hn; ring)

/-- A matrix with `m` rows as one with `m * q` rows of `l` entries. -/
theorem cutRows {α : Type} {r q l : ℕ} (x : (⟨2, ![m, n]⟩ : Shape).Idx → α)
    (h : (⟨2, ![m, n]⟩ : Shape).ShapeCasts ⟨2, ![r, l]⟩) (hn : n = q * l) (b : Fin m) (i : Fin n) (k : Fin r) (p : Fin l)
    (hk : k.val = q * b.val + i.val / l) (hp : p.val = i.val % l) :
    shapeCast ⟨2, ![r, l]⟩ x h (ix2 k p) = x (ix2 b i) :=
  shapeCast_apply x h _ _ (by
    rw [Shape.rowMajor_val_two, Shape.rowMajor_val_two]
    show b.val * n + i.val = k.val * l + p.val
    have e := Nat.div_add_mod' i.val l
    rw [hk, hp, Nat.add_mul, Nat.add_assoc, e]; generalize i.val = iv; subst hn; ring)

end Cert.Reading
-- ==== Proof.RefTerms.lean ====
module

public import proofs.«01_k».proof.Proof.Reading

/-!
# The reference's quantiser and packed linear map, for any width

The terms the reference's body is built of, and what they are at an index.
-/

@[expose] public section

noncomputable section

namespace Cert.RefTerms

open Idealize.ShloMosaic hiding ix1 ix2 ix3
open Idealize.ShloMosaic.ValueIdx Finset Cert.Reading

section
variable {F : FTy → Type} [FloatOps F]

/-- What the shapes of a row of width `n` have to satisfy. -/
structure Wide (n : ℕ) : Prop where
  sum : (⟨2, ![16, n]⟩ : Shape).Reduces [1] ⟨1, ![16]⟩
  col : (⟨1, ![16]⟩ : Shape).ShapeCasts ⟨2, ![16, 1]⟩
  spread : (⟨2, ![16, 1]⟩ : Shape).Broadcasts ⟨2, ![16, n]⟩
  row : (⟨2, ![1, n]⟩ : Shape).Broadcasts ⟨2, ![16, n]⟩

variable {n : ℕ}

/-- Rows over their root mean square, times the gains. -/
def norm (H : Wide n) (w : BitVec 32) (v : FVec F ⟨2, ![16, n]⟩ .f32) (g : FVec F ⟨2, ![1, n]⟩ .f32) : FVec F ⟨2, ![16, n]⟩ .f32 :=
  mulf (divf v (broadcastTo ⟨2, ![16, n]⟩ (sqrt (addf (divf (shapeCast ⟨2, ![16, 1]⟩
      (multiReduction .add [1] ⟨1, ![16]⟩ (mulf v v) 0x00000000#32 H.sum (.inl rfl) rfl) H.col)
      (broadcast ⟨2, ![16, 1]⟩ (Scalar.ofBits .f32 w))) (broadcast ⟨2, ![16, 1]⟩ (Scalar.ofBits .f32 0x3727C5AC#32)))) H.spread))
    (broadcastTo ⟨2, ![16, n]⟩ g H.row)

/-- The scale of each row. -/
def scale (H : Wide n) (v : FVec F ⟨2, ![16, n]⟩ .f32) : FVec F ⟨1, ![16]⟩ .f32 :=
  select (cmpf .oeq (multiReduction .maximumf [1] ⟨1, ![16]⟩ (absf v) 0xFF800000#32 H.sum (.inl rfl) rfl)
      (broadcast ⟨1, ![16]⟩ (Scalar.ofBits .f32 0x00000000#32)))
    (broadcast ⟨1, ![16]⟩ (Scalar.ofBits .f32 0x3F800000#32))
    (divf (multiReduction .maximumf [1] ⟨1, ![16]⟩ (absf v) 0xFF800000#32 H.sum (.inl rfl) rfl)
      (broadcast ⟨1, ![16]⟩ (Scalar.ofBits .f32 0x42FE0000#32)))

/-- The codes of each row. -/
def codes (H : Wide n) (v : FVec F ⟨2, ![16, n]⟩ .f32) : IVec ⟨2, ![16, n]⟩ 8 :=
  fptosi 8 (minimumf (broadcast ⟨2, ![16, n]⟩ (Scalar.ofBits .f32 0x42FE0000#32))
    (maximumf (broadcast ⟨2, ![16, n]⟩ (Scalar.ofBits .f32 0xC2FE0000#32))
      (roundeven (divf v (broadcastTo ⟨2, ![16, n]⟩ (shapeCast ⟨2, ![16, 1]⟩ (scale H v) H.col) H.spread)))))

/-- One field of the packed weights. -/
def field {r : ℕ} (hw : 8 < 32) (W : IVec ⟨2, ![r, n]⟩ 8) (z : BitVec 32) : FVec F ⟨2, ![r, n]⟩ .bf16 :=
  sitofp .bf16 (subi (andi (shrsi (extui 32 W hw) (broadcast ⟨2, ![r, n]⟩ z)) (broadcast ⟨2, ![r, n]⟩ 3#32))
    (broadcast ⟨2, ![r, n]⟩ 1#32))

/-- The codes against one field. -/
def part {r : ℕ} (hw : 8 < 32) (C : IVec ⟨2, ![16, n]⟩ 8) (W : IVec ⟨2, ![r, n]⟩ 8) (z : BitVec 32) : FVec F ⟨2, ![16, r]⟩ .f32 :=
  matmul (DotDims.transposedRhs 16 n r) none (sitofp .bf16 C) (field hw W z) (constant ⟨2, ![16, r]⟩ .f32 0x00000000#32)

/-- The codes against each field in turn. -/
abbrev parts {r : ℕ} (hw : 8 < 32) (C : IVec ⟨2, ![16, n]⟩ 8) (W : IVec ⟨2, ![r, n]⟩ 8) : List ((s : Shape) × (s.Idx → F .f32)) :=
  [⟨⟨2, ![16, r]⟩, part hw C W 0#32⟩, ⟨⟨2, ![16, r]⟩, part hw C W 2#32⟩, ⟨⟨2, ![16, r]⟩, part hw C W 4#32⟩,
    ⟨⟨2, ![16, r]⟩, part hw C W 6#32⟩]

/-- What the shapes of a packed linear map have to satisfy. -/
structure Packs (r N : ℕ) : Prop where
  w : 8 < 32
  cat : Shape.Concatenates [(⟨2, ![16, r]⟩ : Shape), ⟨2, ![16, r]⟩, ⟨2, ![16, r]⟩, ⟨2, ![16, r]⟩] ⟨2, ![16, N]⟩ 1
  col : (⟨1, ![16]⟩ : Shape).ShapeCasts ⟨2, ![16, 1]⟩
  one : (⟨2, ![1, 1]⟩ : Shape).Broadcasts ⟨2, ![16, 1]⟩
  spread : (⟨2, ![16, 1]⟩ : Shape).Broadcasts ⟨2, ![16, N]⟩

/-- The packed linear map. -/
def linear {r N : ℕ} (H : Packs r N) (C : IVec ⟨2, ![16, n]⟩ 8) (s : FVec F ⟨1, ![16]⟩ .f32) (W : IVec ⟨2, ![r, n]⟩ 8)
    (ws : FVec F ⟨2, ![1, 1]⟩ .f32) : FVec F ⟨2, ![16, N]⟩ .f32 :=
  mulf (concatenate ⟨2, ![16, N]⟩ 1 (parts H.w C W) H.cat)
    (broadcastTo ⟨2, ![16, N]⟩ (mulf (shapeCast ⟨2, ![16, 1]⟩ s H.col) (broadcastTo ⟨2, ![16, 1]⟩ ws H.one)) H.spread)
end

variable {n : ℕ}

theorem norm_at (H : Wide n) (w : BitVec 32) (v : FVec Ideal ⟨2, ![16, n]⟩ .f32) (g : FVec Ideal ⟨2, ![1, n]⟩ .f32)
    (f : Fin 16 → ℕ → EReal) (G : ℕ → EReal) (hv : ∀ b i, v (ix2 b i) = f b i.val) (hg : ∀ i, g (ix2 0 i) = G i.val)
    (b : Fin 16) (i : Fin n) : norm H w v g (ix2 b i) = Spec.normed w n G (f b) i.val := by
  show Ideal.div (v (ix2 b i)) (broadcastTo _ _ H.spread (ix2 b i)) * broadcastTo _ g H.row (ix2 b i) = _
  rw [spreadCol, spreadRow, hv, hg]
  show Ideal.div _ (Ideal.sqrt (Ideal.div (shapeCast _ _ H.col (ix2 b 0)) (Spec.word w) + Spec.word 0x3727C5AC#32)) * _ = _
  rw [asCol]
  have e := rowSum (mulf v v) H.sum (.inl rfl) rfl b (fun i => f b i * f b i) fun i => by
    show v (ix2 b i) * v (ix2 b i) = _
    rw [hv]
  exact congrArg (fun z => Ideal.div (f b i.val) (Ideal.sqrt (Ideal.div z (Spec.word w) + Spec.word 0x3727C5AC#32)) * G i.val) e

theorem scale_at (H : Wide n) (v : FVec Ideal ⟨2, ![16, n]⟩ .f32) (h : Fin 16 → ℕ → EReal)
    (hv : ∀ b i, v (ix2 b i) = h b i.val) (b : Fin 16) : scale H v (ix1 b) = Spec.scaleOf (Spec.peak n (h b)) := by
  have e := rowMax (absf v) H.sum (.inl rfl) rfl b (fun i => max (h b i) (-h b i)) fun i => by
    show max (v (ix2 b i)) (-v (ix2 b i)) = _
    rw [hv]
  show Scalar.select (Ideal.cmp .oeq _ (Spec.word 0x00000000#32)) (Spec.word 0x3F800000#32) (Ideal.div _ (Spec.word 0x42FE0000#32)) = _
  rw [e]; rfl

theorem codes_at (H : Wide n) (v : FVec Ideal ⟨2, ![16, n]⟩ .f32) (h : Fin 16 → ℕ → EReal)
    (hv : ∀ b i, v (ix2 b i) = h b i.val) (b : Fin 16) (i : Fin n) :
    codes H v (ix2 b i) = Ideal.fptosi 8 (Spec.codeOf (Spec.scaleOf (Spec.peak n (h b))) (h b i.val)) := by
  show Ideal.fptosi 8 (min (Spec.word 0x42FE0000#32) (max (Spec.word 0xC2FE0000#32) (Ideal.liftRound Ideal.roundHalfEven
    (Ideal.div (v (ix2 b i)) (broadcastTo _ _ H.spread (ix2 b i)))))) = _
  rw [spreadCol, asCol, scale_at H v h hv, hv]; rfl

theorem field_at {r : ℕ} (hw : 8 < 32) (W : IVec ⟨2, ![r, n]⟩ 8) (i : ℕ) (hi : i < 4) (z : BitVec 32) (hz : z = BitVec.ofNat 32 (2 * i))
    (j : (⟨2, ![r, n]⟩ : Shape).Idx) : field (F := Ideal) hw W z j = (((Spec.fieldOf (W j) i : ℤ) : ℝ) : EReal) := by
  rw [← Spec.shifted_field (W j) i hi]
  subst hz
  show ((((IntOp.shrsi .vector ((W j).setWidth 32) (BitVec.ofNat 32 (2 * i)) &&& 3#32) - 1#32).toInt : ℝ) : EReal) = _
  interval_cases i <;> rfl

theorem part_at {r : ℕ} (hw : 8 < 32) (C : IVec ⟨2, ![16, n]⟩ 8) (W : IVec ⟨2, ![r, n]⟩ 8) (i : ℕ) (hi : i < 4) (z : BitVec 32)
    (hz : z = BitVec.ofNat 32 (2 * i)) (a : Fin 16 → ℕ → EReal) (Wt : ℕ → ℕ → BitVec 8)
    (hC : ∀ b k, (((C (ix2 b k)).toInt : ℝ) : EReal) = a b k.val) (hW : ∀ o k, W (ix2 o k) = Wt o.val k.val) (b : Fin 16) (o : Fin r) :
    part (F := Ideal) hw C W z (ix2 b o) = Spec.lin n (a b) (Wt o.val) i := by
  show FloatOps.matmul (DotDims.transposedRhs 16 n r) none _ _ _ (ix2 b o) = _
  rw [Ideal.matmul_transposedRhs_apply]
  show Spec.word 0x00000000#32 + _ = _
  rw [Spec.word_zero, zero_add, Spec.lin, sum_range]
  refine sum_congr rfl fun k _ => ?_
  rw [field_at hw W i hi z hz, hW]
  exact congrArg (· * _) (hC b k)

theorem linear_at {r N : ℕ} (H : Packs r N) (hN : N = 4 * r) (C : IVec ⟨2, ![16, n]⟩ 8) (s : FVec Ideal ⟨1, ![16]⟩ .f32)
    (W : IVec ⟨2, ![r, n]⟩ 8) (ws : FVec Ideal ⟨2, ![1, 1]⟩ .f32)
    (a : Fin 16 → ℕ → EReal) (Wt : ℕ → ℕ → BitVec 8)
    (hC : ∀ b k, (((C (ix2 b k)).toInt : ℝ) : EReal) = a b k.val) (hW : ∀ o k, W (ix2 o k) = Wt o.val k.val) (b : Fin 16) (o : Fin N) :
    linear H C s W ws (ix2 b o) = Spec.linear n r (a b) (s (ix1 b)) (ws (ix2 0 0)) Wt o.val := by
  have hr : 0 < r := by have := o.isLt; omega
  have key : concatenate ⟨2, ![16, N]⟩ 1 (parts (F := Ideal) H.w C W) H.cat (ix2 b o)
      = Spec.lin n (a b) (Wt (o.val % r)) (o.val / r) := by
    have hk : o.val / r < 4 := by rw [Nat.div_lt_iff_lt_mul hr]; have := o.isLt; omega
    have hm := Nat.mod_lt o.val hr
    have hd := Nat.div_add_mod o.val r
    rw [concatenate_apply_piece 1 (parts (F := Ideal) H.w C W) H.cat (ix2 b o) (o.val / r) hk ⟨2, ![16, r]⟩ (part H.w C W (BitVec.ofNat 32 (2 * (o.val / r))))
      (by generalize o.val / r = q at hk ⊢; interval_cases q <;> rfl) rfl (r * (o.val / r))
      (by generalize o.val / r = q at hk ⊢
          interval_cases q
          · rfl
          · show r + 0 = _; omega
          · show r + (r + 0) = _; omega
          · show r + (r + (r + 0)) = _; omega)
      (ix2 b ⟨o.val % r, hm⟩)
      (fun d hd => by
        match d with
        | ⟨0, _⟩ => rfl
        | ⟨1, _⟩ => exact absurd rfl hd) (by show r * (o.val / r) + o.val % r = o.val; exact hd)]
    exact part_at H.w C W (o.val / r) hk _ rfl a Wt hC hW b ⟨o.val % r, hm⟩
  show concatenate ⟨2, ![16, N]⟩ 1 (parts (F := Ideal) H.w C W) H.cat (ix2 b o) * broadcastTo _ _ H.spread (ix2 b o) = _
  rw [key, spreadCol]
  show _ * (shapeCast _ s H.col (ix2 b 0) * broadcastTo _ ws H.one (ix2 b 0)) = _
  rw [asCol, spreadOne]; rfl

end Cert.RefTerms
-- ==== Proof.RefLayer.lean ====
module

public import proofs.«01_k».proof.Proof.Gen.ReferenceIdeal.Frame
public import proofs.«01_k».proof.Proof.RefTerms

/-!
# The reference's two layers

One layer as a term over what it reads, the reference's results as two layers of it, and each at an index.
-/

@[expose] public section

set_option maxRecDepth 16384

noncomputable section

namespace Cert.RefLayer

open Cert.ReferenceIdeal Cert.ReferenceIdeal.Gen Cert.RefTerms Cert.Reading
open Idealize.ShloMosaic hiding ix1 ix2 ix3
open Idealize.ShloMosaic.ValueIdx

theorem wideD : Wide 2560 := ⟨reduces_S16x2560_S16, shapeCasts_S16_S16x1, broadcasts_S16x1_S16x2560, broadcasts_S1x2560_S16x2560⟩
theorem wideF : Wide 6912 := ⟨reduces_S16x6912_S16, shapeCasts_S16_S16x1, broadcasts_S16x1_S16x6912, broadcasts_S1x6912_S16x6912⟩
theorem packsD : Packs 640 2560 := ⟨natLt_8_32, concatenates_S16x640_S16x640_S16x640_S16x640_S16x2560_d1, shapeCasts_S16_S16x1,
  broadcasts_S1x1_S16x1, broadcasts_S16x1_S16x2560⟩
theorem packsF : Packs 1728 6912 := ⟨natLt_8_32, concatenates_S16x1728_S16x1728_S16x1728_S16x1728_S16x6912_d1, shapeCasts_S16_S16x1,
  broadcasts_S1x1_S16x1, broadcasts_S16x1_S16x6912⟩

/-- What a layer reads. -/
structure Ins (F : FTy → Type) where
  a : FVec F S16x2560 .f32
  wo : IVec S640x2560 8
  wg : IVec S1728x2560 8
  wu : IVec S1728x2560 8
  wd : IVec S640x6912 8
  so : FVec F S1x1 .f32
  sg : FVec F S1x1 .f32
  su : FVec F S1x1 .f32
  sd : FVec F S1x1 .f32
  ga : FVec F S1x2560 .f32
  gp : FVec F S1x2560 .f32
  gf : FVec F S1x6912 .f32

namespace Ins
variable {F : FTy → Type} [FloatOps F] (I : Ins F)
def n2 : FVec F S16x2560 .f32 := norm wideD 0x45200000#32 I.a I.ga
def mid (r : FVec F S16x2560 .f32) : FVec F S16x2560 .f32 :=
  addf r (linear packsD (codes wideD I.n2) (scale wideD I.n2) I.wo I.so)
def n3 (m : FVec F S16x2560 .f32) : FVec F S16x2560 .f32 := norm wideD 0x45200000#32 m I.gp
def gate (m : FVec F S16x2560 .f32) : FVec F S16x6912 .f32 :=
  maximumf (linear packsF (codes wideD (I.n3 m)) (scale wideD (I.n3 m)) I.wg I.sg)
    (broadcast S16x6912 (Scalar.ofBits .f32 0x00000000#32))
def hid (m : FVec F S16x2560 .f32) : FVec F S16x6912 .f32 :=
  mulf (mulf (I.gate m) (I.gate m)) (linear packsF (codes wideD (I.n3 m)) (scale wideD (I.n3 m)) I.wu I.su)
def n4 (h : FVec F S16x6912 .f32) : FVec F S16x6912 .f32 := norm wideF 0x45D80000#32 h I.gf
def out (m : FVec F S16x2560 .f32) (h : FVec F S16x6912 .f32) : FVec F S16x2560 .f32 :=
  addf m (linear packsD (codes wideF (I.n4 h)) (scale wideF (I.n4 h)) I.wd I.sd)
end Ins

section
variable {F : FTy → Type} [FloatOps F]
variable (x0 : Vec F S16x2560 .bf16) (x1 : Vec F S2x320x128 .f32) (x2 : Vec F S2x640x2560 .i8) (x3 : Vec F S2x1728x2560 .i8)
  (x4 : Vec F S2x1728x2560 .i8) (x5 : Vec F S2x640x6912 .i8) (x6 : Vec F S2x7 .bf16) (x7 : Vec F S2x2560 .f32)
  (x8 : Vec F S2x2560 .f32) (x9 : Vec F S2x6912 .f32)

/-- The weights' scales of one layer. -/
def wide7 (v : Vec F S1x7 .bf16) : FVec F S1x7 .f32 := extf .f32 v bitsLt_bf16_f32

/-- What the first layer reads. -/
def ins0 : Ins F where
  a := shapeCast S16x2560 (shapeCast S320x128 (View.ld x1 r0_2) shapeCasts_S1x320x128_S320x128) shapeCasts_S320x128_S16x2560
  wo := shapeCast S640x2560 (View.ld x2 r0_4) shapeCasts_S1x640x2560_S640x2560
  wg := shapeCast S1728x2560 (View.ld x3 r0_5) shapeCasts_S1x1728x2560_S1728x2560
  wu := shapeCast S1728x2560 (View.ld x4 r0_5) shapeCasts_S1x1728x2560_S1728x2560
  wd := shapeCast S640x6912 (View.ld x5 r0_7) shapeCasts_S1x640x6912_S640x6912
  so := extractStridedSlice S1x1 ![0, 3] (wide7 (View.ld x6 r0_1)) slices_S1x7_o0_3_S1x1
  sg := extractStridedSlice S1x1 ![0, 4] (wide7 (View.ld x6 r0_1)) slices_S1x7_o0_4_S1x1
  su := extractStridedSlice S1x1 ![0, 5] (wide7 (View.ld x6 r0_1)) slices_S1x7_o0_5_S1x1
  sd := extractStridedSlice S1x1 ![0, 6] (wide7 (View.ld x6 r0_1)) slices_S1x7_o0_6_S1x1
  ga := View.ld x7 r0_3
  gp := View.ld x8 r0_3
  gf := View.ld x9 r0_6

/-- What the second layer reads. -/
def ins1 : Ins F where
  a := shapeCast S16x2560 (shapeCast S320x128 (View.ld x1 r0_13) shapeCasts_S1x320x128_S320x128) shapeCasts_S320x128_S16x2560
  wo := shapeCast S640x2560 (View.ld x2 r0_15) shapeCasts_S1x640x2560_S640x2560
  wg := shapeCast S1728x2560 (View.ld x3 r0_16) shapeCasts_S1x1728x2560_S1728x2560
  wu := shapeCast S1728x2560 (View.ld x4 r0_16) shapeCasts_S1x1728x2560_S1728x2560
  wd := shapeCast S640x6912 (View.ld x5 r0_18) shapeCasts_S1x640x6912_S640x6912
  so := extractStridedSlice S1x1 ![0, 3] (wide7 (View.ld x6 r0_12)) slices_S1x7_o0_3_S1x1
  sg := extractStridedSlice S1x1 ![0, 4] (wide7 (View.ld x6 r0_12)) slices_S1x7_o0_4_S1x1
  su := extractStridedSlice S1x1 ![0, 5] (wide7 (View.ld x6 r0_12)) slices_S1x7_o0_5_S1x1
  sd := extractStridedSlice S1x1 ![0, 6] (wide7 (View.ld x6 r0_12)) slices_S1x7_o0_6_S1x1
  ga := View.ld x7 r0_14
  gp := View.ld x8 r0_14
  gf := View.ld x9 r0_17

/-- The residuals, the hidden vectors and the normalised rows of the two layers. -/
def rr0 : FVec F S16x2560 .f32 := extf .f32 (shapeCast S16x2560 (View.ld x0 r0_0) shapeCasts_S16x2560_S16x2560) bitsLt_bf16_f32
def mm0 : FVec F S16x2560 .f32 := (ins0 x1 x2 x3 x4 x5 x6 x7 x8 x9).mid (rr0 x0)
def hh0 : FVec F S16x6912 .f32 := (ins0 x1 x2 x3 x4 x5 x6 x7 x8 x9).hid (mm0 x0 x1 x2 x3 x4 x5 x6 x7 x8 x9)
def rr1 : FVec F S16x2560 .f32 := (ins0 x1 x2 x3 x4 x5 x6 x7 x8 x9).out (mm0 x0 x1 x2 x3 x4 x5 x6 x7 x8 x9) (hh0 x0 x1 x2 x3 x4 x5 x6 x7 x8 x9)
def mm1 : FVec F S16x2560 .f32 := (ins1 x1 x2 x3 x4 x5 x6 x7 x8 x9).mid (rr1 x0 x1 x2 x3 x4 x5 x6 x7 x8 x9)
def hh1 : FVec F S16x6912 .f32 := (ins1 x1 x2 x3 x4 x5 x6 x7 x8 x9).hid (mm1 x0 x1 x2 x3 x4 x5 x6 x7 x8 x9)
def rr2 : FVec F S16x2560 .f32 := (ins1 x1 x2 x3 x4 x5 x6 x7 x8 x9).out (mm1 x0 x1 x2 x3 x4 x5 x6 x7 x8 x9) (hh1 x0 x1 x2 x3 x4 x5 x6 x7 x8 x9)

/-- A matrix as `320` rows of `128`, under one leading axis. -/
def cutD (v : FVec F S16x2560 .f32) : FVec F S1x320x128 .f32 :=
  shapeCast S1x320x128 (shapeCast S320x128 v shapeCasts_S16x2560_S320x128) shapeCasts_S320x128_S1x320x128
def cutF (v : FVec F S16x6912 .f32) : FVec F S1x864x128 .f32 :=
  shapeCast S1x864x128 (shapeCast S864x128 v shapeCasts_S16x6912_S864x128) shapeCasts_S864x128_S1x864x128
def row (v : FVec F S16 .f32) : FVec F S1x1x16 .f32 :=
  shapeCast S1x1x16 (shapeCast S1x16 v shapeCasts_S16_S1x16) shapeCasts_S1x16_S1x1x16
def lead (v : IVec S16x2560 8) : IVec S1x16x2560 8 := shapeCast S1x16x2560 v shapeCasts_S16x2560_S1x16x2560
def leadF (v : IVec S16x6912 8) : IVec S1x16x6912 8 := shapeCast S1x16x6912 v shapeCasts_S16x6912_S1x16x6912

theorem p97 : k0_pay97 x0 x1 x2 x3 x4 x5 x6 x7 x8 x9 = (mm0 x0 x1 x2 x3 x4 x5 x6 x7 x8 x9) := by sl_kernel_rfl
theorem out11 : out0_11 x0 x1 x2 x3 x4 x5 x6 x7 x8 x9
    = View.canon [⟨r0_13, cutD (mm1 x0 x1 x2 x3 x4 x5 x6 x7 x8 x9)⟩, ⟨r0_2, cutD (mm0 x0 x1 x2 x3 x4 x5 x6 x7 x8 x9)⟩] := by sl_kernel_rfl
theorem out10 : out0_10 x0 x1 x2 x3 x4 x5 x6 x7 x8 x9
    = View.canon [⟨r0_13, cutD (rr2 x0 x1 x2 x3 x4 x5 x6 x7 x8 x9)⟩, ⟨r0_2, cutD (rr1 x0 x1 x2 x3 x4 x5 x6 x7 x8 x9)⟩] := by
  sl_kernel_rfl
theorem out12 : out0_12 x0 x1 x2 x3 x4 x5 x6 x7 x8 x9
    = View.canon [⟨r0_19, cutF (hh1 x0 x1 x2 x3 x4 x5 x6 x7 x8 x9)⟩, ⟨r0_8, cutF (hh0 x0 x1 x2 x3 x4 x5 x6 x7 x8 x9)⟩] := by sl_kernel_rfl
theorem out13 : out0_13 x0 x1 x2 x3 x4 x5 x6 x7 x8 x9
    = View.canon [⟨r0_20, lead (codes wideD (ins1 x1 x2 x3 x4 x5 x6 x7 x8 x9).n2)⟩, ⟨r0_9, lead (codes wideD (ins0 x1 x2 x3 x4 x5 x6 x7 x8 x9).n2)⟩] := by sl_kernel_rfl
theorem out14 : out0_14 x0 x1 x2 x3 x4 x5 x6 x7 x8 x9
    = View.canon [⟨r0_22, row (scale wideD (ins1 x1 x2 x3 x4 x5 x6 x7 x8 x9).n2)⟩, ⟨r0_11, row (scale wideD (ins0 x1 x2 x3 x4 x5 x6 x7 x8 x9).n2)⟩] := by sl_kernel_rfl
theorem out15 : out0_15 x0 x1 x2 x3 x4 x5 x6 x7 x8 x9
    = View.canon [⟨r0_20, lead (codes wideD ((ins1 x1 x2 x3 x4 x5 x6 x7 x8 x9).n3 (mm1 x0 x1 x2 x3 x4 x5 x6 x7 x8 x9)))⟩, ⟨r0_9, lead (codes wideD ((ins0 x1 x2 x3 x4 x5 x6 x7 x8 x9).n3 (mm0 x0 x1 x2 x3 x4 x5 x6 x7 x8 x9)))⟩] := by sl_kernel_rfl
theorem out16 : out0_16 x0 x1 x2 x3 x4 x5 x6 x7 x8 x9
    = View.canon [⟨r0_22, row (scale wideD ((ins1 x1 x2 x3 x4 x5 x6 x7 x8 x9).n3 (mm1 x0 x1 x2 x3 x4 x5 x6 x7 x8 x9)))⟩, ⟨r0_11, row (scale wideD ((ins0 x1 x2 x3 x4 x5 x6 x7 x8 x9).n3 (mm0 x0 x1 x2 x3 x4 x5 x6 x7 x8 x9)))⟩] := by sl_kernel_rfl
theorem out17 : out0_17 x0 x1 x2 x3 x4 x5 x6 x7 x8 x9
    = View.canon [⟨r0_21, leadF (codes wideF ((ins1 x1 x2 x3 x4 x5 x6 x7 x8 x9).n4 (hh1 x0 x1 x2 x3 x4 x5 x6 x7 x8 x9)))⟩, ⟨r0_10, leadF (codes wideF ((ins0 x1 x2 x3 x4 x5 x6 x7 x8 x9).n4 (hh0 x0 x1 x2 x3 x4 x5 x6 x7 x8 x9)))⟩] := by sl_kernel_rfl
theorem out18 : out0_18 x0 x1 x2 x3 x4 x5 x6 x7 x8 x9
    = View.canon [⟨r0_22, row (scale wideF ((ins1 x1 x2 x3 x4 x5 x6 x7 x8 x9).n4 (hh1 x0 x1 x2 x3 x4 x5 x6 x7 x8 x9)))⟩, ⟨r0_11, row (scale wideF ((ins0 x1 x2 x3 x4 x5 x6 x7 x8 x9).n4 (hh0 x0 x1 x2 x3 x4 x5 x6 x7 x8 x9)))⟩] := by sl_kernel_rfl
end
end Cert.RefLayer
-- ==== Proof.Data.lean ====
module

public import proofs.«01_k».proof.Proof.Reading

/-!
# The two layers on the arguments' arrays

`Data` is what the two layers are computed from, by natural-number coordinates; `Data.of` reads it off the
argument arrays. `resid`, `midA`, … are the nine result arrays. Entry `(l, 20 b + j, p)` of a `[2, 320, 128]`
array is row `b`, column `128 j + p` of layer `l`.
-/

@[expose] public section

noncomputable section

namespace Cert.Spec

open Idealize.ShloMosaic hiding ix1 ix2 ix3
open Idealize.ShloMosaic.ValueIdx

/-- What the two layers are computed from: the layers, the first residual, the attention outputs. -/
structure Data where
  L : ℕ → Layer
  x : ℕ → ℕ → EReal
  a : ℕ → ℕ → ℕ → EReal

namespace Data
variable (D : Data)

/-- The residual before layer `l`. -/
def res : ℕ → ℕ → ℕ → EReal
  | 0, b => D.x b
  | l + 1, b => (D.L l).out ((D.L l).mid (res l b) (D.a l b)) ((D.L l).hid ((D.L l).mid (res l b) (D.a l b)))
def mid (l b : ℕ) : ℕ → EReal := (D.L l).mid (D.res l b) (D.a l b)
def hid (l b : ℕ) : ℕ → EReal := (D.L l).hid (D.mid l b)

theorem res_succ (l b : ℕ) : D.res (l + 1) b = (D.L l).out (D.mid l b) (D.hid l b) := rfl

/-! ## The result arrays -/

def resid : (⟨3, ![2, 320, 128]⟩ : Shape).Idx → EReal := fun j => D.res ((j 0).val + 1) ((j 1).val / 20) (128 * ((j 1).val % 20) + (j 2).val)
def midA : (⟨3, ![2, 320, 128]⟩ : Shape).Idx → EReal := fun j => D.mid (j 0).val ((j 1).val / 20) (128 * ((j 1).val % 20) + (j 2).val)
def hidA : (⟨3, ![2, 864, 128]⟩ : Shape).Idx → EReal := fun j => D.hid (j 0).val ((j 1).val / 54) (128 * ((j 1).val % 54) + (j 2).val)
def c2 : (⟨3, ![2, 16, 2560]⟩ : Shape).Idx → BitVec 8 := fun j => Ideal.fptosi 8 ((D.L (j 0).val).c2 (D.a (j 0).val (j 1).val) (j 2).val)
def s2 : (⟨3, ![2, 1, 16]⟩ : Shape).Idx → EReal := fun j => (D.L (j 0).val).s2 (D.a (j 0).val (j 2).val)
def c3 : (⟨3, ![2, 16, 2560]⟩ : Shape).Idx → BitVec 8 := fun j => Ideal.fptosi 8 ((D.L (j 0).val).c3 (D.mid (j 0).val (j 1).val) (j 2).val)
def s3 : (⟨3, ![2, 1, 16]⟩ : Shape).Idx → EReal := fun j => (D.L (j 0).val).s3 (D.mid (j 0).val (j 2).val)
def c4 : (⟨3, ![2, 16, 6912]⟩ : Shape).Idx → BitVec 8 := fun j => Ideal.fptosi 8 ((D.L (j 0).val).c4 (D.hid (j 0).val (j 1).val) (j 2).val)
def s4 : (⟨3, ![2, 1, 16]⟩ : Shape).Idx → EReal := fun j => (D.L (j 0).val).s4 (D.hid (j 0).val (j 2).val)
end Data

/-- An array read at natural numbers, `d` outside. -/
def at2 {α : Type} {m n : ℕ} (d : α) (v : (⟨2, ![m, n]⟩ : Shape).Idx → α) (i j : ℕ) : α :=
  if h : i < m ∧ j < n then v (ix2 ⟨i, h.1⟩ ⟨j, h.2⟩) else d
def at3 {α : Type} {k m n : ℕ} (d : α) (v : (⟨3, ![k, m, n]⟩ : Shape).Idx → α) (l i j : ℕ) : α :=
  if h : l < k ∧ i < m ∧ j < n then v (ix3 ⟨l, h.1⟩ ⟨i, h.2.1⟩ ⟨j, h.2.2⟩) else d

theorem at2_val {α : Type} {m n : ℕ} (d : α) (v : (⟨2, ![m, n]⟩ : Shape).Idx → α) (a : Fin m) (b : Fin n) (i j : ℕ)
    (hi : i = a.val) (hj : j = b.val) : at2 d v i j = v (ix2 a b) := by
  subst hi hj; unfold at2; rw [dif_pos ⟨a.isLt, b.isLt⟩]
theorem at3_val {α : Type} {k m n : ℕ} (d : α) (v : (⟨3, ![k, m, n]⟩ : Shape).Idx → α) (c : Fin k) (a : Fin m) (b : Fin n) (l i j : ℕ)
    (hl : l = c.val) (hi : i = a.val) (hj : j = b.val) : at3 d v l i j = v (ix3 c a b) := by
  subst hl hi hj; unfold at3; rw [dif_pos ⟨c.isLt, a.isLt, b.isLt⟩]

/-- What the two layers are computed from, off the argument arrays. -/
def Data.of (x : (⟨2, ![16, 2560]⟩ : Shape).Idx → EReal) (attn : (⟨3, ![2, 320, 128]⟩ : Shape).Idx → EReal)
    (wo : (⟨3, ![2, 640, 2560]⟩ : Shape).Idx → BitVec 8) (wg wu : (⟨3, ![2, 1728, 2560]⟩ : Shape).Idx → BitVec 8)
    (wd : (⟨3, ![2, 640, 6912]⟩ : Shape).Idx → BitVec 8) (ws : (⟨2, ![2, 7]⟩ : Shape).Idx → EReal)
    (ga gp : (⟨2, ![2, 2560]⟩ : Shape).Idx → EReal) (gf : (⟨2, ![2, 6912]⟩ : Shape).Idx → EReal) : Data where
  L l :=
    { ga := at2 0 ga l, gp := at2 0 gp l, gf := at2 0 gf l
      wo := at3 0#8 wo l, wg := at3 0#8 wg l, wu := at3 0#8 wu l, wd := at3 0#8 wd l
      so := at2 0 ws l 3, sg := at2 0 ws l 4, su := at2 0 ws l 5, sd := at2 0 ws l 6 }
  x := at2 0 x
  a l b i := at3 0 attn l (20 * b + i / 128) (i % 128)

end Cert.Spec
-- ==== Proof.RefValue.lean ====
module

public import proofs.«01_k».proof.Proof.RefLayer
public import proofs.«01_k».proof.Proof.Data
public import proofs.«01_k».proof.Proof.Gen.ReferenceIdeal.Value

/-!
# The reference's results

Each of the nine result arrays of the reference is the one `Spec.Data` states.
-/

@[expose] public section

set_option maxRecDepth 16384

noncomputable section

namespace Cert.RefLayer

open Cert.ReferenceIdeal Cert.ReferenceIdeal.Gen Cert.RefTerms Cert.Reading
open Idealize.ShloMosaic hiding ix1 ix2 ix3
open Idealize.ShloMosaic.ValueIdx

/-! ## One layer at an index -/

/-- What a layer reads are the layer `L` and, for each row, the attention output `a`. -/
structure Ins.Reads (I : Ins Ideal) (L : Spec.Layer) (a : ℕ → ℕ → EReal) : Prop where
  a : ∀ (b : Fin 16) (i : Fin 2560), I.a (ix2 b i) = a b.val i.val
  wo : ∀ (o : Fin 640) (k : Fin 2560), I.wo (ix2 o k) = L.wo o.val k.val
  wg : ∀ (o : Fin 1728) (k : Fin 2560), I.wg (ix2 o k) = L.wg o.val k.val
  wu : ∀ (o : Fin 1728) (k : Fin 2560), I.wu (ix2 o k) = L.wu o.val k.val
  wd : ∀ (o : Fin 640) (k : Fin 6912), I.wd (ix2 o k) = L.wd o.val k.val
  so : I.so (ix2 0 0) = L.so
  sg : I.sg (ix2 0 0) = L.sg
  su : I.su (ix2 0 0) = L.su
  sd : I.sd (ix2 0 0) = L.sd
  ga : ∀ i : Fin 2560, I.ga (ix2 0 i) = L.ga i.val
  gp : ∀ i : Fin 2560, I.gp (ix2 0 i) = L.gp i.val
  gf : ∀ i : Fin 6912, I.gf (ix2 0 i) = L.gf i.val

/-- The scale of a normalised row. -/
theorem quantScale_at {n : ℕ} (H : Wide n) (w : BitVec 32) (v : FVec Ideal ⟨2, ![16, n]⟩ .f32) (g : FVec Ideal ⟨2, ![1, n]⟩ .f32)
    (f : ℕ → ℕ → EReal) (G : ℕ → EReal) (hv : ∀ (b : Fin 16) (i : Fin n), v (ix2 b i) = f b.val i.val) (hg : ∀ i : Fin n, g (ix2 0 i) = G i.val)
    (b : Fin 16) : scale H (norm H w v g) (ix1 b) = Spec.quantScale w n G (f b.val) :=
  scale_at H _ (fun b => Spec.normed w n G (f b.val)) (fun b i => norm_at H w v g (fun b => f b.val) G hv hg b i) b

/-- The codes of a normalised row. -/
theorem quantCode_at {n : ℕ} (H : Wide n) (w : BitVec 32) (v : FVec Ideal ⟨2, ![16, n]⟩ .f32) (g : FVec Ideal ⟨2, ![1, n]⟩ .f32)
    (f : ℕ → ℕ → EReal) (G : ℕ → EReal) (hv : ∀ (b : Fin 16) (i : Fin n), v (ix2 b i) = f b.val i.val) (hg : ∀ i : Fin n, g (ix2 0 i) = G i.val)
    (b : Fin 16) (i : Fin n) : codes H (norm H w v g) (ix2 b i) = Ideal.fptosi 8 (Spec.quantCode w n G (f b.val) i.val) :=
  codes_at H _ (fun b => Spec.normed w n G (f b.val)) (fun b i => norm_at H w v g (fun b => f b.val) G hv hg b i) b i

/-- A quantised row through a packed linear map. -/
theorem quantLinear_at {n r N : ℕ} (H : Wide n) (P : Packs r N) (hN : N = 4 * r) (w : BitVec 32) (v : FVec Ideal ⟨2, ![16, n]⟩ .f32)
    (g : FVec Ideal ⟨2, ![1, n]⟩ .f32) (W : IVec ⟨2, ![r, n]⟩ 8) (ws : FVec Ideal ⟨2, ![1, 1]⟩ .f32)
    (f : ℕ → ℕ → EReal) (G : ℕ → EReal) (Wt : ℕ → ℕ → BitVec 8)
    (hv : ∀ (b : Fin 16) (i : Fin n), v (ix2 b i) = f b.val i.val) (hg : ∀ i : Fin n, g (ix2 0 i) = G i.val)
    (hW : ∀ o k, W (ix2 o k) = Wt o.val k.val) (b : Fin 16) (o : Fin N) :
    linear P (codes H (norm H w v g)) (scale H (norm H w v g)) W ws (ix2 b o)
      = Spec.linear n r (Spec.quantCode w n G (f b.val)) (Spec.quantScale w n G (f b.val)) (ws (ix2 0 0)) Wt o.val := by
  rw [linear_at P hN _ _ _ _ (fun b => Spec.quantCode w n G (f b.val)) Wt (fun b k => by
    rw [quantCode_at H w v g f G hv hg]; exact Spec.code_word _ _) hW, quantScale_at H w v g f G hv hg]

section
variable {I : Ins Ideal} {L : Spec.Layer} {a : ℕ → ℕ → EReal} (R : I.Reads L a)
include R

theorem mid_at (r : FVec Ideal S16x2560 .f32) (rs : ℕ → ℕ → EReal) (hr : ∀ (b : Fin 16) (i : Fin 2560), r (ix2 b i) = rs b.val i.val)
    (b : Fin 16) (o : Fin 2560) : I.mid r (ix2 b o) = L.mid (rs b.val) (a b.val) o.val := by
  show r (ix2 b o) + linear packsD (codes wideD (norm wideD 0x45200000#32 I.a I.ga)) (scale wideD (norm wideD 0x45200000#32 I.a I.ga)) I.wo I.so (ix2 b o) = _
  rw [quantLinear_at wideD packsD (by norm_num) 0x45200000#32 I.a I.ga I.wo I.so a L.ga L.wo R.a R.ga R.wo, hr, R.so]; rfl

theorem hid_at (m : FVec Ideal S16x2560 .f32) (ms : ℕ → ℕ → EReal) (hm : ∀ (b : Fin 16) (i : Fin 2560), m (ix2 b i) = ms b.val i.val)
    (b : Fin 16) (o : Fin 6912) : I.hid m (ix2 b o) = L.hid (ms b.val) o.val := by
  show max (linear packsF (codes wideD (norm wideD 0x45200000#32 m I.gp)) (scale wideD (norm wideD 0x45200000#32 m I.gp)) I.wg I.sg (ix2 b o)) (Spec.word 0x00000000#32)
    * max (linear packsF (codes wideD (norm wideD 0x45200000#32 m I.gp)) (scale wideD (norm wideD 0x45200000#32 m I.gp)) I.wg I.sg (ix2 b o)) (Spec.word 0x00000000#32)
    * linear packsF (codes wideD (norm wideD 0x45200000#32 m I.gp)) (scale wideD (norm wideD 0x45200000#32 m I.gp)) I.wu I.su (ix2 b o) = _
  rw [quantLinear_at wideD packsF (by norm_num) 0x45200000#32 m I.gp I.wg I.sg ms L.gp L.wg hm R.gp R.wg,
    quantLinear_at wideD packsF (by norm_num) 0x45200000#32 m I.gp I.wu I.su ms L.gp L.wu hm R.gp R.wu, R.sg, R.su]; rfl

theorem out_at (m : FVec Ideal S16x2560 .f32) (h : FVec Ideal S16x6912 .f32) (ms hs : ℕ → ℕ → EReal)
    (hm : ∀ (b : Fin 16) (i : Fin 2560), m (ix2 b i) = ms b.val i.val) (hh : ∀ (b : Fin 16) (i : Fin 6912), h (ix2 b i) = hs b.val i.val)
    (b : Fin 16) (o : Fin 2560) : I.out m h (ix2 b o) = L.out (ms b.val) (hs b.val) o.val := by
  show m (ix2 b o) + linear packsD (codes wideF (norm wideF 0x45D80000#32 h I.gf)) (scale wideF (norm wideF 0x45D80000#32 h I.gf)) I.wd I.sd (ix2 b o) = _
  rw [quantLinear_at wideF packsD (by norm_num) 0x45D80000#32 h I.gf I.wd I.sd hs L.gf L.wd hh R.gf R.wd, hm, R.sd]; rfl
end

/-! ## The layers read the arguments -/

theorem ld2 {α : EltTy → Type} {e : EltTy} {k n : ℕ} (x : (⟨2, ![k, n]⟩ : Shape).Idx → α e) (l : ℕ) (inb) (c : Fin k) (hc : c.val = l) (i : Fin n) :
    View.ld x (Rect.unit (s := ⟨2, ![k, n]⟩) ![l, 0] ![1, n] inb) (ix2 0 i) = x (ix2 c i) := by
  refine congrArg x (funext fun d => Fin.ext ?_)
  match d with
  | ⟨0, _⟩ => show l + 1 * 0 = c.val; omega
  | ⟨1, _⟩ => show 0 + 1 * i.val = i.val; omega

theorem ld3 {α : EltTy → Type} {e : EltTy} {k m n : ℕ} (x : (⟨3, ![k, m, n]⟩ : Shape).Idx → α e) (l : ℕ) (inb) (c : Fin k) (hc : c.val = l)
    (i : Fin m) (j : Fin n) :
    View.ld x (Rect.unit (s := ⟨3, ![k, m, n]⟩) ![l, 0, 0] ![1, m, n] inb) (ix3 0 i j) = x (ix3 c i j) := by
  refine congrArg x (funext fun d => Fin.ext ?_)
  match d with
  | ⟨0, _⟩ => show l + 1 * 0 = c.val; omega
  | ⟨1, _⟩ => show 0 + 1 * i.val = i.val; omega
  | ⟨2, _⟩ => show 0 + 1 * j.val = j.val; omega

theorem slice7 (v : FVec Ideal S1x7 .f32) {o : ℕ} (h : S1x7.Slices ![0, o] S1x1) (k : Fin 7) (hk : k.val = o) :
    extractStridedSlice S1x1 ![0, o] v h (ix2 0 0) = v (ix2 0 k) :=
  extractStridedSlice_apply _ v h (ix2 0 0) (ix2 0 k) fun d => match d with
    | ⟨0, _⟩ => rfl
    | ⟨1, _⟩ => hk

section
variable (x0 : Vec Ideal S16x2560 .bf16) (x1 : Vec Ideal S2x320x128 .f32) (x2 : Vec Ideal S2x640x2560 .i8) (x3 : Vec Ideal S2x1728x2560 .i8)
  (x4 : Vec Ideal S2x1728x2560 .i8) (x5 : Vec Ideal S2x640x6912 .i8) (x6 : Vec Ideal S2x7 .bf16) (x7 : Vec Ideal S2x2560 .f32)
  (x8 : Vec Ideal S2x2560 .f32) (x9 : Vec Ideal S2x6912 .f32)

abbrev data : Spec.Data := Spec.Data.of x0 x1 x2 x3 x4 x5 x6 x7 x8 x9

theorem attn_read (l : ℕ) (inb) (c : Fin 2) (hc : c.val = l) (b : Fin 16) (i : Fin 2560) :
    shapeCast S16x2560 (shapeCast S320x128 (View.ld x1 (Rect.unit (s := S2x320x128) ![l, 0, 0] S1x320x128.size inb) : Vec Ideal S1x320x128 .f32)
      shapeCasts_S1x320x128_S320x128) shapeCasts_S320x128_S16x2560 (ix2 b i)
      = (data x0 x1 x2 x3 x4 x5 x6 x7 x8 x9).a l b.val i.val := by
  have hb := b.isLt; have hi := i.isLt
  rw [joinRows _ _ (q := 20) (by norm_num) b i ⟨20 * b.val + i.val / 128, by omega⟩ ⟨i.val % 128, by omega⟩ rfl rfl, shapeCast_1ab_ab_apply,
    ld3 x1 l inb c hc]
  exact (Spec.at3_val (0 : EReal) x1 c _ _ _ _ _ hc.symm rfl rfl).symm

theorem reads0 : (ins0 x1 x2 x3 x4 x5 x6 x7 x8 x9).Reads ((data x0 x1 x2 x3 x4 x5 x6 x7 x8 x9).L 0) ((data x0 x1 x2 x3 x4 x5 x6 x7 x8 x9).a 0) where
  a b i := attn_read x0 x1 x2 x3 x4 x5 x6 x7 x8 x9 0 _ 0 rfl b i
  wo o k := (shapeCast_1ab_ab_apply _ _ o k).trans ((ld3 x2 0 _ 0 rfl o k).trans (Spec.at3_val 0#8 x2 0 o k _ _ _ rfl rfl rfl).symm)
  wg o k := (shapeCast_1ab_ab_apply _ _ o k).trans ((ld3 x3 0 _ 0 rfl o k).trans (Spec.at3_val 0#8 x3 0 o k _ _ _ rfl rfl rfl).symm)
  wu o k := (shapeCast_1ab_ab_apply _ _ o k).trans ((ld3 x4 0 _ 0 rfl o k).trans (Spec.at3_val 0#8 x4 0 o k _ _ _ rfl rfl rfl).symm)
  wd o k := (shapeCast_1ab_ab_apply _ _ o k).trans ((ld3 x5 0 _ 0 rfl o k).trans (Spec.at3_val 0#8 x5 0 o k _ _ _ rfl rfl rfl).symm)
  so := (slice7 _ slices_S1x7_o0_3_S1x1 3 rfl).trans ((ld2 x6 0 _ 0 rfl 3).trans (Spec.at2_val (0 : EReal) x6 0 3 _ _ rfl rfl).symm)
  sg := (slice7 _ slices_S1x7_o0_4_S1x1 4 rfl).trans ((ld2 x6 0 _ 0 rfl 4).trans (Spec.at2_val (0 : EReal) x6 0 4 _ _ rfl rfl).symm)
  su := (slice7 _ slices_S1x7_o0_5_S1x1 5 rfl).trans ((ld2 x6 0 _ 0 rfl 5).trans (Spec.at2_val (0 : EReal) x6 0 5 _ _ rfl rfl).symm)
  sd := (slice7 _ slices_S1x7_o0_6_S1x1 6 rfl).trans ((ld2 x6 0 _ 0 rfl 6).trans (Spec.at2_val (0 : EReal) x6 0 6 _ _ rfl rfl).symm)
  ga i := (ld2 x7 0 _ 0 rfl i).trans (Spec.at2_val (0 : EReal) x7 0 i _ _ rfl rfl).symm
  gp i := (ld2 x8 0 _ 0 rfl i).trans (Spec.at2_val (0 : EReal) x8 0 i _ _ rfl rfl).symm
  gf i := (ld2 x9 0 _ 0 rfl i).trans (Spec.at2_val (0 : EReal) x9 0 i _ _ rfl rfl).symm

theorem reads1 : (ins1 x1 x2 x3 x4 x5 x6 x7 x8 x9).Reads ((data x0 x1 x2 x3 x4 x5 x6 x7 x8 x9).L 1) ((data x0 x1 x2 x3 x4 x5 x6 x7 x8 x9).a 1) where
  a b i := attn_read x0 x1 x2 x3 x4 x5 x6 x7 x8 x9 1 _ 1 rfl b i
  wo o k := (shapeCast_1ab_ab_apply _ _ o k).trans ((ld3 x2 1 _ 1 rfl o k).trans (Spec.at3_val 0#8 x2 1 o k _ _ _ rfl rfl rfl).symm)
  wg o k := (shapeCast_1ab_ab_apply _ _ o k).trans ((ld3 x3 1 _ 1 rfl o k).trans (Spec.at3_val 0#8 x3 1 o k _ _ _ rfl rfl rfl).symm)
  wu o k := (shapeCast_1ab_ab_apply _ _ o k).trans ((ld3 x4 1 _ 1 rfl o k).trans (Spec.at3_val 0#8 x4 1 o k _ _ _ rfl rfl rfl).symm)
  wd o k := (shapeCast_1ab_ab_apply _ _ o k).trans ((ld3 x5 1 _ 1 rfl o k).trans (Spec.at3_val 0#8 x5 1 o k _ _ _ rfl rfl rfl).symm)
  so := (slice7 _ slices_S1x7_o0_3_S1x1 3 rfl).trans ((ld2 x6 1 _ 1 rfl 3).trans (Spec.at2_val (0 : EReal) x6 1 3 _ _ rfl rfl).symm)
  sg := (slice7 _ slices_S1x7_o0_4_S1x1 4 rfl).trans ((ld2 x6 1 _ 1 rfl 4).trans (Spec.at2_val (0 : EReal) x6 1 4 _ _ rfl rfl).symm)
  su := (slice7 _ slices_S1x7_o0_5_S1x1 5 rfl).trans ((ld2 x6 1 _ 1 rfl 5).trans (Spec.at2_val (0 : EReal) x6 1 5 _ _ rfl rfl).symm)
  sd := (slice7 _ slices_S1x7_o0_6_S1x1 6 rfl).trans ((ld2 x6 1 _ 1 rfl 6).trans (Spec.at2_val (0 : EReal) x6 1 6 _ _ rfl rfl).symm)
  ga i := (ld2 x7 1 _ 1 rfl i).trans (Spec.at2_val (0 : EReal) x7 1 i _ _ rfl rfl).symm
  gp i := (ld2 x8 1 _ 1 rfl i).trans (Spec.at2_val (0 : EReal) x8 1 i _ _ rfl rfl).symm
  gf i := (ld2 x9 1 _ 1 rfl i).trans (Spec.at2_val (0 : EReal) x9 1 i _ _ rfl rfl).symm

theorem rr0_at (b : Fin 16) (i : Fin 2560) : rr0 x0 (ix2 b i) = (data x0 x1 x2 x3 x4 x5 x6 x7 x8 x9).res 0 b.val i.val := by
  have e : rr0 x0 (ix2 b i) = x0 (ix2 b i) := by
    show shapeCast S16x2560 (View.ld x0 r0_0 : Vec Ideal S16x2560 .bf16) shapeCasts_S16x2560_S16x2560 (ix2 b i) = _
    rw [shapeCast_apply _ _ (ix2 b i) (ix2 b i) rfl]
    refine congrArg x0 (funext fun d => Fin.ext ?_)
    match d with
    | ⟨0, _⟩ => show 0 + 1 * b.val = b.val; omega
    | ⟨1, _⟩ => show 0 + 1 * i.val = i.val; omega
  rw [e]; exact (Spec.at2_val (0 : EReal) x0 b i _ _ rfl rfl).symm

theorem mm0_at (b : Fin 16) (i : Fin 2560) : mm0 x0 x1 x2 x3 x4 x5 x6 x7 x8 x9 (ix2 b i) = (data x0 x1 x2 x3 x4 x5 x6 x7 x8 x9).mid 0 b.val i.val :=
  mid_at (reads0 x0 x1 x2 x3 x4 x5 x6 x7 x8 x9) (rr0 x0) ((data x0 x1 x2 x3 x4 x5 x6 x7 x8 x9).res 0) (rr0_at x0 x1 x2 x3 x4 x5 x6 x7 x8 x9) b i
theorem hh0_at (b : Fin 16) (i : Fin 6912) : hh0 x0 x1 x2 x3 x4 x5 x6 x7 x8 x9 (ix2 b i) = (data x0 x1 x2 x3 x4 x5 x6 x7 x8 x9).hid 0 b.val i.val :=
  hid_at (reads0 x0 x1 x2 x3 x4 x5 x6 x7 x8 x9) (mm0 x0 x1 x2 x3 x4 x5 x6 x7 x8 x9) ((data x0 x1 x2 x3 x4 x5 x6 x7 x8 x9).mid 0) (mm0_at x0 x1 x2 x3 x4 x5 x6 x7 x8 x9) b i
theorem rr1_at (b : Fin 16) (i : Fin 2560) : rr1 x0 x1 x2 x3 x4 x5 x6 x7 x8 x9 (ix2 b i) = (data x0 x1 x2 x3 x4 x5 x6 x7 x8 x9).res 1 b.val i.val :=
  out_at (reads0 x0 x1 x2 x3 x4 x5 x6 x7 x8 x9) (mm0 x0 x1 x2 x3 x4 x5 x6 x7 x8 x9) (hh0 x0 x1 x2 x3 x4 x5 x6 x7 x8 x9) ((data x0 x1 x2 x3 x4 x5 x6 x7 x8 x9).mid 0) ((data x0 x1 x2 x3 x4 x5 x6 x7 x8 x9).hid 0) (mm0_at x0 x1 x2 x3 x4 x5 x6 x7 x8 x9) (hh0_at x0 x1 x2 x3 x4 x5 x6 x7 x8 x9) b i
theorem mm1_at (b : Fin 16) (i : Fin 2560) : mm1 x0 x1 x2 x3 x4 x5 x6 x7 x8 x9 (ix2 b i) = (data x0 x1 x2 x3 x4 x5 x6 x7 x8 x9).mid 1 b.val i.val :=
  mid_at (reads1 x0 x1 x2 x3 x4 x5 x6 x7 x8 x9) (rr1 x0 x1 x2 x3 x4 x5 x6 x7 x8 x9) ((data x0 x1 x2 x3 x4 x5 x6 x7 x8 x9).res 1) (rr1_at x0 x1 x2 x3 x4 x5 x6 x7 x8 x9) b i
theorem hh1_at (b : Fin 16) (i : Fin 6912) : hh1 x0 x1 x2 x3 x4 x5 x6 x7 x8 x9 (ix2 b i) = (data x0 x1 x2 x3 x4 x5 x6 x7 x8 x9).hid 1 b.val i.val :=
  hid_at (reads1 x0 x1 x2 x3 x4 x5 x6 x7 x8 x9) (mm1 x0 x1 x2 x3 x4 x5 x6 x7 x8 x9) ((data x0 x1 x2 x3 x4 x5 x6 x7 x8 x9).mid 1) (mm1_at x0 x1 x2 x3 x4 x5 x6 x7 x8 x9) b i
theorem rr2_at (b : Fin 16) (i : Fin 2560) : rr2 x0 x1 x2 x3 x4 x5 x6 x7 x8 x9 (ix2 b i) = (data x0 x1 x2 x3 x4 x5 x6 x7 x8 x9).res 2 b.val i.val :=
  out_at (reads1 x0 x1 x2 x3 x4 x5 x6 x7 x8 x9) (mm1 x0 x1 x2 x3 x4 x5 x6 x7 x8 x9) (hh1 x0 x1 x2 x3 x4 x5 x6 x7 x8 x9) ((data x0 x1 x2 x3 x4 x5 x6 x7 x8 x9).mid 1) ((data x0 x1 x2 x3 x4 x5 x6 x7 x8 x9).hid 1) (mm1_at x0 x1 x2 x3 x4 x5 x6 x7 x8 x9) (hh1_at x0 x1 x2 x3 x4 x5 x6 x7 x8 x9) b i
end

/-! ## The result arrays -/

/-- An array written one layer at a time. -/
theorem canon_two {e : EltTy} {m n : ℕ} (inb₁) (inb₀) (w₁ w₀ : (⟨3, ![1, m, n]⟩ : Shape).Idx → Elt Ideal e)
    (G : (⟨3, ![2, m, n]⟩ : Shape).Idx → Elt Ideal e)
    (h₁ : ∀ i j, w₁ (ix3 0 i j) = G (ix3 1 i j)) (h₀ : ∀ i j, w₀ (ix3 0 i j) = G (ix3 0 i j)) :
    View.canon (Val := Elt Ideal) [⟨Rect.unit (s := ⟨3, ![2, m, n]⟩) ![1, 0, 0] ![1, m, n] inb₁, w₁⟩,
      ⟨Rect.unit (s := ⟨3, ![2, m, n]⟩) ![0, 0, 0] ![1, m, n] inb₀, w₀⟩] = G := by
  funext y
  obtain ⟨l, i, j, rfl⟩ : ∃ l i j, y = ix3 l i j := ⟨_, _, _, ValueIdx.eq_ix3 y⟩
  have e₁ : (Rect.unit (s := ⟨3, ![2, m, n]⟩) ![1, 0, 0] ![1, m, n] inb₁).emb (ix3 0 i j) = ix3 1 i j := by
    refine Rect.emb_eq_of_coords _ _ _ fun d => ?_
    match d with
    | ⟨0, _⟩ => rfl
    | ⟨1, _⟩ => show i.val = 0 + 1 * i.val; omega
    | ⟨2, _⟩ => show j.val = 0 + 1 * j.val; omega
  have e₀ : (Rect.unit (s := ⟨3, ![2, m, n]⟩) ![0, 0, 0] ![1, m, n] inb₀).emb (ix3 0 i j) = ix3 0 i j := by
    refine Rect.emb_eq_of_coords _ _ _ fun d => ?_
    match d with
    | ⟨0, _⟩ => rfl
    | ⟨1, _⟩ => show i.val = 0 + 1 * i.val; omega
    | ⟨2, _⟩ => show j.val = 0 + 1 * j.val; omega
  match l with
  | ⟨1, _⟩ =>
    show View.canon _ (ix3 1 i j) = G (ix3 1 i j)
    rw [← h₁, ← e₁]; exact View.canon_cons_emb _ _ _ _
  | ⟨0, _⟩ =>
    show View.canon _ (ix3 0 i j) = G (ix3 0 i j)
    have hn : ix3 0 i j ∉ (Rect.unit (s := ⟨3, ![2, m, n]⟩) ![1, 0, 0] ![1, m, n] inb₁).set :=
      Rect.not_mem_set_of_axis _ (ix3 0 i j) 0 1 1 rfl rfl rfl (.inl (by show 0 < 1; exact Nat.zero_lt_one))
    rw [View.canon_cons_of_not_mem ⟨Rect.unit (s := ⟨3, ![2, m, n]⟩) ![1, 0, 0] ![1, m, n] inb₁, w₁⟩ _ hn, ← h₀, ← e₀]
    exact View.canon_cons_emb _ _ _ _

theorem cutD_at (v : FVec Ideal S16x2560 .f32) (f : ℕ → ℕ → EReal) (hv : ∀ (b : Fin 16) (i : Fin 2560), v (ix2 b i) = f b.val i.val)
    (k : Fin 320) (p : Fin 128) : cutD v (ix3 0 k p) = f (k.val / 20) (128 * (k.val % 20) + p.val) := by
  have hk := k.isLt; have hp := p.isLt
  unfold cutD
  rw [shapeCast_ab_1ab_apply, cutRows v _ (q := 20) (by norm_num) ⟨k.val / 20, by omega⟩ ⟨128 * (k.val % 20) + p.val, by omega⟩ k p
    (by show k.val = 20 * (k.val / 20) + (128 * (k.val % 20) + p.val) / 128; omega)
    (by show p.val = (128 * (k.val % 20) + p.val) % 128; omega)]
  exact hv _ _

theorem cutF_at (v : FVec Ideal S16x6912 .f32) (f : ℕ → ℕ → EReal) (hv : ∀ (b : Fin 16) (i : Fin 6912), v (ix2 b i) = f b.val i.val)
    (k : Fin 864) (p : Fin 128) : cutF v (ix3 0 k p) = f (k.val / 54) (128 * (k.val % 54) + p.val) := by
  have hk := k.isLt; have hp := p.isLt
  unfold cutF
  rw [shapeCast_ab_1ab_apply, cutRows v _ (q := 54) (by norm_num) ⟨k.val / 54, by omega⟩ ⟨128 * (k.val % 54) + p.val, by omega⟩ k p
    (by show k.val = 54 * (k.val / 54) + (128 * (k.val % 54) + p.val) / 128; omega)
    (by show p.val = (128 * (k.val % 54) + p.val) % 128; omega)]
  exact hv _ _

theorem row_at (v : FVec Ideal S16 .f32) (f : ℕ → EReal) (hv : ∀ b : Fin 16, v (ix1 b) = f b.val) (i : Fin 1) (b : Fin 16) :
    row v (ix3 0 i b) = f b.val := by
  unfold row
  rw [shapeCast_ab_1ab_apply, shapeCast_a_1a_apply]; exact hv b

section
variable (x0 : Vec Ideal S16x2560 .bf16) (x1 : Vec Ideal S2x320x128 .f32) (x2 : Vec Ideal S2x640x2560 .i8) (x3 : Vec Ideal S2x1728x2560 .i8)
  (x4 : Vec Ideal S2x1728x2560 .i8) (x5 : Vec Ideal S2x640x6912 .i8) (x6 : Vec Ideal S2x7 .bf16) (x7 : Vec Ideal S2x2560 .f32)
  (x8 : Vec Ideal S2x2560 .f32) (x9 : Vec Ideal S2x6912 .f32)

theorem val10 : out0_10 x0 x1 x2 x3 x4 x5 x6 x7 x8 x9 = (data x0 x1 x2 x3 x4 x5 x6 x7 x8 x9).resid := by
  rw [out10]
  exact canon_two _ _ _ _ _ (fun i j => cutD_at _ ((data x0 x1 x2 x3 x4 x5 x6 x7 x8 x9).res 2) (rr2_at x0 x1 x2 x3 x4 x5 x6 x7 x8 x9) i j) fun i j => cutD_at _ ((data x0 x1 x2 x3 x4 x5 x6 x7 x8 x9).res 1) (rr1_at x0 x1 x2 x3 x4 x5 x6 x7 x8 x9) i j
theorem val11 : out0_11 x0 x1 x2 x3 x4 x5 x6 x7 x8 x9 = (data x0 x1 x2 x3 x4 x5 x6 x7 x8 x9).midA := by
  rw [out11]
  exact canon_two _ _ _ _ _ (fun i j => cutD_at _ ((data x0 x1 x2 x3 x4 x5 x6 x7 x8 x9).mid 1) (mm1_at x0 x1 x2 x3 x4 x5 x6 x7 x8 x9) i j) fun i j => cutD_at _ ((data x0 x1 x2 x3 x4 x5 x6 x7 x8 x9).mid 0) (mm0_at x0 x1 x2 x3 x4 x5 x6 x7 x8 x9) i j
theorem val12 : out0_12 x0 x1 x2 x3 x4 x5 x6 x7 x8 x9 = (data x0 x1 x2 x3 x4 x5 x6 x7 x8 x9).hidA := by
  rw [out12]
  exact canon_two _ _ _ _ _ (fun i j => cutF_at _ ((data x0 x1 x2 x3 x4 x5 x6 x7 x8 x9).hid 1) (hh1_at x0 x1 x2 x3 x4 x5 x6 x7 x8 x9) i j) fun i j => cutF_at _ ((data x0 x1 x2 x3 x4 x5 x6 x7 x8 x9).hid 0) (hh0_at x0 x1 x2 x3 x4 x5 x6 x7 x8 x9) i j
theorem val13 : out0_13 x0 x1 x2 x3 x4 x5 x6 x7 x8 x9 = (data x0 x1 x2 x3 x4 x5 x6 x7 x8 x9).c2 := by
  rw [out13]
  exact canon_two (e := .i8) _ _ _ _ _
    (fun i j => (shapeCast_ab_1ab_apply _ _ _ i j).trans (quantCode_at wideD 0x45200000#32 _ _ _ _ (reads1 x0 x1 x2 x3 x4 x5 x6 x7 x8 x9).a (reads1 x0 x1 x2 x3 x4 x5 x6 x7 x8 x9).ga i j))
    fun i j => (shapeCast_ab_1ab_apply _ _ _ i j).trans (quantCode_at wideD 0x45200000#32 _ _ _ _ (reads0 x0 x1 x2 x3 x4 x5 x6 x7 x8 x9).a (reads0 x0 x1 x2 x3 x4 x5 x6 x7 x8 x9).ga i j)
theorem val14 : out0_14 x0 x1 x2 x3 x4 x5 x6 x7 x8 x9 = (data x0 x1 x2 x3 x4 x5 x6 x7 x8 x9).s2 := by
  rw [out14]
  exact canon_two _ _ _ _ _
    (fun i j => row_at _ (fun b => ((data x0 x1 x2 x3 x4 x5 x6 x7 x8 x9).L 1).s2 ((data x0 x1 x2 x3 x4 x5 x6 x7 x8 x9).a 1 b)) (quantScale_at wideD 0x45200000#32 _ _ _ _ (reads1 x0 x1 x2 x3 x4 x5 x6 x7 x8 x9).a (reads1 x0 x1 x2 x3 x4 x5 x6 x7 x8 x9).ga) i j)
    fun i j => row_at _ (fun b => ((data x0 x1 x2 x3 x4 x5 x6 x7 x8 x9).L 0).s2 ((data x0 x1 x2 x3 x4 x5 x6 x7 x8 x9).a 0 b)) (quantScale_at wideD 0x45200000#32 _ _ _ _ (reads0 x0 x1 x2 x3 x4 x5 x6 x7 x8 x9).a (reads0 x0 x1 x2 x3 x4 x5 x6 x7 x8 x9).ga) i j
theorem val15 : out0_15 x0 x1 x2 x3 x4 x5 x6 x7 x8 x9 = (data x0 x1 x2 x3 x4 x5 x6 x7 x8 x9).c3 := by
  rw [out15]
  exact canon_two (e := .i8) _ _ _ _ _
    (fun i j => (shapeCast_ab_1ab_apply _ _ _ i j).trans (quantCode_at wideD 0x45200000#32 _ _ _ _ (mm1_at x0 x1 x2 x3 x4 x5 x6 x7 x8 x9) (reads1 x0 x1 x2 x3 x4 x5 x6 x7 x8 x9).gp i j))
    fun i j => (shapeCast_ab_1ab_apply _ _ _ i j).trans (quantCode_at wideD 0x45200000#32 _ _ _ _ (mm0_at x0 x1 x2 x3 x4 x5 x6 x7 x8 x9) (reads0 x0 x1 x2 x3 x4 x5 x6 x7 x8 x9).gp i j)
theorem val16 : out0_16 x0 x1 x2 x3 x4 x5 x6 x7 x8 x9 = (data x0 x1 x2 x3 x4 x5 x6 x7 x8 x9).s3 := by
  rw [out16]
  exact canon_two _ _ _ _ _
    (fun i j => row_at _ (fun b => ((data x0 x1 x2 x3 x4 x5 x6 x7 x8 x9).L 1).s3 ((data x0 x1 x2 x3 x4 x5 x6 x7 x8 x9).mid 1 b)) (quantScale_at wideD 0x45200000#32 _ _ _ _ (mm1_at x0 x1 x2 x3 x4 x5 x6 x7 x8 x9) (reads1 x0 x1 x2 x3 x4 x5 x6 x7 x8 x9).gp) i j)
    fun i j => row_at _ (fun b => ((data x0 x1 x2 x3 x4 x5 x6 x7 x8 x9).L 0).s3 ((data x0 x1 x2 x3 x4 x5 x6 x7 x8 x9).mid 0 b)) (quantScale_at wideD 0x45200000#32 _ _ _ _ (mm0_at x0 x1 x2 x3 x4 x5 x6 x7 x8 x9) (reads0 x0 x1 x2 x3 x4 x5 x6 x7 x8 x9).gp) i j
theorem val17 : out0_17 x0 x1 x2 x3 x4 x5 x6 x7 x8 x9 = (data x0 x1 x2 x3 x4 x5 x6 x7 x8 x9).c4 := by
  rw [out17]
  exact canon_two (e := .i8) _ _ _ _ _
    (fun i j => (shapeCast_ab_1ab_apply _ _ _ i j).trans (quantCode_at wideF 0x45D80000#32 _ _ _ _ (hh1_at x0 x1 x2 x3 x4 x5 x6 x7 x8 x9) (reads1 x0 x1 x2 x3 x4 x5 x6 x7 x8 x9).gf i j))
    fun i j => (shapeCast_ab_1ab_apply _ _ _ i j).trans (quantCode_at wideF 0x45D80000#32 _ _ _ _ (hh0_at x0 x1 x2 x3 x4 x5 x6 x7 x8 x9) (reads0 x0 x1 x2 x3 x4 x5 x6 x7 x8 x9).gf i j)
theorem val18 : out0_18 x0 x1 x2 x3 x4 x5 x6 x7 x8 x9 = (data x0 x1 x2 x3 x4 x5 x6 x7 x8 x9).s4 := by
  rw [out18]
  exact canon_two _ _ _ _ _
    (fun i j => row_at _ (fun b => ((data x0 x1 x2 x3 x4 x5 x6 x7 x8 x9).L 1).s4 ((data x0 x1 x2 x3 x4 x5 x6 x7 x8 x9).hid 1 b)) (quantScale_at wideF 0x45D80000#32 _ _ _ _ (hh1_at x0 x1 x2 x3 x4 x5 x6 x7 x8 x9) (reads1 x0 x1 x2 x3 x4 x5 x6 x7 x8 x9).gf) i j)
    fun i j => row_at _ (fun b => ((data x0 x1 x2 x3 x4 x5 x6 x7 x8 x9).L 0).s4 ((data x0 x1 x2 x3 x4 x5 x6 x7 x8 x9).hid 0 b)) (quantScale_at wideF 0x45D80000#32 _ _ _ _ (hh0_at x0 x1 x2 x3 x4 x5 x6 x7 x8 x9) (reads0 x0 x1 x2 x3 x4 x5 x6 x7 x8 x9).gf) i j
end
end Cert.RefLayer
-- ==== Proof.RefFinal.lean ====
module

public import proofs.«01_k».proof.Proof.RefValue
public import Idealize.ShloMosaic.Lib.Pipeline.ValueKit

/-!
# What the reference leaves in memory

The whole arrays the call reads and writes, over the memory the program starts from.
-/

@[expose] public section

set_option maxRecDepth 16384

noncomputable section

namespace Cert.RefLayer

open Cert.ReferenceIdeal Cert.ReferenceIdeal.Gen
open Idealize.ShloMosaic Idealize.ShloMosaic.TcCoe Idealize.SL.Sem
open Idealize.ShloMosaic.Pipeline

variable (m : (ℓ : Loc nD τ sig) → Buf (Elt Ideal) ℓ) (c : Dev nD)

/-! Each window's one block is its whole array. -/

theorem iblk0 : iblk m c 0 t0_0 = V m c main_v0 :=
  funext fun j => congrArg (V m c main_v0) (funext fun a => Fin.ext (by show 0 * _ + 1 * (j a).val = (j a).val; omega))
theorem iblk1 : iblk m c 1 t0_0 = V m c main_arg1 :=
  funext fun j => congrArg (V m c main_arg1) (funext fun a => Fin.ext (by show 0 * _ + 1 * (j a).val = (j a).val; omega))
theorem iblk2 : iblk m c 2 t0_0 = V m c main_arg2 :=
  funext fun j => congrArg (V m c main_arg2) (funext fun a => Fin.ext (by show 0 * _ + 1 * (j a).val = (j a).val; omega))
theorem iblk3 : iblk m c 3 t0_0 = V m c main_arg3 :=
  funext fun j => congrArg (V m c main_arg3) (funext fun a => Fin.ext (by show 0 * _ + 1 * (j a).val = (j a).val; omega))
theorem iblk4 : iblk m c 4 t0_0 = V m c main_arg4 :=
  funext fun j => congrArg (V m c main_arg4) (funext fun a => Fin.ext (by show 0 * _ + 1 * (j a).val = (j a).val; omega))
theorem iblk5 : iblk m c 5 t0_0 = V m c main_arg5 :=
  funext fun j => congrArg (V m c main_arg5) (funext fun a => Fin.ext (by show 0 * _ + 1 * (j a).val = (j a).val; omega))
theorem iblk6 : iblk m c 6 t0_0 = V m c main_arg6 :=
  funext fun j => congrArg (V m c main_arg6) (funext fun a => Fin.ext (by show 0 * _ + 1 * (j a).val = (j a).val; omega))
theorem iblk7 : iblk m c 7 t0_0 = V m c main_arg7 :=
  funext fun j => congrArg (V m c main_arg7) (funext fun a => Fin.ext (by show 0 * _ + 1 * (j a).val = (j a).val; omega))
theorem iblk8 : iblk m c 8 t0_0 = V m c main_arg8 :=
  funext fun j => congrArg (V m c main_arg8) (funext fun a => Fin.ext (by show 0 * _ + 1 * (j a).val = (j a).val; omega))
theorem iblk9 : iblk m c 9 t0_0 = V m c main_arg9 :=
  funext fun j => congrArg (V m c main_arg9) (funext fun a => Fin.ext (by show 0 * _ + 1 * (j a).val = (j a).val; omega))

theorem flat_v0 : V m c main_v0 = shapeCast S16x2560 (m ((c : Thread nD τ).loc main_arg0)) shapeCasts_S16x1x2560_S16x2560 := by
  rfl

/-- What the two layers are computed from, off the memory the reference starts from. -/
abbrev start : Spec.Data := data (shapeCast S16x2560 (m ((c : Thread nD τ).loc main_arg0)) shapeCasts_S16x1x2560_S16x2560)
  (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

theorem data_start : data (iblk m c 0 t0_0) (iblk m c 1 t0_0) (iblk m c 2 t0_0) (iblk m c 3 t0_0) (iblk m c 4 t0_0)
    (iblk m c 5 t0_0) (iblk m c 6 t0_0) (iblk m c 7 t0_0) (iblk m c 8 t0_0) (iblk m c 9 t0_0) = start m c := by
  rw [iblk0, iblk1, iblk2, iblk3, iblk4, iblk5, iblk6, iblk7, iblk8, iblk9, flat_v0, V_main_arg1, V_main_arg2, V_main_arg3,
    V_main_arg4, V_main_arg5, V_main_arg6, V_main_arg7, V_main_arg8, V_main_arg9]

theorem final10 : (dats m 0 c).arrAt 10 (cfgs 0).N = (start m c).resid := by
  refine (dats m 0 c).arrAt_eq_of_after_last 10 t0_0 (by decide +kernel) _ fun j => ?_
  blk_simp
  rw [after0_10, val10, data_start]
theorem final11 : (dats m 0 c).arrAt 11 (cfgs 0).N = (start m c).midA := by
  refine (dats m 0 c).arrAt_eq_of_after_last 11 t0_0 (by decide +kernel) _ fun j => ?_
  blk_simp
  rw [after0_11, val11, data_start]
theorem final12 : (dats m 0 c).arrAt 12 (cfgs 0).N = (start m c).hidA := by
  refine (dats m 0 c).arrAt_eq_of_after_last 12 t0_0 (by decide +kernel) _ fun j => ?_
  blk_simp
  rw [after0_12, val12, data_start]
theorem final13 : (dats m 0 c).arrAt 13 (cfgs 0).N = (start m c).c2 := by
  refine (dats m 0 c).arrAt_eq_of_after_last 13 t0_0 (by decide +kernel) _ fun j => ?_
  blk_simp
  rw [after0_13, val13, data_start]
theorem final14 : (dats m 0 c).arrAt 14 (cfgs 0).N = (start m c).s2 := by
  refine (dats m 0 c).arrAt_eq_of_after_last 14 t0_0 (by decide +kernel) _ fun j => ?_
  blk_simp
  rw [after0_14, val14, data_start]
theorem final15 : (dats m 0 c).arrAt 15 (cfgs 0).N = (start m c).c3 := by
  refine (dats m 0 c).arrAt_eq_of_after_last 15 t0_0 (by decide +kernel) _ fun j => ?_
  blk_simp
  rw [after0_15, val15, data_start]
theorem final16 : (dats m 0 c).arrAt 16 (cfgs 0).N = (start m c).s3 := by
  refine (dats m 0 c).arrAt_eq_of_after_last 16 t0_0 (by decide +kernel) _ fun j => ?_
  blk_simp
  rw [after0_16, val16, data_start]
theorem final17 : (dats m 0 c).arrAt 17 (cfgs 0).N = (start m c).c4 := by
  refine (dats m 0 c).arrAt_eq_of_after_last 17 t0_0 (by decide +kernel) _ fun j => ?_
  blk_simp
  rw [after0_17, val17, data_start]
theorem final18 : (dats m 0 c).arrAt 18 (cfgs 0).N = (start m c).s4 := by
  refine (dats m 0 c).arrAt_eq_of_after_last 18 t0_0 (by decide +kernel) _ fun j => ?_
  blk_simp
  rw [after0_18, val18, data_start]
end Cert.RefLayer
-- ==== Proof.SetupKernelIdeal.lean ====
/- What the symbolic run of the body and the launch are stated over: the contents of every operand when
   the call is reached (`V`, `hmain`, `iblk`), what the call's schedule does with its one window, and the
   resources the body owns: the HBM operands, the copies' semaphores. The text is that of the library's
   frame kit for a kernel with these operands, under the namespace `Hand`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v1_0, main_v1_1, main_v1_2, main_v1_3, main_v1_4, main_v1_5, main_v1_6, main_v1_7, main_v1_8}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).1 0).trans (((dats 0 c).arrAt_in 0 rfl _).trans ((hA c 0).trans (V_main_arg10 m c)))⟩) h

/-! ## The kernel body on any staging memrefs: a subtype the run finds -/

/-- Each window's current staging memref at point `t`, spelled as the pipeline passes it (`bodyAt0`), and its wholeness. -/
abbrev ms0_0 (t : Fin cfg0.N) : Memref sig .tc .smem S16 .i32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S16x2560 .bf16 := Memref.whole cc0_scratch0
abbrev scM0_1 : Memref sig .tc .vmem S640x2560 .i8 := Memref.whole cc0_scratch1
abbrev scM0_2 : Memref sig .tc .vmem S1728x2560 .i8 := Memref.whole cc0_scratch2
abbrev scM0_3 : Memref sig .tc .vmem S1728x2560 .i8 := Memref.whole cc0_scratch3
abbrev scM0_4 : Memref sig .tc .vmem S640x6912 .i8 := Memref.whole cc0_scratch4
abbrev scM0_5 : Memref sig .tc .vmem S2x7 .bf16 := Memref.whole cc0_scratch5
abbrev scM0_6 : Memref sig .tc .vmem S2x2560 .f32 := Memref.whole cc0_scratch6
abbrev scM0_7 : Memref sig .tc .vmem S2x2560 .f32 := Memref.whole cc0_scratch7
abbrev scM0_8 : Memref sig .tc .vmem S2x6912 .f32 := Memref.whole cc0_scratch8
abbrev scM0_9 : Memref sig .tc .vmem S20x16x128 .f32 := Memref.whole cc0_scratch9
abbrev scM0_10 : Memref sig .tc .vmem S20x16x128 .f32 := Memref.whole cc0_scratch10
abbrev scM0_11 : Memref sig .tc .vmem S54x16x128 .bf16 := Memref.whole cc0_scratch11
abbrev scM0_12 : Memref sig .tc .vmem S54x16x128 .f32 := Memref.whole cc0_scratch12
abbrev scM0_13 : Memref sig .tc .vmem S320x128 .f32 := Memref.whole cc0_scratch13
abbrev scM0_14 : Memref sig .tc .vmem S320x128 .f32 := Memref.whole cc0_scratch14
abbrev scM0_15 : Memref sig .tc .vmem S320x128 .f32 := Memref.whole cc0_scratch15
abbrev scM0_16 : Memref sig .tc .vmem S864x128 .f32 := Memref.whole cc0_scratch16
abbrev scM0_17 : Memref sig .tc .vmem S16x2560 .i8 := Memref.whole cc0_scratch17
abbrev scM0_18 : Memref sig .tc .vmem S16x2560 .i8 := Memref.whole cc0_scratch18
abbrev scM0_19 : Memref sig .tc .vmem S16x6912 .i8 := Memref.whole cc0_scratch19
abbrev scM0_20 : Memref sig .tc .vmem S14x1x16 .f32 := Memref.whole cc0_scratch20
/-- The operands left in HBM that the body copies into scratch itself, whole. -/
abbrev hbM0_0 : Memref sig .tc .hbm S16x2560 .bf16 := Memref.whole main_v0
abbrev hbM0_1 : Memref sig .tc .hbm S2x320x128 .f32 := Memref.whole main_arg1
abbrev hbM0_2 : Memref sig .tc .hbm S2x640x2560 .i8 := Memref.whole main_arg2
abbrev hbM0_3 : Memref sig .tc .hbm S2x1728x2560 .i8 := Memref.whole main_arg3
abbrev hbM0_4 : Memref sig .tc .hbm S2x1728x2560 .i8 := Memref.whole main_arg4
abbrev hbM0_5 : Memref sig .tc .hbm S2x640x6912 .i8 := Memref.whole main_arg5
abbrev hbM0_6 : Memref sig .tc .hbm S2x7 .bf16 := Memref.whole main_arg6
abbrev hbM0_7 : Memref sig .tc .hbm S2x2560 .f32 := Memref.whole main_arg7
abbrev hbM0_8 : Memref sig .tc .hbm S2x2560 .f32 := Memref.whole main_arg8
abbrev hbM0_9 : Memref sig .tc .hbm S2x6912 .f32 := Memref.whole main_arg9
abbrev hbM0_10 : Memref sig .tc .hbm S2x320x128 .f32 := Memref.whole main_v1_0
abbrev hbM0_11 : Memref sig .tc .hbm S2x320x128 .f32 := Memref.whole main_v1_1
abbrev hbM0_12 : Memref sig .tc .hbm S2x864x128 .f32 := Memref.whole main_v1_2
abbrev hbM0_13 : Memref sig .tc .hbm S2x16x2560 .i8 := Memref.whole main_v1_3
abbrev hbM0_14 : Memref sig .tc .hbm S2x1x16 .f32 := Memref.whole main_v1_4
abbrev hbM0_15 : Memref sig .tc .hbm S2x16x2560 .i8 := Memref.whole main_v1_5
abbrev hbM0_16 : Memref sig .tc .hbm S2x1x16 .f32 := Memref.whole main_v1_6
abbrev hbM0_17 : Memref sig .tc .hbm S2x16x6912 .i8 := Memref.whole main_v1_7
abbrev hbM0_18 : Memref sig .tc .hbm S2x1x16 .f32 := Memref.whole main_v1_8
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 33 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33] : Fin 33 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32] (by decide) (by decide)]; rfl
/-- The HBM operands the body copies from and leaves unchanged, as references: unscoped, no window's array (`Pipeline.restRefs`). -/
def H0 : Finset (Ref sig .tc) := {main_v0, main_arg1, main_arg2, main_arg3, main_arg4, main_arg5, main_arg6, main_arg7, main_arg8, main_arg9}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg1) ∗ hbPt0 c hbM0_2 (V m c main_arg2) ∗ hbPt0 c hbM0_3 (V m c main_arg3) ∗ hbPt0 c hbM0_4 (V m c main_arg4) ∗ hbPt0 c hbM0_5 (V m c main_arg5) ∗ hbPt0 c hbM0_6 (V m c main_arg6) ∗ hbPt0 c hbM0_7 (V m c main_arg7) ∗ hbPt0 c hbM0_8 (V m c main_arg8) ∗ hbPt0 c hbM0_9 (V m c main_arg9)) := by
  rw [BI.bigSep_eq_bigSepL_of_eq [main_v0, main_arg1, main_arg2, main_arg3, main_arg4, main_arg5, main_arg6, main_arg7, main_arg8, main_arg9] (by decide) (by decide)]; rfl
/-- The written operands' points-tos at some contents each (`Pipeline.owned`), listed. -/
theorem ownedPts0_eq (c : Dev nD) :
    (Pipeline.owned R0 c : sProp 𝕄) = iprop((∃ f, hbPt0 c hbM0_10 f) ∗ (∃ f, hbPt0 c hbM0_11 f) ∗ (∃ f, hbPt0 c hbM0_12 f) ∗ (∃ f, hbPt0 c hbM0_13 f) ∗ (∃ f, hbPt0 c hbM0_14 f) ∗ (∃ f, hbPt0 c hbM0_15 f) ∗ (∃ f, hbPt0 c hbM0_16 f) ∗ (∃ f, hbPt0 c hbM0_17 f) ∗ (∃ f, hbPt0 c hbM0_18 f)) := by
  unfold Pipeline.owned; rw [BI.bigSep_eq_bigSepL_of_eq [main_v1_0, main_v1_1, main_v1_2, main_v1_3, main_v1_4, main_v1_5, main_v1_6, main_v1_7, main_v1_8] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v0) ∗ hbPt0 c hbM0_1 (V m c main_arg1) ∗ hbPt0 c hbM0_2 (V m c main_arg2) ∗ hbPt0 c hbM0_3 (V m c main_arg3) ∗ hbPt0 c hbM0_4 (V m c main_arg4) ∗ hbPt0 c hbM0_5 (V m c main_arg5) ∗ hbPt0 c hbM0_6 (V m c main_arg6) ∗ hbPt0 c hbM0_7 (V m c main_arg7) ∗ hbPt0 c hbM0_8 (V m c main_arg8) ∗ hbPt0 c hbM0_9 (V m c main_arg9)) ∗ iprop((∃ f, hbPt0 c hbM0_10 f) ∗ (∃ f, hbPt0 c hbM0_11 f) ∗ (∃ f, hbPt0 c hbM0_12 f) ∗ (∃ f, hbPt0 c hbM0_13 f) ∗ (∃ f, hbPt0 c hbM0_14 f) ∗ (∃ f, hbPt0 c hbM0_15 f) ∗ (∃ f, hbPt0 c hbM0_16 f) ∗ (∃ f, hbPt0 c hbM0_17 f) ∗ (∃ f, hbPt0 c hbM0_18 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, owns_whole]; try rfl

end Cert.KernelIdeal.Hand

end
-- ==== Proof.RunKernelIdeal.lean ====
/- The symbolic run of the whole body. The two counted loops (over the layers, and the gate/up loop inside
   a layer) are run trip by trip. The run is a definition: its first components are what each result array
   holds at the end, as a function of what the operands held at the start; the last is the triple that says so.
   The values it goes through get names (`bodyRun.sl.…`), which the value proof speaks about. -/
module

public import proofs.«01_k».proof.Proof.SetupKernelIdeal

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 0 in set_option sl_exec.dmaWindow true in set_option sl_exec.dmaWindowSet true in
/-- The body's triple: on whole staging memrefs — the inputs' at their contents,
    —
    the body runs to the continuation holding the inputs' as they were, the scratch at some contents: the printed functions are their skeletons (`Gen.*_eq_skeleton`),
    which `sl_exec` runs (Lib/Exec.lean). -/
def bodyRun (c : Dev nD) (arg10 : Memref sig .tc .smem S16 .i32) (harg10 : arg10.IsWhole) (arg20 : Memref sig .tc .vmem S16x2560 .bf16) (harg20 : arg20.IsWhole) (arg21 : Memref sig .tc .vmem S640x2560 .i8) (harg21 : arg21.IsWhole) (arg22 : Memref sig .tc .vmem S1728x2560 .i8) (harg22 : arg22.IsWhole) (arg23 : Memref sig .tc .vmem S1728x2560 .i8) (harg23 : arg23.IsWhole) (arg24 : Memref sig .tc .vmem S640x6912 .i8) (harg24 : arg24.IsWhole) (arg25 : Memref sig .tc .vmem S2x7 .bf16) (harg25 : arg25.IsWhole) (arg26 : Memref sig .tc .vmem S2x2560 .f32) (harg26 : arg26.IsWhole) (arg27 : Memref sig .tc .vmem S2x2560 .f32) (harg27 : arg27.IsWhole) (arg28 : Memref sig .tc .vmem S2x6912 .f32) (harg28 : arg28.IsWhole) (arg29 : Memref sig .tc .vmem S20x16x128 .f32) (harg29 : arg29.IsWhole) (arg30 : Memref sig .tc .vmem S20x16x128 .f32) (harg30 : arg30.IsWhole) (arg31 : Memref sig .tc .vmem S54x16x128 .bf16) (harg31 : arg31.IsWhole) (arg32 : Memref sig .tc .vmem S54x16x128 .f32) (harg32 : arg32.IsWhole) (arg33 : Memref sig .tc .vmem S320x128 .f32) (harg33 : arg33.IsWhole) (arg34 : Memref sig .tc .vmem S320x128 .f32) (harg34 : arg34.IsWhole) (arg35 : Memref sig .tc .vmem S320x128 .f32) (harg35 : arg35.IsWhole) (arg36 : Memref sig .tc .vmem S864x128 .f32) (harg36 : arg36.IsWhole) (arg37 : Memref sig .tc .vmem S16x2560 .i8) (harg37 : arg37.IsWhole) (arg38 : Memref sig .tc .vmem S16x2560 .i8) (harg38 : arg38.IsWhole) (arg39 : Memref sig .tc .vmem S16x6912 .i8) (harg39 : arg39.IsWhole) (arg40 : Memref sig .tc .vmem S14x1x16 .f32) (harg40 : arg40.IsWhole)
    (x0 : Vec F S16 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9)
    (fw10 : HbBuf0 (F := F) c hbM0_10) (fw11 : HbBuf0 (F := F) c hbM0_11) (fw12 : HbBuf0 (F := F) c hbM0_12) (fw13 : HbBuf0 (F := F) c hbM0_13) (fw14 : HbBuf0 (F := F) c hbM0_14) (fw15 : HbBuf0 (F := F) c hbM0_15) (fw16 : HbBuf0 (F := F) c hbM0_16) (fw17 : HbBuf0 (F := F) c hbM0_17) (fw18 : HbBuf0 (F := F) c hbM0_18)
    (fs0 : Buf (Elt F) (View.loc (c : Thread nD τ) arg20.view)) (fs1 : Buf (Elt F) (View.loc (c : Thread nD τ) arg21.view)) (fs2 : Buf (Elt F) (View.loc (c : Thread nD τ) arg22.view)) (fs3 : Buf (Elt F) (View.loc (c : Thread nD τ) arg23.view)) (fs4 : Buf (Elt F) (View.loc (c : Thread nD τ) arg24.view)) (fs5 : Buf (Elt F) (View.loc (c : Thread nD τ) arg25.view)) (fs6 : Buf (Elt F) (View.loc (c : Thread nD τ) arg26.view)) (fs7 : Buf (Elt F) (View.loc (c : Thread nD τ) arg27.view)) (fs8 : Buf (Elt F) (View.loc (c : Thread nD τ) arg28.view)) (fs9 : Buf (Elt F) (View.loc (c : Thread nD τ) arg29.view)) (fs10 : Buf (Elt F) (View.loc (c : Thread nD τ) arg30.view)) (fs11 : Buf (Elt F) (View.loc (c : Thread nD τ) arg31.view)) (fs12 : Buf (Elt F) (View.loc (c : Thread nD τ) arg32.view)) (fs13 : Buf (Elt F) (View.loc (c : Thread nD τ) arg33.view)) (fs14 : Buf (Elt F) (View.loc (c : Thread nD τ) arg34.view)) (fs15 : Buf (Elt F) (View.loc (c : Thread nD τ) arg35.view)) (fs16 : Buf (Elt F) (View.loc (c : Thread nD τ) arg36.view)) (fs17 : Buf (Elt F) (View.loc (c : Thread nD τ) arg37.view)) (fs18 : Buf (Elt F) (View.loc (c : Thread nD τ) arg38.view)) (fs19 : Buf (Elt F) (View.loc (c : Thread nD τ) arg39.view)) (fs20 : Buf (Elt F) (View.loc (c : Thread nD τ) arg40.view)) :
      Σ' (G10 : HbBuf0 (F := F) c hbM0_10), Σ' (G11 : HbBuf0 (F := F) c hbM0_11), Σ' (G12 : HbBuf0 (F := F) c hbM0_12), Σ' (G13 : HbBuf0 (F := F) c hbM0_13), Σ' (G14 : HbBuf0 (F := F) c hbM0_14), Σ' (G15 : HbBuf0 (F := F) c hbM0_15), Σ' (G16 : HbBuf0 (F := F) c hbM0_16), Σ' (G17 : HbBuf0 (F := F) c hbM0_17), { G18 : HbBuf0 (F := F) c hbM0_18 //
      ∀ (W : Waits sig Unit) (K : PUnit → sProp 𝕄),
        iprop(owns (c : Thread nD τ) arg10 fullShare x0 ∗ (View.loc (c : Thread nD τ) arg20.view ↦[arg20.view.set]{fullShare} fs0) ∗ (View.loc (c : Thread nD τ) arg21.view ↦[arg21.view.set]{fullShare} fs1) ∗ (View.loc (c : Thread nD τ) arg22.view ↦[arg22.view.set]{fullShare} fs2) ∗ (View.loc (c : Thread nD τ) arg23.view ↦[arg23.view.set]{fullShare} fs3) ∗ (View.loc (c : Thread nD τ) arg24.view ↦[arg24.view.set]{fullShare} fs4) ∗ (View.loc (c : Thread nD τ) arg25.view ↦[arg25.view.set]{fullShare} fs5) ∗ (View.loc (c : Thread nD τ) arg26.view ↦[arg26.view.set]{fullShare} fs6) ∗ (View.loc (c : Thread nD τ) arg27.view ↦[arg27.view.set]{fullShare} fs7) ∗ (View.loc (c : Thread nD τ) arg28.view ↦[arg28.view.set]{fullShare} fs8) ∗ (View.loc (c : Thread nD τ) arg29.view ↦[arg29.view.set]{fullShare} fs9) ∗ (View.loc (c : Thread nD τ) arg30.view ↦[arg30.view.set]{fullShare} fs10) ∗ (View.loc (c : Thread nD τ) arg31.view ↦[arg31.view.set]{fullShare} fs11) ∗ (View.loc (c : Thread nD τ) arg32.view ↦[arg32.view.set]{fullShare} fs12) ∗ (View.loc (c : Thread nD τ) arg33.view ↦[arg33.view.set]{fullShare} fs13) ∗ (View.loc (c : Thread nD τ) arg34.view ↦[arg34.view.set]{fullShare} fs14) ∗ (View.loc (c : Thread nD τ) arg35.view ↦[arg35.view.set]{fullShare} fs15) ∗ (View.loc (c : Thread nD τ) arg36.view ↦[arg36.view.set]{fullShare} fs16) ∗ (View.loc (c : Thread nD τ) arg37.view ↦[arg37.view.set]{fullShare} fs17) ∗ (View.loc (c : Thread nD τ) arg38.view ↦[arg38.view.set]{fullShare} fs18) ∗ (View.loc (c : Thread nD τ) arg39.view ↦[arg39.view.set]{fullShare} fs19) ∗ (View.loc (c : Thread nD τ) arg40.view ↦[arg40.view.set]{fullShare} fs20) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fw10 ∗ hbPt0 c hbM0_11 fw11 ∗ hbPt0 c hbM0_12 fw12 ∗ hbPt0 c hbM0_13 fw13 ∗ hbPt0 c hbM0_14 fw14 ∗ hbPt0 c hbM0_15 fw15 ∗ hbPt0 c hbM0_16 fw16 ∗ hbPt0 c hbM0_17 fw17 ∗ hbPt0 c hbM0_18 fw18 ∗ owes (c : Thread nD τ) 0 W
            ∗ (iprop(owns (c : Thread nD τ) arg10 fullShare x0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 G10 ∗ hbPt0 c hbM0_11 G11 ∗ hbPt0 c hbM0_12 G12 ∗ hbPt0 c hbM0_13 G13 ∗ hbPt0 c hbM0_14 G14 ∗ hbPt0 c hbM0_15 G15 ∗ hbPt0 c hbM0_16 G16 ∗ hbPt0 c hbM0_17 G17 ∗ hbPt0 c hbM0_18 G18 ∗ (∃ W', owes (c : Thread nD τ) 0 W')) -∗ K ⟨⟩))
          ⊢ wp frame (wpE (defs₀ (F := F)) Variants.none c none) Set.univ (cc0_bitnet_layers (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) arg10 harg10 (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 cc0_scratch21 cc0_scratch22 cc0_scratch23) K } := by
    refine ⟨?_, ?_, ?_, ?_, ?_, ?_, ?_, ?_, ?_, ?run⟩
    case run =>
    intro W K
    simp only [cc0_bitnet_layers_eq_skeleton]; unfold cc0_bitnet_layers_skel
    unfold owns
    iintro ⟨⟨%f0, %hf0, H0⟩, HS0, HS1, HS2, HS3, HS4, HS5, HS6, HS7, HS8, HS9, HS10, HS11, HS12, HS13, HS14, HS15, HS16, HS17, HS18, HS19, HS20, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2, Hh3, Hh4, Hh5, Hh6, Hh7, Hh8, Hh9, Hh10, Hh11, Hh12, Hh13, Hh14, Hh15, Hh16, Hh17, Hh18, HW, Hk⟩
    obtain rfl := harg10.eq_unread hf0
    set_option sl_exec.unrollTrips 4 in sl_exec_parts
    sl_step
    iapply Hk
    isplitl [H0]
    · iexists _; isplitr; · ipureintro; exact harg10.read_unread _
      iexact H0
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    isplitl [HS15]
    · iexists _, _; isplitr; swap; · iexact HS15
      ipureintro; rfl
    isplitl [HS16]
    · iexists _, _; isplitr; swap; · iexact HS16
      ipureintro; rfl
    isplitl [HS17]
    · iexists _, _; isplitr; swap; · iexact HS17
      ipureintro; rfl
    isplitl [HS18]
    · iexists _, _; isplitr; swap; · iexact HS18
      ipureintro; rfl
    isplitl [HS19]
    · iexists _, _; isplitr; swap; · iexact HS19
      ipureintro; rfl
    isplitl [HS20]
    · iexists _, _; isplitr; swap; · iexact HS20
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    iexists _; iexact HW

end Cert.KernelIdeal.Hand

end
-- ==== Proof.Blocks.lean ====
module

public import proofs.«01_k».proof.Proof.Gen.KernelIdeal.Skeleton

/-!
# The kernel's arithmetic on blocks of 128 lanes

What one quantisation and one packed matrix product of the kernel compute, as terms over the blocks they
load, for any number of blocks: the kernel's own order of operations, with its unrolled steps as a recursion.
-/

@[expose] public section

set_option synthInstance.maxSize 4096

noncomputable section

namespace Cert.KernelIdeal.Blocks

open Cert.KernelIdeal Cert.KernelIdeal.Gen
open Idealize.ShloMosaic Idealize.SL.Sem

variable {F : FTy → Type} [FloatOps F]

/-- The first `n` of `N` things, the newest first: the order in which stores are listed. -/
def newest {α : Type} {N : ℕ} (f : Fin N → α) : (n : ℕ) → n ≤ N → List α
  | 0, _ => []
  | n + 1, h => f ⟨n, h⟩ :: newest f n (Nat.le_of_succ_le h)

/-- The running total `f 0 ∘ f 1 ∘ … ∘ f n`, from the left. -/
def chain {α : Type} (op : α → α → α) (f : ℕ → α) : ℕ → α
  | 0 => f 0
  | n + 1 => op (chain op f n) (f (n + 1))

/-- The root mean square of a row: over the `n + 1` blocks `V`, with the row's width `w` as a word. -/
def rms (V : ℕ → FVec F S16x128 .f32) (n : ℕ) (w : BitVec 32) : FVec F S16x1 .f32 :=
  sqrt (addf (divf (shapeCast S16x1 (multiReduction .add [1] S16 (chain addf (fun j => mulf (V j) (V j)) n) 0x00000000#32
    reduces_S16x128_S16 (.inl rfl) rfl) shapeCasts_S16_S16x1) (broadcast S16x1 (Scalar.ofBits .f32 w)))
    (broadcast S16x1 (Scalar.ofBits .f32 0x3727C5AC#32)))

/-- A block over the root mean square, times its gains. -/
def normed (den : FVec F S16x1 .f32) (v : FVec F S16x128 .f32) (g : FVec F S1x128 .f32) : FVec F S16x128 .f32 :=
  mulf (divf v (broadcastTo S16x128 den broadcasts_S16x1_S16x128)) (broadcastTo S16x128 g broadcasts_S1x128_S16x128)

/-- The greatest magnitude of each row. -/
def peak (den : FVec F S16x1 .f32) (V : ℕ → FVec F S16x128 .f32) (g : ℕ → FVec F S1x128 .f32) (n : ℕ) : FVec F S16 .f32 :=
  multiReduction .maximumf [1] S16 (chain maximumf (fun j => absf (normed den (V j) (g j))) n) 0xFF800000#32
    reduces_S16x128_S16 (.inl rfl) rfl

/-- The scale of each row: its greatest magnitude over 127, or one where that is zero. -/
def scaleOf (a : FVec F S16 .f32) : FVec F S16x1 .f32 :=
  select (cmpf .oeq (shapeCast S16x1 a shapeCasts_S16_S16x1) (broadcast S16x1 (Scalar.ofBits .f32 0x00000000#32)))
    (broadcast S16x1 (Scalar.ofBits .f32 0x3F800000#32))
    (divf (shapeCast S16x1 a shapeCasts_S16_S16x1) (broadcast S16x1 (Scalar.ofBits .f32 0x42FE0000#32)))

/-- The codes of a block, still as floats. -/
def coded (den s : FVec F S16x1 .f32) (v : FVec F S16x128 .f32) (g : FVec F S1x128 .f32) : FVec F S16x128 .f32 :=
  minimumf (broadcast S16x128 (Scalar.ofBits .f32 0x42FE0000#32))
    (maximumf (broadcast S16x128 (Scalar.ofBits .f32 0xC2FE0000#32))
      (roundeven (divf (normed den v g) (broadcastTo S16x128 s broadcasts_S16x1_S16x128))))

/-- The sum of each row's codes. -/
def total (C : ℕ → FVec F S16x128 .f32) (n : ℕ) : FVec F S16x1 .f32 :=
  shapeCast S16x1 (multiReduction .add [1] S16 (chain addf C n) 0x00000000#32
    reduces_S16x128_S16 (.inl rfl) rfl) shapeCasts_S16_S16x1

/-- The codes of a block as the matrix unit reads them. -/
def codeTile (c : FVec F S16x128 .f32) : FVec F S1x16x128 .bf16 :=
  shapeCast S1x16x128 (truncf .bf16 c bitsLt_bf16_f32) shapeCasts_S16x128_S1x16x128

/-- The codes of a block as they are returned. -/
def codeWord (c : FVec F S16x128 .f32) : IVec S16x128 8 :=
  shapeCast S16x128 (fptosi 8 c) shapeCasts_S16x128_S16x128

/-- One field of a block of packed weights, transposed and not shifted down. -/
def field (w : Vec F S128x256 .i8) (m : BitVec 8) : FVec F S256x128 .bf16 :=
  uitofp .bf16 (andi (transpose S256x128 [1, 0] w transposes_S128x256_p1_0_S256x128) (broadcast S256x128 m))

/-- Two code tiles side by side. -/
def wide (a b : Vec F S1x16x128 .bf16) : FVec F S16x256 .bf16 :=
  concatenate S16x256 1 [⟨S16x128, shapeCast S16x128 a shapeCasts_S1x16x128_S16x128⟩,
    ⟨S16x128, shapeCast S16x128 b shapeCasts_S1x16x128_S16x128⟩] concatenates_S16x128_S16x128_S16x256_d1

/-- One step of a packed product: two code tiles against two fields of one block of weights. -/
def step (a b : Vec F S1x16x128 .bf16) (w : Vec F S128x256 .i8) (m₀ m₁ : BitVec 8) : FVec F S16x256 .f32 :=
  matmul dot_S16x256_S256x256_S16x256_1_0_0_1_n_n none (wide a b)
    (concatenate S256x256 1 [⟨S256x128, field w m₀⟩, ⟨S256x128, field w m₁⟩] concatenates_S256x128_S256x128_S256x256_d1)
    (constant S16x256 .f32 0x00000000#32)

/-- The two accumulators of a packed product after its `n + 1` steps. -/
def accLo (A : ℕ → Vec F S1x16x128 .bf16) (W : ℕ → Vec F S128x256 .i8) (n : ℕ) : FVec F S16x256 .f32 :=
  chain addf (fun k => step (A (2 * k)) (A (2 * k + 1)) (W k) 3#8 12#8) n
def accHi (A : ℕ → Vec F S1x16x128 .bf16) (W : ℕ → Vec F S128x256 .i8) (n : ℕ) : FVec F S16x256 .f32 :=
  chain addf (fun k => step (A (2 * k)) (A (2 * k + 1)) (W k) 48#8 192#8) n

/-- The packed product for each of the four fields, shifted down. -/
def prod (A : ℕ → Vec F S1x16x128 .bf16) (W : ℕ → Vec F S128x256 .i8) (n : ℕ) : ℕ → FVec F S16x128 .f32
  | 0 => mulf (extractStridedSlice S16x128 ![0, 0] (accLo A W n) slices_S16x256_o0_0_S16x128)
      (broadcast S16x128 (Scalar.ofBits .f32 0x3F800000#32))
  | 1 => mulf (extractStridedSlice S16x128 ![0, 128] (accLo A W n) slices_S16x256_o0_128_S16x128)
      (broadcast S16x128 (Scalar.ofBits .f32 0x3E800000#32))
  | 2 => mulf (extractStridedSlice S16x128 ![0, 0] (accHi A W n) slices_S16x256_o0_0_S16x128)
      (broadcast S16x128 (Scalar.ofBits .f32 0x3D800000#32))
  | _ => mulf (extractStridedSlice S16x128 ![0, 128] (accHi A W n) slices_S16x256_o0_128_S16x128)
      (broadcast S16x128 (Scalar.ofBits .f32 0x3C800000#32))

/-- A projection added to the residual `r`, from one field's product `d`, the rows' totals and scales, and the weights' scale. -/
def added (r : FVec F S16x128 .f32) (d : FVec F S16x128 .f32) (t s : FVec F S16x1 .f32) (ws : FVec F S1x1 .f32) :
    FVec F S16x128 .f32 :=
  addf r (mulf (subf d (broadcastTo S16x128 t broadcasts_S16x1_S16x128))
    (broadcastTo S16x128 (mulf s (broadcastTo S16x1 ws broadcasts_S1x1_S16x1)) broadcasts_S16x1_S16x128))

end Cert.KernelIdeal.Blocks
-- ==== Proof.LayerTerms.lean ====
module

public import proofs.«01_k».proof.Proof.Blocks

/-!
# One layer of the kernel, from what it loads

`Loads` lists what a layer reads from its buffers; below it are the values the layer stores, in the kernel's
own order of operations.
-/

@[expose] public section

set_option synthInstance.maxSize 4096

noncomputable section

namespace Cert.KernelIdeal.Blocks

open Cert.KernelIdeal Cert.KernelIdeal.Gen
open Idealize.ShloMosaic Idealize.SL.Sem

variable {F : FTy → Type} [FloatOps F]

/-- `newest`, on top of what was there. -/
def newestOn {α : Type} {N : ℕ} (f : Fin N → α) (base : List α) : (n : ℕ) → n ≤ N → List α
  | 0, _ => base
  | n + 1, h => f ⟨n, h⟩ :: newestOn f base n (Nat.le_of_succ_le h)

/-- What a layer loads: the attention output's blocks, gains, code tiles as read back, blocks of packed weights,
    the weights' scales, and the residuals and the hidden vector as read back. -/
structure Loads (F : FTy → Type) where
  attn : ℕ → FVec F S16x128 .f32
  (ga gp gf : ℕ → FVec F S1x128 .f32)
  (act2 act3 act4 : ℕ → Vec F S1x16x128 .bf16)
  (wo wg wu wd : ℕ → ℕ → Vec F S128x256 .i8)
  (wgt wut : ℕ → Vec F S64x256 .i8)
  (so sg su sd : FVec F S1x1 .f32)
  (res mid hid : ℕ → Vec F S1x16x128 .f32)

/-- A tile as a block, and a block as a tile. -/
def flat (v : Vec F S1x16x128 .f32) : FVec F S16x128 .f32 := shapeCast S16x128 v shapeCasts_S1x16x128_S16x128
def tile (v : FVec F S16x128 .f32) : Vec F S1x16x128 .f32 := shapeCast S1x16x128 v shapeCasts_S16x128_S1x16x128
/-- A block as it goes to a strided store. -/
def same (v : FVec F S16x128 .f32) : FVec F S16x128 .f32 := shapeCast S16x128 v shapeCasts_S16x128_S16x128

/-- A block turned by 64 lanes. -/
def roll (v : FVec F S16x128 .f32) : FVec F S16x128 .f32 := dynamicRotate 1 64#32 none v rotates_S16x128_d1

/-- The lanes below 64. -/
def half : IVec S16x128 1 := cmpi .slt (iota .tc S16x128 32 [1] iota_S16x128_d1_w32) (broadcast S16x128 64#32)

/-- The gated product of the gate's and the up projection's raw products. -/
def gatedBlock (t s : FVec F S16x1 .f32) (wsg wsu : FVec F S1x1 .f32) (dg du : FVec F S16x128 .f32) : FVec F S16x128 .f32 :=
  mulf (mulf
      (maximumf (mulf (subf dg (broadcastTo S16x128 t broadcasts_S16x1_S16x128))
        (broadcastTo S16x128 (mulf s (broadcastTo S16x1 wsg broadcasts_S1x1_S16x1)) broadcasts_S16x1_S16x128)) (broadcast S16x128 (Scalar.ofBits .f32 0x00000000#32)))
      (maximumf (mulf (subf dg (broadcastTo S16x128 t broadcasts_S16x1_S16x128))
        (broadcastTo S16x128 (mulf s (broadcastTo S16x1 wsg broadcasts_S1x1_S16x1)) broadcasts_S16x1_S16x128)) (broadcast S16x128 (Scalar.ofBits .f32 0x00000000#32))))
    (mulf (subf du (broadcastTo S16x128 t broadcasts_S16x1_S16x128))
      (broadcastTo S16x128 (mulf s (broadcastTo S16x1 wsu broadcasts_S1x1_S16x1)) broadcasts_S16x1_S16x128))

/-- A row of scales put into column `k`. -/
def intoCol (k : BitVec 32) (s : FVec F S16x1 .f32) (v : FVec F S16x128 .f32) : FVec F S16x128 .f32 :=
  select (cmpi .eq (iota .tc S16x128 32 [1] iota_S16x128_d1_w32) (broadcast S16x128 k))
    (broadcastTo S16x128 (shapeCast S16x1 s shapeCasts_S16x1_S16x1) broadcasts_S16x1_S16x128) v

namespace Loads
variable (X : Loads F)

/-! ## The attention output -/
def den2 : FVec F S16x1 .f32 := rms X.attn 19 0x45200000#32
def scl2 : FVec F S16x1 .f32 := scaleOf (peak X.den2 X.attn X.ga 19)
def code2 (j : ℕ) : FVec F S16x128 .f32 := coded X.den2 X.scl2 (X.attn j) (X.ga j)
def tot2 : FVec F S16x1 .f32 := total X.code2 19
/-- Block `i * 5 + b` of the residual after the output projection. -/
def midBlock (b i : ℕ) : FVec F S16x128 .f32 :=
  added (flat (X.res (i * 5 + b))) (prod X.act2 (X.wo b) 9 i) X.tot2 X.scl2 X.so

/-! ## That residual -/
def den3 : FVec F S16x1 .f32 := rms (fun j => flat (X.mid j)) 19 0x45200000#32
def scl3 : FVec F S16x1 .f32 := scaleOf (peak X.den3 (fun j => flat (X.mid j)) X.gp 19)
def code3 (j : ℕ) : FVec F S16x128 .f32 := coded X.den3 X.scl3 (flat (X.mid j)) (X.gp j)
def tot3 : FVec F S16x1 .f32 := total X.code3 19

/-! ## The gated hidden vector -/
def gated (dg du : FVec F S16x128 .f32) : FVec F S16x128 .f32 := gatedBlock X.tot3 X.scl3 X.sg X.su dg du
/-- The last 64 rows of the gate's weights over the last 64 rows of the up projection's. -/
def tailW (k : ℕ) : Vec F S128x256 .i8 :=
  concatenate S128x256 0 [⟨S64x256, X.wgt k⟩, ⟨S64x256, X.wut k⟩] concatenates_S64x256_S64x256_S128x256_d0
def tail (i : ℕ) : FVec F S16x128 .f32 := X.gated (prod X.act3 X.tailW 9 i) (roll (prod X.act3 X.tailW 9 i))
def pair (b i : ℕ) : FVec F S16x128 .f32 := X.gated (prod X.act3 (X.wg b) 9 i) (prod X.act3 (X.wu b) 9 i)
/-- What the lanes below 64 take over from the block before, for field `2 k + 1`. -/
def carry (k : ℕ) : ℕ → FVec F S16x128 .f32
  | 0 => X.tail (2 * k)
  | b + 1 => roll (X.pair b (2 * k + 1))
/-- The hidden vector's stores, in the kernel's order: thirteen steps of four blocks, then two. -/
def hidBlock (n : ℕ) : FVec F S16x128 .f32 :=
  if n < 52 then
    if n % 4 % 2 = 0 then X.pair (n / 4) (n % 4) else select half (X.carry (n % 4 / 2) (n / 4)) (roll (X.pair (n / 4) (n % 4)))
  else select half (X.carry (n - 52) 13) (roll (X.tail (2 * (n - 52) + 1)))

/-! ## Its codes, and the residual after the down projection -/
def den4 : FVec F S16x1 .f32 := rms (fun j => flat (X.hid j)) 53 0x45D80000#32
def scl4 : FVec F S16x1 .f32 := scaleOf (peak X.den4 (fun j => flat (X.hid j)) X.gf 53)
def code4 (j : ℕ) : FVec F S16x128 .f32 := coded X.den4 X.scl4 (flat (X.hid j)) (X.gf j)
def tot4 : FVec F S16x1 .f32 := total X.code4 53
def outBlock (b i : ℕ) : FVec F S16x128 .f32 :=
  added (flat (X.mid (i * 5 + b))) (prod X.act4 (X.wd b) 26 i) X.tot4 X.scl4 X.sd

/-- The three rows of scales, as columns 11, 12 and 13, then as rows. -/
def scaleCols : FVec F S128x16 .f32 :=
  transpose S128x16 [1, 0] (intoCol 13#32 X.scl4 (intoCol 12#32 X.scl3 (intoCol 11#32 X.scl2
    (broadcast S16x128 (Scalar.ofBits .f32 0x00000000#32))))) transposes_S16x128_p1_0_S128x16
def scaleRow2 : Vec F S1x1x16 .f32 := shapeCast S1x1x16 (extractStridedSlice S1x16 ![11, 0] X.scaleCols slices_S128x16_o11_0_S1x16) shapeCasts_S1x16_S1x1x16
def scaleRow3 : Vec F S1x1x16 .f32 := shapeCast S1x1x16 (extractStridedSlice S1x16 ![12, 0] X.scaleCols slices_S128x16_o12_0_S1x16) shapeCasts_S1x16_S1x1x16
def scaleRow4 : Vec F S1x1x16 .f32 := shapeCast S1x1x16 (extractStridedSlice S1x16 ![13, 0] X.scaleCols slices_S128x16_o13_0_S1x16) shapeCasts_S1x16_S1x1x16

end Loads

/-- Where store `n` of the hidden vector goes. -/
def hidAt (n : ℕ) : ℕ := if n < 52 then 27 * (n % 4) / 2 + n / 4 else 27 * (n - 51) - 1

end Cert.KernelIdeal.Blocks
-- ==== Proof.BridgeTerms.lean ====
module

public import proofs.«01_k».proof.Proof.RunKernelIdeal
public import proofs.«01_k».proof.Proof.LayerTerms

/-!
# What the kernel's body loads and stores

The lists of stores that the run of the body leaves in each buffer, as lists over the layer's terms: for each
of the two layers, one list per buffer, on top of what the layer before had stored.
-/

@[expose] public section

set_option synthInstance.maxSize 4096
set_option maxRecDepth 65536

noncomputable section

namespace Cert.KernelIdeal.Bridge

open Cert.KernelIdeal Cert.KernelIdeal.Gen Cert.KernelIdeal.Hand Cert.KernelIdeal.Blocks
open Idealize.ShloMosaic Idealize.ShloMosaic.TcCoe Idealize.SL.Sem

variable {F : FTy → Type} [FloatOps F]

/-- The body's buffers, and what the operands hold. -/
structure Env (F : FTy → Type) [FloatOps F] where
  c : Dev nD
  arg20 : Memref sig .tc .vmem S16x2560 .bf16
  arg21 : Memref sig .tc .vmem S640x2560 .i8
  arg22 : Memref sig .tc .vmem S1728x2560 .i8
  arg23 : Memref sig .tc .vmem S1728x2560 .i8
  arg24 : Memref sig .tc .vmem S640x6912 .i8
  arg25 : Memref sig .tc .vmem S2x7 .bf16
  arg26 : Memref sig .tc .vmem S2x2560 .f32
  arg27 : Memref sig .tc .vmem S2x2560 .f32
  arg28 : Memref sig .tc .vmem S2x6912 .f32
  arg29 : Memref sig .tc .vmem S20x16x128 .f32
  arg30 : Memref sig .tc .vmem S20x16x128 .f32
  arg31 : Memref sig .tc .vmem S54x16x128 .bf16
  arg32 : Memref sig .tc .vmem S54x16x128 .f32
  arg33 : Memref sig .tc .vmem S320x128 .f32
  arg34 : Memref sig .tc .vmem S320x128 .f32
  arg35 : Memref sig .tc .vmem S320x128 .f32
  arg36 : Memref sig .tc .vmem S864x128 .f32
  arg37 : Memref sig .tc .vmem S16x2560 .i8
  arg38 : Memref sig .tc .vmem S16x2560 .i8
  arg39 : Memref sig .tc .vmem S16x6912 .i8
  arg40 : Memref sig .tc .vmem S14x1x16 .f32
  fh0 : HbBuf0 (F := F) c hbM0_0
  fh1 : HbBuf0 (F := F) c hbM0_1
  fh2 : HbBuf0 (F := F) c hbM0_2
  fh3 : HbBuf0 (F := F) c hbM0_3
  fh4 : HbBuf0 (F := F) c hbM0_4
  fh5 : HbBuf0 (F := F) c hbM0_5
  fh6 : HbBuf0 (F := F) c hbM0_6
  fh7 : HbBuf0 (F := F) c hbM0_7
  fh8 : HbBuf0 (F := F) c hbM0_8
  fh9 : HbBuf0 (F := F) c hbM0_9

/-! ## The rectangles -/

/-- Every 20th row of 320 from row `j`. -/
def strided20 (j : ℕ) : Rect S320x128 :=
  { off := ![j % 20, 0], size := S16x128.size, stride := ![20, 1],
    inb := by
      intro a; right
      fin_cases a
      · show j % 20 + 20 * (16 - 1) < 320; omega
      · show 0 + 1 * (128 - 1) < 128; omega
    stride_pos := by intro a; fin_cases a <;> decide }

/-- Every 54th row of 864 from row `j`. -/
def strided54 (j : ℕ) : Rect S864x128 :=
  { off := ![j % 54, 0], size := S16x128.size, stride := ![54, 1],
    inb := by
      intro a; right
      fin_cases a
      · show j % 54 + 54 * (16 - 1) < 864; omega
      · show 0 + 1 * (128 - 1) < 128; omega
    stride_pos := by intro a; fin_cases a <;> decide }

/-- 128 lanes of row `l` of two rows of 2560. -/
def gain20 (l j : ℕ) : Rect S2x2560 :=
  Rect.unit ![l % 2, 128 * (j % 20)] S1x128.size (by
    intro a; fin_cases a
    · show l % 2 + 1 ≤ 2; omega
    · show 128 * (j % 20) + 128 ≤ 2560; omega)

/-- 128 lanes of row `l` of two rows of 6912. -/
def gain54 (l j : ℕ) : Rect S2x6912 :=
  Rect.unit ![l % 2, 128 * (j % 54)] S1x128.size (by
    intro a; fin_cases a
    · show l % 2 + 1 ≤ 2; omega
    · show 128 * (j % 54) + 128 ≤ 6912; omega)

/-- Column block `j` of 20. -/
def cols20 (j : ℕ) : Rect S16x2560 :=
  Rect.unit ![0, 128 * (j % 20)] S16x128.size (by
    intro a; fin_cases a
    · show 0 + 16 ≤ 16; omega
    · show 128 * (j % 20) + 128 ≤ 2560; omega)

/-- Column block `j` of 54. -/
def cols54 (j : ℕ) : Rect S16x6912 :=
  Rect.unit ![0, 128 * (j % 54)] S16x128.size (by
    intro a; fin_cases a
    · show 0 + 16 ≤ 16; omega
    · show 128 * (j % 54) + 128 ≤ 6912; omega)

/-- Block `(b, k)` of the output projection's packed weights. -/
def wo128 (b k : ℕ) : Rect S640x2560 :=
  Rect.unit ![128 * (b % 5), 256 * (k % 10)] S128x256.size (by
    intro a; fin_cases a
    · show 128 * (b % 5) + 128 ≤ 640; omega
    · show 256 * (k % 10) + 256 ≤ 2560; omega)

/-- Block `(b, k)` of the gate's or the up projection's packed weights. -/
def wg128 (b k : ℕ) : Rect S1728x2560 :=
  Rect.unit ![128 * (b % 13), 256 * (k % 10)] S128x256.size (by
    intro a; fin_cases a
    · show 128 * (b % 13) + 128 ≤ 1728; omega
    · show 256 * (k % 10) + 256 ≤ 2560; omega)

/-- The last 64 rows of those, block `k`. -/
def wg64 (k : ℕ) : Rect S1728x2560 :=
  Rect.unit ![1664, 256 * (k % 10)] S64x256.size (by
    intro a; fin_cases a
    · show 1664 + 64 ≤ 1728; omega
    · show 256 * (k % 10) + 256 ≤ 2560; omega)

/-- Block `(b, k)` of the down projection's packed weights. -/
def wd128 (b k : ℕ) : Rect S640x6912 :=
  Rect.unit ![128 * (b % 5), 256 * (k % 27)] S128x256.size (by
    intro a; fin_cases a
    · show 128 * (b % 5) + 128 ≤ 640; omega
    · show 256 * (k % 27) + 256 ≤ 6912; omega)

/-- Row `l` of the weights' scales. -/
def scaleRect (l : ℕ) : Rect S2x7 :=
  Rect.unit ![l % 2, 0] S1x7.size (by
    intro a; fin_cases a
    · show l % 2 + 1 ≤ 2; omega
    · show 0 + 7 ≤ 7; omega)

/-- Tile `j` of 54. -/
def tile54 (j : ℕ) : Rect S54x16x128 :=
  Rect.unit ![j % 54, 0, 0] S1x16x128.size (by
    intro a; fin_cases a
    · show j % 54 + 1 ≤ 54; omega
    · show 0 + 16 ≤ 16; omega
    · show 0 + 128 ≤ 128; omega)

/-- Tile `j` of 20. -/
def tile20 (j : ℕ) : Rect S20x16x128 :=
  Rect.unit ![j % 20, 0, 0] S1x16x128.size (by
    intro a; fin_cases a
    · show j % 20 + 1 ≤ 20; omega
    · show 0 + 16 ≤ 16; omega
    · show 0 + 128 ≤ 128; omega)

/-- Row `j` of the scales' buffer. -/
def row14 (j : ℕ) : Rect S14x1x16 :=
  Rect.unit ![j % 14, 0, 0] S1x1x16.size (by
    intro a; fin_cases a
    · show j % 14 + 1 ≤ 14; omega
    · show 0 + 1 ≤ 1; omega
    · show 0 + 16 ≤ 16; omega)

namespace Env
variable (E : Env F)

/-! ## The lists of stores, as the run names them -/

def resL : List (View.Piece (Elt F) S20x16x128 .f32) := bodyRun.sl.HS9_20 E.c E.arg20 E.fh0
def resL0 : List (View.Piece (Elt F) S20x16x128 .f32) := bodyRun.sl.HS9_40 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def resL1 : List (View.Piece (Elt F) S20x16x128 .f32) := bodyRun.sl.HS9_60 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def midL0 : List (View.Piece (Elt F) S20x16x128 .f32) := bodyRun.sl.HS10_20 E.c E.arg20 E.arg21 E.arg25 E.arg26 E.arg29 E.arg31 E.arg35 E.fh0 E.fh1 E.fh2 E.fh6 E.fh7
def midL1 : List (View.Piece (Elt F) S20x16x128 .f32) := bodyRun.sl.HS10_40 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def act2L0 : List (View.Piece (Elt F) S54x16x128 .bf16) := bodyRun.sl.HS11_20 E.c E.arg26 E.arg35 E.fh1 E.fh7
def act3L0 : List (View.Piece (Elt F) S54x16x128 .bf16) := bodyRun.sl.HS11_40 E.c E.arg20 E.arg21 E.arg25 E.arg26 E.arg27 E.arg29 E.arg30 E.arg31 E.arg35 E.fh0 E.fh1 E.fh2 E.fh6 E.fh7 E.fh8
def act4L0 : List (View.Piece (Elt F) S54x16x128 .bf16) := bodyRun.sl.HS11_94 E.c E.arg20 E.arg21 E.arg22 E.arg23 E.arg25 E.arg26 E.arg27 E.arg28 E.arg29 E.arg30 E.arg31 E.arg32 E.arg35 E.fh0 E.fh1 E.fh2 E.fh3 E.fh4 E.fh6 E.fh7 E.fh8 E.fh9
def act2L1 : List (View.Piece (Elt F) S54x16x128 .bf16) := bodyRun.sl.HS11_114 E.c E.arg20 E.arg21 E.arg22 E.arg23 E.arg25 E.arg26 E.arg27 E.arg28 E.arg29 E.arg30 E.arg31 E.arg32 E.arg35 E.fh0 E.fh1 E.fh2 E.fh3 E.fh4 E.fh6 E.fh7 E.fh8 E.fh9
def act3L1 : List (View.Piece (Elt F) S54x16x128 .bf16) := bodyRun.sl.HS11_134 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def act4L1 : List (View.Piece (Elt F) S54x16x128 .bf16) := bodyRun.sl.HS11_188 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def hidL0 : List (View.Piece (Elt F) S54x16x128 .f32) := bodyRun.sl.HS12_54 E.c E.arg20 E.arg21 E.arg22 E.arg23 E.arg25 E.arg26 E.arg27 E.arg29 E.arg30 E.arg31 E.arg35 E.fh0 E.fh1 E.fh2 E.fh3 E.fh4 E.fh6 E.fh7 E.fh8
def hidL1 : List (View.Piece (Elt F) S54x16x128 .f32) := bodyRun.sl.HS12_108 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def residO0 : List (View.Piece (Elt F) S320x128 .f32) := bodyRun.sl.HS13_20 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def residO1 : List (View.Piece (Elt F) S320x128 .f32) := bodyRun.sl.HS13_40 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def midO0 : List (View.Piece (Elt F) S320x128 .f32) := bodyRun.sl.HS14_20 E.c E.arg20 E.arg21 E.arg25 E.arg26 E.arg29 E.arg31 E.arg35 E.fh0 E.fh1 E.fh2 E.fh6 E.fh7
def midO1 : List (View.Piece (Elt F) S320x128 .f32) := bodyRun.sl.HS14_40 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def hidO0 : List (View.Piece (Elt F) S864x128 .f32) := bodyRun.sl.HS16_54 E.c E.arg20 E.arg21 E.arg22 E.arg23 E.arg25 E.arg26 E.arg27 E.arg29 E.arg30 E.arg31 E.arg32 E.arg35 E.fh0 E.fh1 E.fh2 E.fh3 E.fh4 E.fh6 E.fh7 E.fh8
def hidO1 : List (View.Piece (Elt F) S864x128 .f32) := bodyRun.sl.HS16_108 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def c2O0 : List (View.Piece (Elt F) S16x2560 .i8) := bodyRun.sl.HS17_20 E.c E.arg26 E.arg35 E.fh1 E.fh7
def c2O1 : List (View.Piece (Elt F) S16x2560 .i8) := bodyRun.sl.HS17_40 E.c E.arg26 E.arg35 E.fh1 E.fh7
def c3O0 : List (View.Piece (Elt F) S16x2560 .i8) := bodyRun.sl.HS18_20 E.c E.arg20 E.arg21 E.arg25 E.arg26 E.arg27 E.arg29 E.arg30 E.arg31 E.arg35 E.fh0 E.fh1 E.fh2 E.fh6 E.fh7 E.fh8
def c3O1 : List (View.Piece (Elt F) S16x2560 .i8) := bodyRun.sl.HS18_40 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def c4O0 : List (View.Piece (Elt F) S16x6912 .i8) := bodyRun.sl.HS19_54 E.c E.arg20 E.arg21 E.arg22 E.arg23 E.arg25 E.arg26 E.arg27 E.arg28 E.arg29 E.arg30 E.arg31 E.arg32 E.arg35 E.fh0 E.fh1 E.fh2 E.fh3 E.fh4 E.fh6 E.fh7 E.fh8 E.fh9
def c4O1 : List (View.Piece (Elt F) S16x6912 .i8) := bodyRun.sl.HS19_108 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def scO0 : List (View.Piece (Elt F) S14x1x16 .f32) := bodyRun.sl.HS20_3 E.c E.arg20 E.arg21 E.arg22 E.arg23 E.arg25 E.arg26 E.arg27 E.arg28 E.arg29 E.arg30 E.arg31 E.arg32 E.arg35 E.fh0 E.fh1 E.fh2 E.fh3 E.fh4 E.fh6 E.fh7 E.fh8 E.fh9
def scO1 : List (View.Piece (Elt F) S14x1x16 .f32) := bodyRun.sl.HS20_6 E.c E.arg20 E.arg21 E.arg22 E.arg23 E.arg24 E.arg25 E.arg26 E.arg27 E.arg28 E.arg29 E.arg30 E.arg31 E.arg32 E.arg35 E.fh0 E.fh1 E.fh2 E.fh3 E.fh4 E.fh5 E.fh6 E.fh7 E.fh8 E.fh9
def woW0 : List (View.Piece (Elt F) S640x2560 .i8) := [⟨Rect.whole S640x2560, bodyRun.sl.dma0_5 E.c E.fh2⟩]
def woW1 : List (View.Piece (Elt F) S640x2560 .i8) := [⟨Rect.whole S640x2560, bodyRun.sl.dma531 E.c E.fh2⟩, ⟨Rect.whole S640x2560, bodyRun.sl.dma0_5 E.c E.fh2⟩]
def wgW0 : List (View.Piece (Elt F) S1728x2560 .i8) := [⟨Rect.whole S1728x2560, bodyRun.sl.dma0_6 E.c E.fh3⟩]
def wgW1 : List (View.Piece (Elt F) S1728x2560 .i8) := [⟨Rect.whole S1728x2560, bodyRun.sl.dma1679 E.c E.fh3⟩, ⟨Rect.whole S1728x2560, bodyRun.sl.dma0_6 E.c E.fh3⟩]
def wuW0 : List (View.Piece (Elt F) S1728x2560 .i8) := [⟨Rect.whole S1728x2560, bodyRun.sl.dma0_7 E.c E.fh4⟩]
def wuW1 : List (View.Piece (Elt F) S1728x2560 .i8) := [⟨Rect.whole S1728x2560, bodyRun.sl.dma1679_1 E.c E.fh4⟩, ⟨Rect.whole S1728x2560, bodyRun.sl.dma0_7 E.c E.fh4⟩]
def wdW0 : List (View.Piece (Elt F) S640x6912 .i8) := [⟨Rect.whole S640x6912, bodyRun.sl.dma0_8 E.c E.fh5⟩]
def wdW1 : List (View.Piece (Elt F) S640x6912 .i8) := [⟨Rect.whole S640x6912, bodyRun.sl.dma2940 E.c E.fh5⟩, ⟨Rect.whole S640x6912, bodyRun.sl.dma0_8 E.c E.fh5⟩]
def attnW0 : List (View.Piece (Elt F) S320x128 .f32) := [⟨Rect.whole S320x128, bodyRun.sl.dma61 E.c E.fh1⟩]
def attnW1 : List (View.Piece (Elt F) S320x128 .f32) := [⟨Rect.whole S320x128, bodyRun.sl.dma2947 E.c E.fh1⟩, ⟨Rect.whole S320x128, bodyRun.sl.dma61 E.c E.fh1⟩]
def xW : List (View.Piece (Elt F) S16x2560 .bf16) := [⟨Rect.whole S16x2560, bodyRun.sl.dma0 E.c E.fh0⟩]
def wsW : List (View.Piece (Elt F) S2x7 .bf16) := [⟨Rect.whole S2x7, bodyRun.sl.dma0_1 E.c E.fh6⟩]
def gaW : List (View.Piece (Elt F) S2x2560 .f32) := [⟨Rect.whole S2x2560, bodyRun.sl.dma0_2 E.c E.fh7⟩]
def gpW : List (View.Piece (Elt F) S2x2560 .f32) := [⟨Rect.whole S2x2560, bodyRun.sl.dma0_3 E.c E.fh8⟩]
def gfW : List (View.Piece (Elt F) S2x6912 .f32) := [⟨Rect.whole S2x6912, bodyRun.sl.dma0_4 E.c E.fh9⟩]

/-- The weights' scales of both layers. -/
def wsAll : FVec F S2x7 .f32 := extf .f32 (φ := .bf16) (s := S2x7) (E.arg25.view.readCov E.wsW (Rect.unit ![0, 0] S2x7.size inb_S2x7_S2x7_0_0).toLoadRect) bitsLt_bf16_f32

/-- The row of the weights' scales that layer uses: row 0 where `l` holds, else row 1. -/
def wsRow (l : BitVec 1) : FVec F S1x7 .f32 :=
  Scalar.select l
    (extractStridedSlice S1x7 ![0, 0] E.wsAll slices_S2x7_o0_0_S1x7)
    (extractStridedSlice S1x7 ![1, 0] E.wsAll slices_S2x7_o1_0_S1x7)

/-- Block `j` of the first residual. -/
def start (j : ℕ) : FVec F S16x128 .f32 := extf .f32 (E.arg20.view.readCov E.xW (cols20 j).toLoadRect : FVec F S16x128 .bf16) bitsLt_bf16_f32

/-- What layer 0 loads. -/
def loads0 : Loads F where
  attn j := E.arg35.view.readCov E.attnW0 (strided20 j).toLoadRect
  ga j := Scalar.select 1#1 (E.arg26.view.readCov E.gaW (gain20 0 j).toLoadRect) (E.arg26.view.readCov E.gaW (gain20 1 j).toLoadRect)
  gp j := Scalar.select 1#1 (E.arg27.view.readCov E.gpW (gain20 0 j).toLoadRect) (E.arg27.view.readCov E.gpW (gain20 1 j).toLoadRect)
  gf j := Scalar.select 1#1 (E.arg28.view.readCov E.gfW (gain54 0 j).toLoadRect) (E.arg28.view.readCov E.gfW (gain54 1 j).toLoadRect)
  act2 j := E.arg31.view.readCov E.act2L0 (tile54 j).toLoadRect
  act3 j := E.arg31.view.readCov E.act3L0 (tile54 j).toLoadRect
  act4 j := E.arg31.view.readCov E.act4L0 (tile54 j).toLoadRect
  wo b k := E.arg21.view.readCov E.woW0 (wo128 b k).toLoadRect
  wg b k := E.arg22.view.readCov E.wgW0 (wg128 b k).toLoadRect
  wu b k := E.arg23.view.readCov E.wuW0 (wg128 b k).toLoadRect
  wd b k := E.arg24.view.readCov E.wdW0 (wd128 b k).toLoadRect
  wgt k := E.arg22.view.readCov E.wgW0 (wg64 k).toLoadRect
  wut k := E.arg23.view.readCov E.wuW0 (wg64 k).toLoadRect
  so := extractStridedSlice S1x1 ![0, 3] (E.wsRow 1#1) slices_S1x7_o0_3_S1x1
  sg := extractStridedSlice S1x1 ![0, 4] (E.wsRow 1#1) slices_S1x7_o0_4_S1x1
  su := extractStridedSlice S1x1 ![0, 5] (E.wsRow 1#1) slices_S1x7_o0_5_S1x1
  sd := extractStridedSlice S1x1 ![0, 6] (E.wsRow 1#1) slices_S1x7_o0_6_S1x1
  res j := E.arg29.view.readCov E.resL (tile20 j).toLoadRect
  mid j := E.arg30.view.readCov E.midL0 (tile20 j).toLoadRect
  hid j := E.arg32.view.readCov E.hidL0 (tile54 j).toLoadRect

/-- What layer 1 loads. -/
def loads1 : Loads F where
  attn j := E.arg35.view.readCov E.attnW1 (strided20 j).toLoadRect
  ga j := Scalar.select 0#1 (E.arg26.view.readCov E.gaW (gain20 0 j).toLoadRect) (E.arg26.view.readCov E.gaW (gain20 1 j).toLoadRect)
  gp j := Scalar.select 0#1 (E.arg27.view.readCov E.gpW (gain20 0 j).toLoadRect) (E.arg27.view.readCov E.gpW (gain20 1 j).toLoadRect)
  gf j := Scalar.select 0#1 (E.arg28.view.readCov E.gfW (gain54 0 j).toLoadRect) (E.arg28.view.readCov E.gfW (gain54 1 j).toLoadRect)
  act2 j := E.arg31.view.readCov E.act2L1 (tile54 j).toLoadRect
  act3 j := E.arg31.view.readCov E.act3L1 (tile54 j).toLoadRect
  act4 j := E.arg31.view.readCov E.act4L1 (tile54 j).toLoadRect
  wo b k := E.arg21.view.readCov E.woW1 (wo128 b k).toLoadRect
  wg b k := E.arg22.view.readCov E.wgW1 (wg128 b k).toLoadRect
  wu b k := E.arg23.view.readCov E.wuW1 (wg128 b k).toLoadRect
  wd b k := E.arg24.view.readCov E.wdW1 (wd128 b k).toLoadRect
  wgt k := E.arg22.view.readCov E.wgW1 (wg64 k).toLoadRect
  wut k := E.arg23.view.readCov E.wuW1 (wg64 k).toLoadRect
  so := extractStridedSlice S1x1 ![0, 3] (E.wsRow 0#1) slices_S1x7_o0_3_S1x1
  sg := extractStridedSlice S1x1 ![0, 4] (E.wsRow 0#1) slices_S1x7_o0_4_S1x1
  su := extractStridedSlice S1x1 ![0, 5] (E.wsRow 0#1) slices_S1x7_o0_5_S1x1
  sd := extractStridedSlice S1x1 ![0, 6] (E.wsRow 0#1) slices_S1x7_o0_6_S1x1
  res j := E.arg29.view.readCov E.resL0 (tile20 j).toLoadRect
  mid j := E.arg30.view.readCov E.midL1 (tile20 j).toLoadRect
  hid j := E.arg32.view.readCov E.hidL1 (tile54 j).toLoadRect

end Env

end Cert.KernelIdeal.Bridge
-- ==== Proof.Bridge0.lean ====
module

public import proofs.«01_k».proof.Proof.BridgeTerms

/-!
# What layer 0 of the kernel stores

Each buffer's list of stores, as the run of the body names it, is the list of the layer's terms on top of what
was stored before.
-/

@[expose] public section

set_option synthInstance.maxSize 4096
set_option maxRecDepth 65536
set_option maxHeartbeats 0

noncomputable section

namespace Cert.KernelIdeal.Bridge

open Cert.KernelIdeal Cert.KernelIdeal.Gen Cert.KernelIdeal.Blocks
open Idealize.ShloMosaic Idealize.SL.Sem

variable {F : FTy → Type} [FloatOps F] (E : Env F)
theorem resL : E.resL = newestOn (N := 20) (fun j => ⟨tile20 j, tile (E.start j)⟩) [] 20 le_rfl := by sl_kernel_rfl

/-! ## Layer 0 -/
theorem act2L0 : E.act2L0 = newestOn (N := 20) (fun j => ⟨tile54 j, codeTile (E.loads0.code2 j)⟩) [] 20 le_rfl := by sl_kernel_rfl
theorem c2O0 : E.c2O0 = newestOn (N := 20) (fun j => ⟨cols20 j, codeWord (E.loads0.code2 j)⟩) [] 20 le_rfl := by sl_kernel_rfl
theorem midL0 : E.midL0 = newestOn (N := 20) (fun n => ⟨tile20 (n % 4 * 5 + n / 4), tile (E.loads0.midBlock (n / 4) (n % 4))⟩) [] 20 le_rfl := by sl_kernel_rfl
theorem midO0 : E.midO0 = newestOn (N := 20) (fun n => ⟨strided20 (n % 4 * 5 + n / 4), same (E.loads0.midBlock (n / 4) (n % 4))⟩) [] 20 le_rfl := by sl_kernel_rfl
theorem act3L0 : E.act3L0 = newestOn (N := 20) (fun j => ⟨tile54 j, codeTile (E.loads0.code3 j)⟩) E.act2L0 20 le_rfl := by sl_kernel_rfl
theorem c3O0 : E.c3O0 = newestOn (N := 20) (fun j => ⟨cols20 j, codeWord (E.loads0.code3 j)⟩) [] 20 le_rfl := by sl_kernel_rfl
theorem hidL0 : E.hidL0 = newestOn (N := 54) (fun n => ⟨tile54 (hidAt n), tile (E.loads0.hidBlock n)⟩) [] 54 le_rfl := by sl_kernel_rfl
theorem act4L0 : E.act4L0 = newestOn (N := 54) (fun j => ⟨tile54 j, codeTile (E.loads0.code4 j)⟩) E.act3L0 54 le_rfl := by sl_kernel_rfl
theorem c4O0 : E.c4O0 = newestOn (N := 54) (fun j => ⟨cols54 j, codeWord (E.loads0.code4 j)⟩) [] 54 le_rfl := by sl_kernel_rfl
theorem hidO0 : E.hidO0 = newestOn (N := 54) (fun j => ⟨strided54 j, same (flat (E.loads0.hid j))⟩) [] 54 le_rfl := by sl_kernel_rfl
theorem resL0 : E.resL0 = newestOn (N := 20) (fun n => ⟨tile20 (n % 4 * 5 + n / 4), tile (E.loads0.outBlock (n / 4) (n % 4))⟩) E.resL 20 le_rfl := by sl_kernel_rfl
theorem residO0 : E.residO0 = newestOn (N := 20) (fun n => ⟨strided20 (n % 4 * 5 + n / 4), same (E.loads0.outBlock (n / 4) (n % 4))⟩) [] 20 le_rfl := by sl_kernel_rfl
theorem scO0 : E.scO0 = [⟨row14 13, E.loads0.scaleRow4⟩, ⟨row14 12, E.loads0.scaleRow3⟩, ⟨row14 11, E.loads0.scaleRow2⟩] ++ [] := by sl_kernel_rfl

end Cert.KernelIdeal.Bridge
-- ==== Proof.Bridge1.lean ====
module

public import proofs.«01_k».proof.Proof.BridgeTerms

/-!
# What layer 1 of the kernel stores

Each buffer's list of stores, as the run of the body names it, is the list of the layer's terms on top of what
was stored before.
-/

@[expose] public section

set_option synthInstance.maxSize 4096
set_option maxRecDepth 65536
set_option maxHeartbeats 0

noncomputable section

namespace Cert.KernelIdeal.Bridge

open Cert.KernelIdeal Cert.KernelIdeal.Gen Cert.KernelIdeal.Blocks
open Idealize.ShloMosaic Idealize.SL.Sem

variable {F : FTy → Type} [FloatOps F] (E : Env F)

/-! ## Layer 1 -/
theorem act2L1 : E.act2L1 = newestOn (N := 20) (fun j => ⟨tile54 j, codeTile (E.loads1.code2 j)⟩) E.act4L0 20 le_rfl := by sl_kernel_rfl
theorem c2O1 : E.c2O1 = newestOn (N := 20) (fun j => ⟨cols20 j, codeWord (E.loads1.code2 j)⟩) E.c2O0 20 le_rfl := by sl_kernel_rfl
theorem midL1 : E.midL1 = newestOn (N := 20) (fun n => ⟨tile20 (n % 4 * 5 + n / 4), tile (E.loads1.midBlock (n / 4) (n % 4))⟩) E.midL0 20 le_rfl := by sl_kernel_rfl
theorem midO1 : E.midO1 = newestOn (N := 20) (fun n => ⟨strided20 (n % 4 * 5 + n / 4), same (E.loads1.midBlock (n / 4) (n % 4))⟩) E.midO0 20 le_rfl := by sl_kernel_rfl
theorem act3L1 : E.act3L1 = newestOn (N := 20) (fun j => ⟨tile54 j, codeTile (E.loads1.code3 j)⟩) E.act2L1 20 le_rfl := by sl_kernel_rfl
theorem c3O1 : E.c3O1 = newestOn (N := 20) (fun j => ⟨cols20 j, codeWord (E.loads1.code3 j)⟩) E.c3O0 20 le_rfl := by sl_kernel_rfl
theorem hidL1 : E.hidL1 = newestOn (N := 54) (fun n => ⟨tile54 (hidAt n), tile (E.loads1.hidBlock n)⟩) E.hidL0 54 le_rfl := by sl_kernel_rfl
theorem act4L1 : E.act4L1 = newestOn (N := 54) (fun j => ⟨tile54 j, codeTile (E.loads1.code4 j)⟩) E.act3L1 54 le_rfl := by sl_kernel_rfl
theorem c4O1 : E.c4O1 = newestOn (N := 54) (fun j => ⟨cols54 j, codeWord (E.loads1.code4 j)⟩) E.c4O0 54 le_rfl := by sl_kernel_rfl
theorem hidO1 : E.hidO1 = newestOn (N := 54) (fun j => ⟨strided54 j, same (flat (E.loads1.hid j))⟩) E.hidO0 54 le_rfl := by sl_kernel_rfl
theorem resL1 : E.resL1 = newestOn (N := 20) (fun n => ⟨tile20 (n % 4 * 5 + n / 4), tile (E.loads1.outBlock (n / 4) (n % 4))⟩) E.resL0 20 le_rfl := by sl_kernel_rfl
theorem residO1 : E.residO1 = newestOn (N := 20) (fun n => ⟨strided20 (n % 4 * 5 + n / 4), same (E.loads1.outBlock (n / 4) (n % 4))⟩) E.residO0 20 le_rfl := by sl_kernel_rfl
theorem scO1 : E.scO1 = [⟨row14 13, E.loads1.scaleRow4⟩, ⟨row14 12, E.loads1.scaleRow3⟩, ⟨row14 11, E.loads1.scaleRow2⟩] ++ E.scO0 := by sl_kernel_rfl

end Cert.KernelIdeal.Bridge
-- ==== Proof.BlocksIdeal.lean ====
module

public import proofs.«01_k».proof.Proof.Blocks
public import proofs.«01_k».proof.Proof.Reading

/-!
# The kernel's arithmetic on blocks, on extended reals

A row cut into blocks of 128 lanes: what the kernel computes block by block is what the specification computes
along the whole row.
-/

@[expose] public section

noncomputable section

namespace Cert.KernelIdeal.Blocks

open Cert.KernelIdeal Cert.KernelIdeal.Gen Cert.Reading
open Idealize.ShloMosaic hiding ix1 ix2 ix3
open Idealize.ShloMosaic.ValueIdx Finset

theorem chain_add (f : ℕ → FVec Ideal S16x128 .f32) (n : ℕ) (p : S16x128.Idx) :
    chain addf f n p = ∑ j ∈ range (n + 1), f j p := by
  induction n with
  | zero => rw [sum_range_one]; rfl
  | succ n ih => rw [sum_range_succ, ← ih]; rfl

theorem chain_add_wide (f : ℕ → FVec Ideal S16x256 .f32) (n : ℕ) (p : S16x256.Idx) :
    chain addf f n p = ∑ j ∈ range (n + 1), f j p := by
  induction n with
  | zero => rw [sum_range_one]; rfl
  | succ n ih => rw [sum_range_succ, ← ih]; rfl

theorem chain_max (f : ℕ → FVec Ideal S16x128 .f32) (n : ℕ) (p : S16x128.Idx) :
    chain maximumf f n p = (range (n + 1)).sup fun j => f j p := by
  induction n with
  | zero => rw [show range (0 + 1) = {0} from rfl, sup_singleton]; rfl
  | succ n ih =>
    rw [range_add_one, sup_insert, ← ih]
    exact max_comm _ _

/-- The blocks `V` below `m` are the rows `f`, cut every 128 columns. -/
def Cut (V : ℕ → FVec Ideal S16x128 .f32) (f : Fin 16 → ℕ → EReal) (m : ℕ) : Prop :=
  ∀ j < m, ∀ b l, V j (ix2 b l) = f b (128 * j + l.val)

/-- The blocks `g` below `m` are the row `G`. -/
def CutRow (g : ℕ → FVec Ideal S1x128 .f32) (G : ℕ → EReal) (m : ℕ) : Prop :=
  ∀ j < m, ∀ l, g j (ix2 0 l) = G (128 * j + l.val)

theorem rowTotal (V : ℕ → FVec Ideal S16x128 .f32) (f : Fin 16 → ℕ → EReal) (n : ℕ) (h : Cut V f (n + 1)) (b : Fin 16) :
    multiReduction .add [1] S16 (chain addf V n) 0x00000000#32 reduces_S16x128_S16 (.inl rfl) rfl (ix1 b)
      = ∑ i ∈ range (128 * (n + 1)), f b i := by
  rw [← Spec.sum_blocks (f b) 128 (n + 1), Fin.sum_univ_eq_sum_range (fun l => ∑ j ∈ range (n + 1), f b (128 * j + l)) 128]
  exact rowSum (m := 16) (n := 128) (chain addf V n) reduces_S16x128_S16 (.inl rfl) rfl b _ fun i => by
    rw [chain_add]
    exact sum_congr rfl fun j hj => h j (mem_range.mp hj) b i

theorem rowPeak (V : ℕ → FVec Ideal S16x128 .f32) (f : Fin 16 → ℕ → EReal) (n : ℕ) (h : Cut V f (n + 1)) (b : Fin 16) :
    multiReduction .maximumf [1] S16 (chain maximumf V n) 0xFF800000#32 reduces_S16x128_S16 (.inl rfl) rfl (ix1 b)
      = (range (128 * (n + 1))).sup (f b) := by
  rw [← Spec.sup_blocks (f b) 128 (n + 1) (by norm_num), sup_range 128 (fun l => (range (n + 1)).sup fun j => f b (128 * j + l))]
  exact rowMax (m := 16) (n := 128) (chain maximumf V n) reduces_S16x128_S16 (.inl rfl) rfl b _ fun i => by
    rw [chain_max]
    exact sup_congr rfl fun j hj => h j (mem_range.mp hj) b i

section
variable {V : ℕ → FVec Ideal S16x128 .f32} {f : Fin 16 → ℕ → EReal} {n : ℕ} (hV : Cut V f (n + 1)) (w : BitVec 32)
  {g : ℕ → FVec Ideal S1x128 .f32} {G : ℕ → EReal} (hg : CutRow g G (n + 1))

include hV in
theorem rms_at (b : Fin 16) : rms V n w (ix2 b 0) = Spec.den w (128 * (n + 1)) (f b) := by
  show Ideal.sqrt (Ideal.div (shapeCast S16x1 _ shapeCasts_S16_S16x1 (ix2 b 0)) (Spec.word w) + Spec.word 0x3727C5AC#32) = _
  have e := rowTotal (fun j => mulf (V j) (V j)) (fun b i => f b i * f b i) n (fun j hj b l => by
    show V j (ix2 b l) * V j (ix2 b l) = _
    rw [hV j hj b l]) b
  rw [asCol (m := 16)]
  exact congrArg (fun z => Ideal.sqrt (Ideal.div z (Spec.word w) + Spec.word 0x3727C5AC#32)) e

include hV hg in
theorem normed_at (j : ℕ) (hj : j < n + 1) (b : Fin 16) (l : Fin 128) :
    normed (rms V n w) (V j) (g j) (ix2 b l) = Spec.normed w (128 * (n + 1)) G (f b) (128 * j + l.val) := by
  show Ideal.div (V j (ix2 b l)) (broadcastTo S16x128 (rms V n w) broadcasts_S16x1_S16x128 (ix2 b l))
    * broadcastTo S16x128 (g j) broadcasts_S1x128_S16x128 (ix2 b l) = _
  rw [spreadCol (m := 16) (n := 128), spreadRow (m := 16) (n := 128), hV j hj, hg j hj, rms_at hV]; rfl

include hV hg in
theorem scale_at (b : Fin 16) (u : Fin 1) :
    scaleOf (peak (rms V n w) V g n) (ix2 b u) = Spec.quantScale w (128 * (n + 1)) G (f b) := by
  have e := rowPeak (fun j => absf (normed (rms V n w) (V j) (g j)))
    (fun b i => max (Spec.normed w (128 * (n + 1)) G (f b) i) (-Spec.normed w (128 * (n + 1)) G (f b) i)) n
    (fun j hj b l => by
      show max (normed (rms V n w) (V j) (g j) (ix2 b l)) (-normed (rms V n w) (V j) (g j) (ix2 b l)) = _
      rw [normed_at hV w hg j hj b l]) b
  show Scalar.select (Ideal.cmp .oeq (shapeCast S16x1 _ shapeCasts_S16_S16x1 (ix2 b u)) (Spec.word 0x00000000#32))
    (Spec.word 0x3F800000#32) (Ideal.div (shapeCast S16x1 _ shapeCasts_S16_S16x1 (ix2 b u)) (Spec.word 0x42FE0000#32)) = _
  rw [asCol (m := 16)]
  exact congrArg Spec.scaleOf e

include hV hg in
theorem coded_at (j : ℕ) (hj : j < n + 1) (b : Fin 16) (l : Fin 128) :
    coded (rms V n w) (scaleOf (peak (rms V n w) V g n)) (V j) (g j) (ix2 b l)
      = Spec.quantCode w (128 * (n + 1)) G (f b) (128 * j + l.val) := by
  show min (Spec.word 0x42FE0000#32) (max (Spec.word 0xC2FE0000#32) (Ideal.liftRound Ideal.roundHalfEven
    (Ideal.div (normed (rms V n w) (V j) (g j) (ix2 b l))
      (broadcastTo S16x128 (scaleOf (peak (rms V n w) V g n)) broadcasts_S16x1_S16x128 (ix2 b l))))) = _
  rw [spreadCol (m := 16) (n := 128), scale_at hV w hg, normed_at hV w hg j hj]; rfl
end

theorem total_at {C : ℕ → FVec Ideal S16x128 .f32} {a : Fin 16 → ℕ → EReal} {n : ℕ} (hC : Cut C a (n + 1)) (b : Fin 16) (u : Fin 1) :
    total C n (ix2 b u) = ∑ i ∈ range (128 * (n + 1)), a b i := by
  show shapeCast S16x1 _ shapeCasts_S16_S16x1 (ix2 b u) = _
  rw [asCol (m := 16)]; exact rowTotal C a n hC b

theorem codeWord_at {C : ℕ → FVec Ideal S16x128 .f32} {a : Fin 16 → ℕ → EReal} {n : ℕ} (hC : Cut C a n) (j : ℕ) (hj : j < n)
    (b : Fin 16) (l : Fin 128) : codeWord (C j) (ix2 b l) = Ideal.fptosi 8 (a b (128 * j + l.val)) := by
  show shapeCast S16x128 _ shapeCasts_S16x128_S16x128 (ix2 b l) = _
  rw [shapeCast_apply (h := shapeCasts_S16x128_S16x128) _ (ix2 b l) (ix2 b l) rfl]
  show Ideal.fptosi 8 (C j (ix2 b l)) = _
  rw [hC j hj]

/-! ## The packed product -/

theorem codeTile_at (v : FVec Ideal S16x128 .f32) (b : Fin 16) (l : Fin 128) :
    shapeCast S16x128 (codeTile v) shapeCasts_S1x16x128_S16x128 (ix2 b l) = v (ix2 b l) := by
  rw [shapeCast_1ab_ab_apply (a := 16) (b := 128)]
  show shapeCast S1x16x128 _ shapeCasts_S16x128_S1x16x128 (ix3 0 b l) = _
  rw [shapeCast_ab_1ab_apply (a := 16) (b := 128)]; rfl

theorem wide_at {C : ℕ → FVec Ideal S16x128 .f32} {a : Fin 16 → ℕ → EReal} {n : ℕ} (hC : Cut C a n)
    {A : ℕ → Vec Ideal S1x16x128 .bf16} (hA : ∀ j < n, A j = codeTile (C j)) (k : ℕ) (hk : 2 * k + 1 < n)
    (b : Fin 16) (i : Fin 256) : wide (A (2 * k)) (A (2 * k + 1)) (ix2 b i) = a b (256 * k + i.val) := by
  by_cases h : i.val < 128
  · refine (concatenate_pair_apply_left (t := S16x256) (s₁ := S16x128) (s₂ := S16x128) 1 _ _ concatenates_S16x128_S16x128_S16x256_d1
      (ix2 b i) rfl (ix2 b (⟨i.val, h⟩ : Fin 128)) (fun d => match d with | ⟨0, _⟩ => rfl | ⟨1, _⟩ => rfl)).trans ?_
    rw [hA _ (by omega), codeTile_at, hC _ (by omega)]
    congr 1; show 128 * (2 * k) + i.val = _; omega
  · refine (concatenate_pair_apply_right (t := S16x256) (s₁ := S16x128) (s₂ := S16x128) 1 _ _ concatenates_S16x128_S16x128_S16x256_d1
      (ix2 b i) rfl rfl (ix2 b (⟨i.val - 128, by omega⟩ : Fin 128))
      (fun d hd => match d with | ⟨0, _⟩ => rfl | ⟨1, _⟩ => absurd rfl hd) ?_).trans ?_
    · show i.val - 128 + 128 = i.val; omega
    rw [hA _ hk, codeTile_at, hC _ hk]
    congr 1; show 128 * (2 * k + 1) + (i.val - 128) = _; omega

theorem field_at (w : Vec Ideal S128x256 .i8) (m : BitVec 8) (k : Fin 256) (c : Fin 128) :
    field w m (ix2 k c) = (((((w (ix2 c k) : BitVec 8) &&& m).toNat : ℕ) : ℝ) : EReal) := by
  show ((((transpose S256x128 [1, 0] w transposes_S128x256_p1_0_S256x128 (ix2 k c) &&& m : BitVec 8).toNat : ℕ) : ℝ) : EReal) = _
  rw [transpose_ix2_apply (a := 128) (b := 256)]

/-- The blocks `W` below `m` are 128 rows of packed weights, cut every 256 columns. -/
def CutW (W : ℕ → Vec Ideal S128x256 .i8) (Wt : Fin 128 → ℕ → BitVec 8) (m : ℕ) : Prop :=
  ∀ k < m, ∀ c i, W k (ix2 c i) = Wt c (256 * k + i.val)

theorem plain_eq : dot_S16x256_S256x256_S16x256_1_0_0_1_n_n = DotDims.plain 16 256 256 := rfl

section
variable {C : ℕ → FVec Ideal S16x128 .f32} {a : Fin 16 → ℕ → EReal} {n : ℕ} (hC : Cut C a (2 * (n + 1)))
  {A : ℕ → Vec Ideal S1x16x128 .bf16} (hA : ∀ j < 2 * (n + 1), A j = codeTile (C j))
  {W : ℕ → Vec Ideal S128x256 .i8} {Wt : Fin 128 → ℕ → BitVec 8} (hW : CutW W Wt (n + 1))

include hC hA hW

theorem step_lo (m₀ m₁ : BitVec 8) (k : ℕ) (hk : k < n + 1) (b : Fin 16) (c : Fin 128) (p : Fin 256) (hp : p.val = c.val) :
    step (A (2 * k)) (A (2 * k + 1)) (W k) m₀ m₁ (ix2 b p)
      = ∑ i : Fin 256, a b (256 * k + i.val) * ((((Wt c (256 * k + i.val) &&& m₀).toNat : ℕ) : ℝ) : EReal) := by
  show FloatOps.matmul (DotDims.plain 16 256 256) none _ _ _ (ix2 b p) = _
  rw [Ideal.matmul_plain_apply]
  show Spec.word 0x00000000#32 + _ = _
  rw [Spec.word_zero, zero_add]
  refine sum_congr rfl fun i _ => ?_
  rw [wide_at hC hA k (by omega)]
  refine congrArg (_ * ·) ?_
  refine (concatenate_pair_apply_left (t := S256x256) (s₁ := S256x128) (s₂ := S256x128) 1 _ _ concatenates_S256x128_S256x128_S256x256_d1
    (ix2 i p) rfl (ix2 i c) (fun d => match d with | ⟨0, _⟩ => rfl | ⟨1, _⟩ => hp.symm)).trans ?_
  rw [field_at, hW k hk]

theorem step_hi (m₀ m₁ : BitVec 8) (k : ℕ) (hk : k < n + 1) (b : Fin 16) (c : Fin 128) (p : Fin 256) (hp : p.val = 128 + c.val) :
    step (A (2 * k)) (A (2 * k + 1)) (W k) m₀ m₁ (ix2 b p)
      = ∑ i : Fin 256, a b (256 * k + i.val) * ((((Wt c (256 * k + i.val) &&& m₁).toNat : ℕ) : ℝ) : EReal) := by
  show FloatOps.matmul (DotDims.plain 16 256 256) none _ _ _ (ix2 b p) = _
  rw [Ideal.matmul_plain_apply]
  show Spec.word 0x00000000#32 + _ = _
  rw [Spec.word_zero, zero_add]
  refine sum_congr rfl fun i _ => ?_
  rw [wide_at hC hA k (by omega)]
  refine congrArg (_ * ·) ?_
  refine (concatenate_pair_apply_right (t := S256x256) (s₁ := S256x128) (s₂ := S256x128) 1 _ _ concatenates_S256x128_S256x128_S256x256_d1
    (ix2 i p) rfl rfl (ix2 i c) (fun d hd => match d with | ⟨0, _⟩ => rfl | ⟨1, _⟩ => absurd rfl hd) ?_).trans ?_
  · show c.val + 128 = p.val; omega
  rw [field_at, hW k hk]

omit hC hA hW in
theorem gather (F : ℕ → EReal) : ∑ k ∈ range (n + 1), ∑ i : Fin 256, F (256 * k + i.val) = ∑ k ∈ range (256 * (n + 1)), F k := by
  rw [sum_comm]; exact Spec.sum_blocks F 256 (n + 1)

/-- Field `i` of the packed product: the codes against the field in place, brought down. -/
theorem prod_at (i : ℕ) (hi : i < 4) (b : Fin 16) (c : Fin 128) :
    prod A W n i (ix2 b c)
      = (∑ k ∈ range (256 * (n + 1)), a b k * ((((Wt c k &&& Spec.mask i).toNat : ℕ) : ℝ) : EReal)) * Spec.word (Spec.down i) := by
  have lo : ∀ m₀ m₁, chain addf (fun k => step (A (2 * k)) (A (2 * k + 1)) (W k) m₀ m₁) n (ix2 b (⟨c.val, by omega⟩ : Fin 256))
      = ∑ k ∈ range (256 * (n + 1)), a b k * ((((Wt c k &&& m₀).toNat : ℕ) : ℝ) : EReal) := fun m₀ m₁ => by
    rw [chain_add_wide, ← gather (n := n) (fun k => a b k * ((((Wt c k &&& m₀).toNat : ℕ) : ℝ) : EReal))]
    exact sum_congr rfl fun k hk => step_lo hC hA hW m₀ m₁ k (mem_range.mp hk) b c _ rfl
  have hi' : ∀ m₀ m₁, chain addf (fun k => step (A (2 * k)) (A (2 * k + 1)) (W k) m₀ m₁) n (ix2 b (⟨128 + c.val, by omega⟩ : Fin 256))
      = ∑ k ∈ range (256 * (n + 1)), a b k * ((((Wt c k &&& m₁).toNat : ℕ) : ℝ) : EReal) := fun m₀ m₁ => by
    rw [chain_add_wide, ← gather (n := n) (fun k => a b k * ((((Wt c k &&& m₁).toNat : ℕ) : ℝ) : EReal))]
    exact sum_congr rfl fun k hk => step_hi hC hA hW m₀ m₁ k (mem_range.mp hk) b c _ rfl
  have cutL : ∀ x : FVec Ideal S16x256 .f32, extractStridedSlice S16x128 ![0, 0] x slices_S16x256_o0_0_S16x128 (ix2 b c)
      = x (ix2 b (⟨c.val, by omega⟩ : Fin 256)) := fun x =>
    extractStridedSlice_apply ![0, 0] x slices_S16x256_o0_0_S16x128 (ix2 b c) _ fun d => match d with
      | ⟨0, _⟩ => (Nat.zero_add _).symm | ⟨1, _⟩ => (Nat.zero_add _).symm
  have cutR : ∀ x : FVec Ideal S16x256 .f32, extractStridedSlice S16x128 ![0, 128] x slices_S16x256_o0_128_S16x128 (ix2 b c)
      = x (ix2 b (⟨128 + c.val, by omega⟩ : Fin 256)) := fun x =>
    extractStridedSlice_apply ![0, 128] x slices_S16x256_o0_128_S16x128 (ix2 b c) _ fun d => match d with
      | ⟨0, _⟩ => (Nat.zero_add _).symm | ⟨1, _⟩ => rfl
  interval_cases i
  · show extractStridedSlice S16x128 ![0, 0] (accLo A W n) slices_S16x256_o0_0_S16x128 (ix2 b c) * _ = _
    rw [cutL]; exact congrArg (· * _) (lo 3#8 12#8)
  · show extractStridedSlice S16x128 ![0, 128] (accLo A W n) slices_S16x256_o0_128_S16x128 (ix2 b c) * _ = _
    rw [cutR]; exact congrArg (· * _) (hi' 3#8 12#8)
  · show extractStridedSlice S16x128 ![0, 0] (accHi A W n) slices_S16x256_o0_0_S16x128 (ix2 b c) * _ = _
    rw [cutL]; exact congrArg (· * _) (lo 48#8 192#8)
  · show extractStridedSlice S16x128 ![0, 128] (accHi A W n) slices_S16x256_o0_128_S16x128 (ix2 b c) * _ = _
    rw [cutR]; exact congrArg (· * _) (hi' 48#8 192#8)

/-- The product of one field less the rows' totals. -/
theorem prod_sub (ha : ∀ b k, ∃ z : ℤ, a b k = ((z : ℝ) : EReal)) (i : ℕ) (hi : i < 4) (b : Fin 16) (c : Fin 128)
    (t : EReal) (ht : t = ∑ k ∈ range (256 * (n + 1)), a b k) :
    prod A W n i (ix2 b c) - t = Spec.lin (256 * (n + 1)) (a b) (Wt c) i := by
  rw [prod_at hC hA hW i hi, ht, Spec.lin_packed _ _ _ i hi fun k _ => ha b k]
end

/-- A projection added to the residual. -/
theorem added_at (r d : FVec Ideal S16x128 .f32) (t s : FVec Ideal S16x1 .f32) (ws : FVec Ideal S1x1 .f32) (b : Fin 16) (c : Fin 128) :
    added r d t s ws (ix2 b c) = r (ix2 b c) + (d (ix2 b c) - t (ix2 b 0)) * (s (ix2 b 0) * ws (ix2 0 0)) := by
  show r (ix2 b c) + (d (ix2 b c) - broadcastTo S16x128 t broadcasts_S16x1_S16x128 (ix2 b c))
    * broadcastTo S16x128 (mulf s (broadcastTo S16x1 ws broadcasts_S1x1_S16x1)) broadcasts_S16x1_S16x128 (ix2 b c) = _
  rw [spreadCol (m := 16) (n := 128), spreadCol (m := 16) (n := 128)]
  show _ + _ * (s (ix2 b 0) * broadcastTo S16x1 ws broadcasts_S1x1_S16x1 (ix2 b 0)) = _
  rw [spreadOne (m := 16) (n := 1)]

end Cert.KernelIdeal.Blocks
-- ==== Proof.LayerIdeal.lean ====
module

public import proofs.«01_k».proof.Proof.LayerTerms
public import proofs.«01_k».proof.Proof.BlocksIdeal
public import Idealize.ShloMosaic.Lib.KernelVsHost
public import Idealize.ShloMosaic.Lib.Pipeline.Value

/-!
# One layer of the kernel, on extended reals

If a layer's loads hold the rows, gains and packed weights of a layer of the specification, and what it reads
back is what it stored, then every block it stores is the specification's.
-/

@[expose] public section

noncomputable section

namespace Cert.KernelIdeal.Blocks

open Cert.KernelIdeal Cert.KernelIdeal.Gen Cert.Reading
open Idealize.ShloMosaic hiding ix1 ix2 ix3
open Idealize.ShloMosaic.ValueIdx Finset

theorem flat_at (v : Vec Ideal S1x16x128 .f32) (b : Fin 16) (l : Fin 128) : flat v (ix2 b l) = v (ix3 0 b l) := by
  show shapeCast S16x128 v shapeCasts_S1x16x128_S16x128 (ix2 b l) = _
  rw [shapeCast_1ab_ab_apply (a := 16) (b := 128)]

theorem tile_at (v : FVec Ideal S16x128 .f32) (b : Fin 16) (l : Fin 128) : tile v (ix3 0 b l) = v (ix2 b l) := by
  show shapeCast S1x16x128 v shapeCasts_S16x128_S1x16x128 (ix3 0 b l) = _
  rw [shapeCast_ab_1ab_apply (a := 16) (b := 128)]

theorem flat_tile (v : FVec Ideal S16x128 .f32) (b : Fin 16) (l : Fin 128) : flat (tile v) (ix2 b l) = v (ix2 b l) := by
  rw [flat_at, tile_at]

theorem same_at (v : FVec Ideal S16x128 .f32) (b : Fin 16) (l : Fin 128) : same v (ix2 b l) = v (ix2 b l) := by
  show shapeCast S16x128 v shapeCasts_S16x128_S16x128 (ix2 b l) = _
  rw [shapeCast_apply (h := shapeCasts_S16x128_S16x128) _ (ix2 b l) (ix2 b l) rfl]

theorem roll_at (v : FVec Ideal S16x128 .f32) (b : Fin 16) (l k : Fin 128) (hk : k.val = (l.val + 64) % 128) :
    roll v (ix2 b l) = v (ix2 b k) :=
  dynamicRotate_apply (s := S16x128) 1 64#32 v rotates_S16x128_d1 (ix2 b l) (ix2 b k) fun d => match d with
    | ⟨0, _⟩ => rfl
    | ⟨1, _⟩ => by show k.val = (l.val + 128 - 64 % 128) % 128; omega

theorem lane_at (b : Fin 16) (l : Fin 128) : iota .tc S16x128 32 [1] iota_S16x128_d1_w32 (ix2 b l) = BitVec.ofNat 32 l.val :=
  iota_single_apply .tc S16x128 32 1 iota_S16x128_d1_w32 (ix2 b l)

theorem half_at (b : Fin 16) (l : Fin 128) : half (ix2 b l) = if l.val < 64 then 1#1 else 0#1 := by
  show IntOp.cmpi .slt (iota .tc S16x128 32 [1] iota_S16x128_d1_w32 (ix2 b l)) 64#32 = _
  rw [lane_at]
  show IntOp.cmpi .slt (BitVec.ofNat 32 l.val) 64#32 = _
  revert l; decide +kernel

theorem pick_lo (u v : FVec Ideal S16x128 .f32) (b : Fin 16) (l : Fin 128) (h : l.val < 64) : select half u v (ix2 b l) = u (ix2 b l) := by
  show Scalar.select (half (ix2 b l)) _ _ = _
  rw [half_at, if_pos h]; rfl

theorem pick_hi (u v : FVec Ideal S16x128 .f32) (b : Fin 16) (l : Fin 128) (h : ¬ l.val < 64) : select half u v (ix2 b l) = v (ix2 b l) := by
  show Scalar.select (half (ix2 b l)) _ _ = _
  rw [half_at, if_neg h]; rfl

theorem gatedBlock_at (t s : FVec Ideal S16x1 .f32) (wsg wsu : FVec Ideal S1x1 .f32) (dg du : FVec Ideal S16x128 .f32) (b : Fin 16) (l : Fin 128) :
    gatedBlock t s wsg wsu dg du (ix2 b l)
      = max ((dg (ix2 b l) - t (ix2 b 0)) * (s (ix2 b 0) * wsg (ix2 0 0))) (Spec.word 0x00000000#32)
        * max ((dg (ix2 b l) - t (ix2 b 0)) * (s (ix2 b 0) * wsg (ix2 0 0))) (Spec.word 0x00000000#32)
        * ((du (ix2 b l) - t (ix2 b 0)) * (s (ix2 b 0) * wsu (ix2 0 0))) := by
  have e : ∀ (d : FVec Ideal S16x128 .f32) (ws : FVec Ideal S1x1 .f32),
      mulf (subf d (broadcastTo S16x128 t broadcasts_S16x1_S16x128))
        (broadcastTo S16x128 (mulf s (broadcastTo S16x1 ws broadcasts_S1x1_S16x1)) broadcasts_S16x1_S16x128) (ix2 b l)
      = (d (ix2 b l) - t (ix2 b 0)) * (s (ix2 b 0) * ws (ix2 0 0)) := fun d ws => by
    show (d (ix2 b l) - broadcastTo S16x128 t broadcasts_S16x1_S16x128 (ix2 b l))
      * broadcastTo S16x128 (mulf s (broadcastTo S16x1 ws broadcasts_S1x1_S16x1)) broadcasts_S16x1_S16x128 (ix2 b l) = _
    rw [spreadCol (m := 16) (n := 128), spreadCol (m := 16) (n := 128)]
    show _ * (s (ix2 b 0) * broadcastTo S16x1 ws broadcasts_S1x1_S16x1 (ix2 b 0)) = _
    rw [spreadOne (m := 16) (n := 1)]
  rw [← e dg wsg, ← e du wsu]; rfl

/-! ## A layer -/

namespace Loads

/-- A layer's loads hold the specification's layer `L`, the residual `r` and the attention output `a`, and what it
    reads back is what it stored. -/
structure Holds (X : Loads Ideal) (L : Spec.Layer) (r a : Fin 16 → ℕ → EReal) : Prop where
  attn : Cut X.attn a 20
  ga : CutRow X.ga L.ga 20
  gp : CutRow X.gp L.gp 20
  gf : CutRow X.gf L.gf 54
  act2 : ∀ j < 20, X.act2 j = codeTile (X.code2 j)
  act3 : ∀ j < 20, X.act3 j = codeTile (X.code3 j)
  act4 : ∀ j < 54, X.act4 j = codeTile (X.code4 j)
  wo : ∀ b < 5, CutW (X.wo b) (fun c => L.wo (128 * b + c.val)) 10
  wg : ∀ b < 13, CutW (X.wg b) (fun c => L.wg (128 * b + c.val)) 10
  wu : ∀ b < 13, CutW (X.wu b) (fun c => L.wu (128 * b + c.val)) 10
  wd : ∀ b < 5, CutW (X.wd b) (fun c => L.wd (128 * b + c.val)) 27
  wgt : ∀ k < 10, ∀ (c : Fin 64) (i : Fin 256), X.wgt k (ix2 c i) = L.wg (1664 + c.val) (256 * k + i.val)
  wut : ∀ k < 10, ∀ (c : Fin 64) (i : Fin 256), X.wut k (ix2 c i) = L.wu (1664 + c.val) (256 * k + i.val)
  so : X.so (ix2 0 0) = L.so
  sg : X.sg (ix2 0 0) = L.sg
  su : X.su (ix2 0 0) = L.su
  sd : X.sd (ix2 0 0) = L.sd
  res : Cut (fun j => flat (X.res j)) r 20
  mid : ∀ b < 5, ∀ i < 4, X.mid (i * 5 + b) = tile (X.midBlock b i)
  hid : ∀ n < 54, X.hid (hidAt n) = tile (X.hidBlock n)

namespace Holds
variable {X : Loads Ideal} {L : Spec.Layer} {r a : Fin 16 → ℕ → EReal} (H : X.Holds L r a)

/-- The residual after the output projection, the hidden vector and the residual after the layer, of each row. -/
def midOf (L : Spec.Layer) (r a : Fin 16 → ℕ → EReal) (b : Fin 16) : ℕ → EReal := L.mid (r b) (a b)
def hidOf (L : Spec.Layer) (r a : Fin 16 → ℕ → EReal) (b : Fin 16) : ℕ → EReal := L.hid (midOf L r a b)

include H

theorem scl2_at (b : Fin 16) (u : Fin 1) : X.scl2 (ix2 b u) = L.s2 (a b) :=
  scale_at (n := 19) H.attn 0x45200000#32 H.ga b u

theorem code2_cut : Cut X.code2 (fun b => L.c2 (a b)) 20 := fun j hj b l =>
  coded_at (n := 19) H.attn 0x45200000#32 H.ga j hj b l

omit H in
theorem ints {w : BitVec 32} {n : ℕ} {g : ℕ → EReal} {f : Fin 16 → ℕ → EReal} (b : Fin 16) (k : ℕ) :
    ∃ z : ℤ, Spec.quantCode w n g (f b) k = ((z : ℝ) : EReal) := by
  obtain ⟨z, _, _, h⟩ := Spec.codeOf_int (Spec.quantScale w n g (f b)) (Spec.normed w n g (f b) k)
  exact ⟨z, h⟩

theorem mid_at (b' : ℕ) (hb : b' < 5) (i : ℕ) (hi : i < 4) (b : Fin 16) (l : Fin 128) :
    X.midBlock b' i (ix2 b l) = midOf L r a b (128 * (i * 5 + b') + l.val) := by
  show added _ _ _ _ _ (ix2 b l) = _
  have hd : (128 * (i * 5 + b') + l.val) / 640 = i := by omega
  have hm : (128 * (i * 5 + b') + l.val) % 640 = 128 * b' + l.val := by omega
  have hr := H.res (i * 5 + b') (by omega) b l
  have hp := prod_sub (n := 9) H.code2_cut H.act2 (H.wo b' hb) (fun b k => ints b k) i hi b l _ (total_at (n := 19) H.code2_cut b 0)
  rw [added_at, H.scl2_at, H.so]
  refine (congrArg₂ (fun u v => u + v * _) hr hp).trans ?_
  show _ = r b _ + Spec.linear 2560 640 _ _ _ _ _
  unfold Spec.linear
  rw [hd, hm]

/-- The residual as it is read back. -/
theorem mid_cut : Cut (fun j => flat (X.mid j)) (midOf L r a) 20 := fun j hj b l => by
  have e : j = j / 5 * 5 + j % 5 := by omega
  show flat (X.mid j) (ix2 b l) = _
  rw [e, H.mid (j % 5) (by omega) (j / 5) (by omega), flat_tile, H.mid_at _ (by omega) _ (by omega)]

theorem scl3_at (b : Fin 16) (u : Fin 1) : X.scl3 (ix2 b u) = L.s3 (midOf L r a b) :=
  scale_at (n := 19) H.mid_cut 0x45200000#32 H.gp b u

theorem code3_cut : Cut X.code3 (fun b => L.c3 (midOf L r a b)) 20 := fun j hj b l =>
  coded_at (n := 19) H.mid_cut 0x45200000#32 H.gp j hj b l

/-- The gated product, from a row of the gate's and a row of the up projection's weights. -/
theorem gated_at (dg du : FVec Ideal S16x128 .f32) (o : ℕ) (i rw : ℕ) (hi : o / 1728 = i) (hr : o % 1728 = rw) (b : Fin 16) (l : Fin 128)
    (hg : dg (ix2 b l) - X.tot3 (ix2 b 0) = Spec.lin 2560 (L.c3 (midOf L r a b)) (L.wg rw) i)
    (hu : du (ix2 b l) - X.tot3 (ix2 b 0) = Spec.lin 2560 (L.c3 (midOf L r a b)) (L.wu rw) i) :
    X.gated dg du (ix2 b l) = hidOf L r a b o := by
  show gatedBlock _ _ _ _ _ _ _ = _
  rw [gatedBlock_at, hg, hu, H.scl3_at, H.sg, H.su]
  subst hi; subst hr; rfl

theorem pair_at (b' : ℕ) (hb : b' < 13) (i : ℕ) (hi : i < 4) (b : Fin 16) (l : Fin 128) :
    X.pair b' i (ix2 b l) = hidOf L r a b (1728 * i + (128 * b' + l.val)) :=
  H.gated_at _ _ _ i (128 * b' + l.val) (by omega) (by omega) b l
    (prod_sub (n := 9) H.code3_cut H.act3 (H.wg b' hb) (fun b k => ints b k) i hi b l _ (total_at (n := 19) H.code3_cut b 0))
    (prod_sub (n := 9) H.code3_cut H.act3 (H.wu b' hb) (fun b k => ints b k) i hi b l _ (total_at (n := 19) H.code3_cut b 0))

/-- The joint block of the last rows of both weights. -/
theorem tailW_cut : CutW X.tailW (fun c => if c.val < 64 then L.wg (1664 + c.val) else L.wu (1600 + c.val)) 10 := fun k hk c i => by
  by_cases h : c.val < 64
  · refine (concatenate_pair_apply_left (t := S128x256) (s₁ := S64x256) (s₂ := S64x256) 0 _ _ concatenates_S64x256_S64x256_S128x256_d0
      (ix2 c i) rfl (ix2 (⟨c.val, h⟩ : Fin 64) i) (fun d => match d with | ⟨0, _⟩ => rfl | ⟨1, _⟩ => rfl)).trans ?_
    rw [H.wgt k hk]; show _ = (if c.val < 64 then L.wg (1664 + c.val) else L.wu (1600 + c.val)) _; rw [if_pos h]
  · refine (concatenate_pair_apply_right (t := S128x256) (s₁ := S64x256) (s₂ := S64x256) 0 _ _ concatenates_S64x256_S64x256_S128x256_d0
      (ix2 c i) rfl rfl (ix2 (⟨c.val - 64, by omega⟩ : Fin 64) i)
      (fun d hd => match d with | ⟨0, _⟩ => absurd rfl hd | ⟨1, _⟩ => rfl) ?_).trans ?_
    · show c.val - 64 + 64 = c.val; omega
    rw [H.wut k hk]; show _ = (if c.val < 64 then L.wg (1664 + c.val) else L.wu (1600 + c.val)) _; rw [if_neg h]
    congr 1; show 1664 + (c.val - 64) = _; omega

theorem tail_at (i : ℕ) (hi : i < 4) (b : Fin 16) (l : Fin 128) (hl : l.val < 64) :
    X.tail i (ix2 b l) = hidOf L r a b (1728 * i + (1664 + l.val)) := by
  refine H.gated_at _ _ _ i (1664 + l.val) (by omega) (by omega) b l ?_ ?_
  · refine (prod_sub (n := 9) H.code3_cut H.act3 H.tailW_cut (fun b k => ints b k) i hi b l _ (total_at (n := 19) H.code3_cut b 0)).trans ?_
    rw [if_pos hl]
  · rw [roll_at _ b l ⟨l.val + 64, by omega⟩ (by show l.val + 64 = _; omega)]
    refine (prod_sub (n := 9) H.code3_cut H.act3 H.tailW_cut (fun b k => ints b k) i hi b ⟨l.val + 64, by omega⟩ _ (total_at (n := 19) H.code3_cut b 0)).trans ?_
    rw [if_neg (by show ¬ l.val + 64 < 64; omega)]
    congr 2; show 1600 + (l.val + 64) = _; omega

/-- What the lanes below 64 take over: the 64 columns before block `b'` of field `2 k + 1`. -/
theorem carry_at (k : ℕ) (hk : k < 2) (b' : ℕ) (hb : b' < 14) (b : Fin 16) (l : Fin 128) (hl : l.val < 64) :
    X.carry k b' (ix2 b l) = hidOf L r a b (1728 * (2 * k + 1) + 128 * b' + l.val - 64) := by
  cases b' with
  | zero =>
    show X.tail (2 * k) (ix2 b l) = _
    rw [H.tail_at _ (by omega) b l hl]; congr 1; omega
  | succ b' =>
    show roll (X.pair b' (2 * k + 1)) (ix2 b l) = _
    rw [roll_at _ b l ⟨l.val + 64, by omega⟩ (by show l.val + 64 = _; omega), H.pair_at b' (by omega) _ (by omega)]
    congr 1; show 1728 * (2 * k + 1) + (128 * b' + (l.val + 64)) = _; omega

theorem hidBlock_at (n : ℕ) (hn : n < 54) (b : Fin 16) (l : Fin 128) :
    X.hidBlock n (ix2 b l) = hidOf L r a b (128 * hidAt n + l.val) := by
  unfold hidBlock hidAt
  by_cases h : n < 52
  · rw [if_pos h, if_pos h]
    by_cases he : n % 4 % 2 = 0
    · rw [if_pos he, H.pair_at _ (by omega) _ (by omega)]; congr 1; omega
    · rw [if_neg he]
      by_cases hl : l.val < 64
      · rw [pick_lo _ _ b l hl, H.carry_at _ (by omega) _ (by omega) b l hl]; congr 1; omega
      · rw [pick_hi _ _ b l hl, roll_at _ b l ⟨l.val - 64, by omega⟩ (by show l.val - 64 = _; omega), H.pair_at _ (by omega) _ (by omega)]
        congr 1; show 1728 * (n % 4) + (128 * (n / 4) + (l.val - 64)) = _; omega
  · rw [if_neg h, if_neg h]
    by_cases hl : l.val < 64
    · rw [pick_lo _ _ b l hl, H.carry_at _ (by omega) _ (by omega) b l hl]; congr 1; omega
    · rw [pick_hi _ _ b l hl, roll_at _ b l ⟨l.val - 64, by omega⟩ (by show l.val - 64 = _; omega),
        H.tail_at _ (by omega) b _ (by show l.val - 64 < 64; omega)]
      congr 1; show 1728 * (2 * (n - 52) + 1) + (1664 + (l.val - 64)) = _; omega

/-- Every tile of the hidden vector is stored once. -/
theorem hid_cut : Cut (fun j => flat (X.hid j)) (hidOf L r a) 54 := fun j hj b l => by
  obtain ⟨n, hn, e⟩ : ∃ n < 54, hidAt n = j := by
    have : ∀ j : Fin 54, ∃ n : Fin 54, hidAt n.val = j.val := by decide
    obtain ⟨n, e⟩ := this ⟨j, hj⟩
    exact ⟨n.val, n.isLt, e⟩
  subst e
  show flat (X.hid (hidAt n)) (ix2 b l) = _
  rw [H.hid n hn, flat_tile, H.hidBlock_at n hn]

theorem scl4_at (b : Fin 16) (u : Fin 1) : X.scl4 (ix2 b u) = L.s4 (hidOf L r a b) :=
  scale_at (n := 53) H.hid_cut 0x45D80000#32 H.gf b u

theorem code4_cut : Cut X.code4 (fun b => L.c4 (hidOf L r a b)) 54 := fun j hj b l =>
  coded_at (n := 53) H.hid_cut 0x45D80000#32 H.gf j hj b l

theorem out_at (b' : ℕ) (hb : b' < 5) (i : ℕ) (hi : i < 4) (b : Fin 16) (l : Fin 128) :
    X.outBlock b' i (ix2 b l) = L.out (midOf L r a b) (hidOf L r a b) (128 * (i * 5 + b') + l.val) := by
  show added _ _ _ _ _ (ix2 b l) = _
  have hd : (128 * (i * 5 + b') + l.val) / 640 = i := by omega
  have hm : (128 * (i * 5 + b') + l.val) % 640 = 128 * b' + l.val := by omega
  have hr := H.mid_cut (i * 5 + b') (by omega) b l
  have hp := prod_sub (n := 26) H.code4_cut H.act4 (H.wd b' hb) (fun b k => ints b k) i hi b l _ (total_at (n := 53) H.code4_cut b 0)
  rw [added_at, H.scl4_at, H.sd]
  refine (congrArg₂ (fun u v => u + v * _) hr hp).trans ?_
  show _ = midOf L r a b _ + Spec.linear 6912 640 _ _ _ _ _
  unfold Spec.linear
  rw [hd, hm]

/-! ## The rows of scales -/

omit H in
theorem intoCol_hit (k : BitVec 32) (s : FVec Ideal S16x1 .f32) (v : FVec Ideal S16x128 .f32) (b : Fin 16) (l : Fin 128)
    (h : BitVec.ofNat 32 l.val = k) : intoCol k s v (ix2 b l) = s (ix2 b 0) := by
  show Scalar.select (IntOp.cmpi .eq (iota .tc S16x128 32 [1] iota_S16x128_d1_w32 (ix2 b l)) k) (broadcastTo S16x128 (shapeCast S16x1 s shapeCasts_S16x1_S16x1) broadcasts_S16x1_S16x128 (ix2 b l)) _ = _
  rw [lane_at, h, spreadCol (m := 16) (n := 128), shapeCast_apply (h := shapeCasts_S16x1_S16x1) _ (ix2 b 0) (ix2 b 0) rfl]
  show (if BitVec.ofBool (k == k) = 1#1 then _ else _) = _
  simp

omit H in
theorem intoCol_miss (k : BitVec 32) (s : FVec Ideal S16x1 .f32) (v : FVec Ideal S16x128 .f32) (b : Fin 16) (l : Fin 128)
    (h : BitVec.ofNat 32 l.val ≠ k) : intoCol k s v (ix2 b l) = v (ix2 b l) := by
  show Scalar.select (IntOp.cmpi .eq (iota .tc S16x128 32 [1] iota_S16x128_d1_w32 (ix2 b l)) k) _ _ = _
  rw [lane_at]
  show (if BitVec.ofBool (BitVec.ofNat 32 l.val == k) = 1#1 then _ else _) = _
  rw [beq_eq_false_iff_ne.mpr h]; rfl

omit H in
theorem row_at (v : FVec Ideal S16x128 .f32) (k : ℕ) (hk : k < 128) (hs : S128x16.Slices ![k, 0] S1x16) (b : Fin 16) :
    shapeCast S1x1x16 (extractStridedSlice S1x16 ![k, 0] (transpose S128x16 [1, 0] v transposes_S16x128_p1_0_S128x16) hs)
      shapeCasts_S1x16_S1x1x16 (ix3 0 0 b) = v (ix2 b ⟨k, hk⟩) := by
  rw [shapeCast_ab_1ab_apply (a := 1) (b := 16)]
  rw [extractStridedSlice_apply ![k, 0] _ hs (ix2 0 b) (ix2 (⟨k, hk⟩ : Fin 128) b) fun d => match d with
    | ⟨0, _⟩ => rfl | ⟨1, _⟩ => (Nat.zero_add _).symm]
  rw [transpose_ix2_apply (a := 16) (b := 128)]

theorem scaleRow2_at (b : Fin 16) : X.scaleRow2 (ix3 0 0 b) = L.s2 (a b) := by
  refine (row_at _ 11 (by norm_num) slices_S128x16_o11_0_S1x16 b).trans ?_
  rw [intoCol_miss _ _ _ b _ (by decide), intoCol_miss _ _ _ b _ (by decide), intoCol_hit _ _ _ b _ (by decide), H.scl2_at]

theorem scaleRow3_at (b : Fin 16) : X.scaleRow3 (ix3 0 0 b) = L.s3 (midOf L r a b) := by
  refine (row_at _ 12 (by norm_num) slices_S128x16_o12_0_S1x16 b).trans ?_
  rw [intoCol_miss _ _ _ b _ (by decide), intoCol_hit _ _ _ b _ (by decide), H.scl3_at]

theorem scaleRow4_at (b : Fin 16) : X.scaleRow4 (ix3 0 0 b) = L.s4 (hidOf L r a b) := by
  refine (row_at _ 13 (by norm_num) slices_S128x16_o13_0_S1x16 b).trans ?_
  rw [intoCol_hit _ _ _ b _ (by decide), H.scl4_at]

end Holds
end Loads

end Cert.KernelIdeal.Blocks
-- ==== Proof.Buffers.lean ====
module

public import proofs.«01_k».proof.Proof.LayerTerms
public import proofs.«01_k».proof.Proof.LayerIdeal
public import Idealize.ShloMosaic.Lib.Pipeline.FrameBody
public import Idealize.ShloMosaic.Lib.Writes

/-!
# Reading buffers

A buffer that holds a list of blocks, each stored once, reads as the block that holds the place; two pages of an
array written one after the other read as the one or the other.
-/

@[expose] public section

noncomputable section

namespace Cert.KernelIdeal.Blocks

open Idealize.ShloMosaic hiding ix1 ix2 ix3
open Idealize.ShloMosaic.ValueIdx Idealize.SL.Sem

section
variable {Val : EltTy → Type} [∀ e, Nonempty (Val e)] {s : Shape} {e : EltTy}

/-- Under a list of blocks that a key tells apart, a place of one of them holds what that block stored. -/
theorem canon_stored {N : ℕ} (f : Fin N → View.Piece Val s e) (base : List (View.Piece Val s e)) (key : s.Idx → ℕ) (κ : Fin N → ℕ)
    (inj : ∀ i j, κ i = κ j → i = j) (hk : ∀ j x, key ((f j).1.emb x) = κ j) :
    ∀ (n : ℕ) (h : n ≤ N) (j : Fin N) (_ : j.val < n) (x : (f j).1.shape.Idx) (y : s.Idx) (_ : (f j).1.emb x = y),
      View.canon (newestOn f base n h) y = (f j).2 x
  | 0, _, _, hj, _, _, _ => absurd hj (Nat.not_lt_zero _)
  | n + 1, h, j, hj, x, y, hy => by
    subst hy
    show View.canon (f ⟨n, h⟩ :: newestOn f base n _) _ = _
    by_cases hn : j.val = n
    · have e : (⟨n, h⟩ : Fin N) = j := Fin.ext hn.symm
      rw [e]
      exact View.canon_cons_emb (f j).1 (f j).2 _ x
    · rw [View.canon_cons_of_not_mem]
      · exact canon_stored f base key κ inj hk n _ j (by omega) x _ rfl
      · intro hm
        obtain ⟨z, hz⟩ := (f ⟨n, h⟩).1.exists_idx_of_mem hm
        have := (congrArg key hz).symm.trans (hk ⟨n, h⟩ z)
        exact hn (congrArg Fin.val (inj _ _ ((hk j x).symm.trans this)))

/-- A block of the list. -/
theorem mem_newestOn {α : Type} {N : ℕ} (f : Fin N → α) (base : List α) : ∀ (n : ℕ) (h : n ≤ N) (j : Fin N), j.val < n → f j ∈ newestOn f base n h
  | 0, _, _, hj => absurd hj (Nat.not_lt_zero _)
  | n + 1, h, j, hj => by
    show f j ∈ f ⟨n, h⟩ :: newestOn f base n _
    by_cases hn : j.val = n
    · rw [show (⟨n, h⟩ : Fin N) = j from Fin.ext hn.symm]; exact List.mem_cons_self
    · exact List.mem_cons_of_mem _ (mem_newestOn f base n _ j (by omega))

/-- So reads the whole buffer. -/
theorem read_stored {sig : RefSig} {κ' : Kind} {sp : Space} (v : View sig κ' sp s e) (fs : v.ty.Contents Val) {N : ℕ} (f : Fin N → View.Piece Val s e)
    (base : List (View.Piece Val s e)) (key : s.Idx → ℕ) (κ : Fin N → ℕ) (inj : ∀ i j, κ i = κ j → i = j)
    (hk : ∀ j x, key ((f j).1.emb x) = κ j) (n : ℕ) (h : n ≤ N) (j : Fin N) (hj : j.val < n) (x : (f j).1.shape.Idx) (y : s.Idx)
    (hy : (f j).1.emb x = y) : v.read Val (v.writes Val fs (newestOn f base n h)) y = (f j).2 x := by
  rw [View.read_writes_apply_eq_canon v fs y _ ⟨f j, mem_newestOn f base n h j hj, ?_⟩]
  · exact canon_stored f base key κ inj hk n h j hj x y hy
  · subst hy; exact (f j).1.idx_mem x

/-- A whole buffer written last holds what was written. -/
theorem canon_whole (d : (Rect.whole s).shape.Idx → Val e) (base : List (View.Piece Val s e)) (y : s.Idx) :
    View.canon (⟨Rect.whole s, d⟩ :: base) y = d y := by
  have h : (Rect.whole s).emb y = y := Rect.emb_eq_of_coords _ _ _ fun a => by
    show (y a).val = 0 + 1 * (y a).val; omega
  conv_lhs => rw [← h]
  exact View.canon_cons_emb (Rect.whole s) d base y

/-- Page `l` of an array. -/
theorem page {α : Type} {n a b : ℕ} (f : (⟨3, ![n, a, b]⟩ : Shape).Idx → α) (l : ℕ) (hl : l < n)
    (inb : ∀ d, (![l, 0, 0] : Fin 3 → ℕ) d + (![1, a, b] : Fin 3 → ℕ) d ≤ (⟨3, ![n, a, b]⟩ : Shape).size d)
    (h : (⟨3, ![1, a, b]⟩ : Shape).ShapeCasts ⟨2, ![a, b]⟩) (i : Fin a) (j : Fin b) :
    shapeCast ⟨2, ![a, b]⟩ (fun x : (⟨3, ![1, a, b]⟩ : Shape).Idx => f ((Rect.unit (s := ⟨3, ![n, a, b]⟩) ![l, 0, 0] ![1, a, b] inb).emb x)) h (ix2 i j)
      = f (ix3 ⟨l, hl⟩ i j) := by
  rw [shapeCast_1ab_ab_apply (a := a) (b := b)]
  refine congrArg f (Rect.emb_eq_of_coords _ _ _ fun d => match d with | ⟨0, _⟩ => ?_ | ⟨1, _⟩ => ?_ | ⟨2, _⟩ => ?_)
  · show l = l + 1 * 0; omega
  · show i.val = 0 + 1 * i.val; omega
  · show j.val = 0 + 1 * j.val; omega

/-- An array of two pages whose page 0 was written, then page 1. -/
theorem pages {sig : RefSig} {κ' : Kind} {sp : Space} {a b : ℕ} (v : View sig κ' sp (⟨3, ![2, a, b]⟩ : Shape) e) (f : v.ty.Contents Val)
    (inb0 : ∀ d, (![0, 0, 0] : Fin 3 → ℕ) d + (![1, a, b] : Fin 3 → ℕ) d ≤ (⟨3, ![2, a, b]⟩ : Shape).size d)
    (inb1 : ∀ d, (![1, 0, 0] : Fin 3 → ℕ) d + (![1, a, b] : Fin 3 → ℕ) d ≤ (⟨3, ![2, a, b]⟩ : Shape).size d)
    (h0 h1 : (⟨2, ![a, b]⟩ : Shape).numel = (⟨3, ![1, a, b]⟩ : Shape).numel)
    (d0 d1 : (⟨2, ![a, b]⟩ : Shape).Idx → Val e) (l : Fin 2) (i : Fin a) (j : Fin b) :
    v.read Val (((v.slice (Rect.unit (s := ⟨3, ![2, a, b]⟩) ![1, 0, 0] ![1, a, b] inb1)).reshape ⟨2, ![a, b]⟩ h1).write Val
      (((v.slice (Rect.unit (s := ⟨3, ![2, a, b]⟩) ![0, 0, 0] ![1, a, b] inb0)).reshape ⟨2, ![a, b]⟩ h0).write Val f d0 Finset.univ) d1 Finset.univ)
      (ix3 l i j) = if l.val = 0 then d0 (ix2 i j) else d1 (ix2 i j) := by
  have place : ∀ (k : Fin 2) (inb : ∀ d, (![k.val, 0, 0] : Fin 3 → ℕ) d + (![1, a, b] : Fin 3 → ℕ) d ≤ (⟨3, ![2, a, b]⟩ : Shape).size d)
      (h : (⟨2, ![a, b]⟩ : Shape).numel = (⟨3, ![1, a, b]⟩ : Shape).numel),
      ((v.slice (Rect.unit (s := ⟨3, ![2, a, b]⟩) ![k.val, 0, 0] ![1, a, b] inb)).reshape ⟨2, ![a, b]⟩ h).emb (ix2 i j) = v.emb (ix3 k i j) := fun k inb h => by
    have := page (α := (⟨3, ![2, a, b]⟩ : Shape).Idx) (fun x => x) k.val k.isLt inb h i j
    exact congrArg v.emb this
  rcases l with ⟨l, hl⟩
  rcases (by omega : l = 0 ∨ l = 1) with rfl | rfl
  · have e := place 0 inb0 h0
    rw [View.read_apply, View.write_of_not_mem, if_pos rfl]
    · refine (congrArg (_root_.cast _) ((congrArg _ e.symm).trans (View.write_emb_of_mem _ _ (Finset.mem_univ _)))).trans ?_
      simp
    · intro hm
      obtain ⟨z, _, hz⟩ := Finset.mem_map.mp hm
      have hz' : (Rect.unit (s := ⟨3, ![2, a, b]⟩) ![1, 0, 0] ![1, a, b] inb1).emb (Shape.reshapeEquiv h1 z) = ix3 ⟨0, by omega⟩ i j := v.emb.injective hz
      have h3 := congrArg Fin.val (congrFun hz' 0)
      have h4 : 1 + 1 * (Shape.reshapeEquiv h1 z 0).val = 0 := h3
      omega
  · have e := place 1 inb1 h1
    rw [View.read_apply, if_neg Nat.one_ne_zero]
    refine (congrArg (_root_.cast _) ((congrArg _ e.symm).trans (View.write_emb_of_mem _ _ (Finset.mem_univ _)))).trans ?_
    simp
end

end Cert.KernelIdeal.Blocks
-- ==== Proof.Loaded.lean ====
module

public import proofs.«01_k».proof.Proof.Bridge0
public import proofs.«01_k».proof.Proof.Bridge1
public import proofs.«01_k».proof.Proof.Buffers
public import proofs.«01_k».proof.Proof.Data

/-!
# The two layers of the run

What layer 0 and layer 1 of the kernel load are the specification's rows: the operands' pages, the codes, the
residual and the hidden vector that the layer stored, and for layer 1 the residual that layer 0 left.
-/

@[expose] public section

set_option synthInstance.maxSize 4096
set_option maxRecDepth 65536

noncomputable section

namespace Cert.KernelIdeal.Bridge

open Cert.KernelIdeal Cert.KernelIdeal.Gen Cert.KernelIdeal.Hand Cert.KernelIdeal.Blocks Cert.Reading
open Idealize.ShloMosaic hiding ix1 ix2 ix3
open Idealize.ShloMosaic.ValueIdx Idealize.SL.Sem Finset

attribute [local irreducible] newestOn codeTile tile

/-! ## Where the rectangles place -/

theorem strided20_at (j : ℕ) (hj : j < 20) (b : Fin 16) (l : Fin 128) :
    (strided20 j).emb (ix2 b l : S16x128.Idx) = ix2 ⟨20 * b.val + j, by omega⟩ l :=
  Rect.emb_eq_of_coords _ _ _ fun d => match d with
    | ⟨0, _⟩ => by show 20 * b.val + j = j % 20 + 20 * b.val; omega
    | ⟨1, _⟩ => by show l.val = 0 + 1 * l.val; omega
theorem strided54_at (j : ℕ) (hj : j < 54) (b : Fin 16) (l : Fin 128) :
    (strided54 j).emb (ix2 b l : S16x128.Idx) = ix2 ⟨54 * b.val + j, by omega⟩ l :=
  Rect.emb_eq_of_coords _ _ _ fun d => match d with
    | ⟨0, _⟩ => by show 54 * b.val + j = j % 54 + 54 * b.val; omega
    | ⟨1, _⟩ => by show l.val = 0 + 1 * l.val; omega
theorem gain20_at (k : Fin 2) (j : ℕ) (hj : j < 20) (l : Fin 128) :
    (gain20 k.val j).emb (ix2 0 l : S1x128.Idx) = ix2 k ⟨128 * j + l.val, by omega⟩ :=
  Rect.emb_eq_of_coords _ _ _ fun d => match d with
    | ⟨0, _⟩ => by show k.val = k.val % 2 + 1 * 0; omega
    | ⟨1, _⟩ => by show 128 * j + l.val = 128 * (j % 20) + 1 * l.val; omega
theorem gain54_at (k : Fin 2) (j : ℕ) (hj : j < 54) (l : Fin 128) :
    (gain54 k.val j).emb (ix2 0 l : S1x128.Idx) = ix2 k ⟨128 * j + l.val, by omega⟩ :=
  Rect.emb_eq_of_coords _ _ _ fun d => match d with
    | ⟨0, _⟩ => by show k.val = k.val % 2 + 1 * 0; omega
    | ⟨1, _⟩ => by show 128 * j + l.val = 128 * (j % 54) + 1 * l.val; omega
theorem cols20_at (j : ℕ) (hj : j < 20) (b : Fin 16) (l : Fin 128) :
    (cols20 j).emb (ix2 b l : S16x128.Idx) = ix2 b ⟨128 * j + l.val, by omega⟩ :=
  Rect.emb_eq_of_coords _ _ _ fun d => match d with
    | ⟨0, _⟩ => by show b.val = 0 + 1 * b.val; omega
    | ⟨1, _⟩ => by show 128 * j + l.val = 128 * (j % 20) + 1 * l.val; omega
theorem cols54_at (j : ℕ) (hj : j < 54) (b : Fin 16) (l : Fin 128) :
    (cols54 j).emb (ix2 b l : S16x128.Idx) = ix2 b ⟨128 * j + l.val, by omega⟩ :=
  Rect.emb_eq_of_coords _ _ _ fun d => match d with
    | ⟨0, _⟩ => by show b.val = 0 + 1 * b.val; omega
    | ⟨1, _⟩ => by show 128 * j + l.val = 128 * (j % 54) + 1 * l.val; omega
theorem wo128_at (b k : ℕ) (hb : b < 5) (hk : k < 10) (c : Fin 128) (i : Fin 256) :
    (wo128 b k).emb (ix2 c i : S128x256.Idx) = ix2 ⟨128 * b + c.val, by omega⟩ ⟨256 * k + i.val, by omega⟩ :=
  Rect.emb_eq_of_coords _ _ _ fun d => match d with
    | ⟨0, _⟩ => by show 128 * b + c.val = 128 * (b % 5) + 1 * c.val; omega
    | ⟨1, _⟩ => by show 256 * k + i.val = 256 * (k % 10) + 1 * i.val; omega
theorem wg128_at (b k : ℕ) (hb : b < 13) (hk : k < 10) (c : Fin 128) (i : Fin 256) :
    (wg128 b k).emb (ix2 c i : S128x256.Idx) = ix2 ⟨128 * b + c.val, by omega⟩ ⟨256 * k + i.val, by omega⟩ :=
  Rect.emb_eq_of_coords _ _ _ fun d => match d with
    | ⟨0, _⟩ => by show 128 * b + c.val = 128 * (b % 13) + 1 * c.val; omega
    | ⟨1, _⟩ => by show 256 * k + i.val = 256 * (k % 10) + 1 * i.val; omega
theorem wg64_at (k : ℕ) (hk : k < 10) (c : Fin 64) (i : Fin 256) :
    (wg64 k).emb (ix2 c i : S64x256.Idx) = ix2 ⟨1664 + c.val, by omega⟩ ⟨256 * k + i.val, by omega⟩ :=
  Rect.emb_eq_of_coords _ _ _ fun d => match d with
    | ⟨0, _⟩ => by show 1664 + c.val = 1664 + 1 * c.val; omega
    | ⟨1, _⟩ => by show 256 * k + i.val = 256 * (k % 10) + 1 * i.val; omega
theorem wd128_at (b k : ℕ) (hb : b < 5) (hk : k < 27) (c : Fin 128) (i : Fin 256) :
    (wd128 b k).emb (ix2 c i : S128x256.Idx) = ix2 ⟨128 * b + c.val, by omega⟩ ⟨256 * k + i.val, by omega⟩ :=
  Rect.emb_eq_of_coords _ _ _ fun d => match d with
    | ⟨0, _⟩ => by show 128 * b + c.val = 128 * (b % 5) + 1 * c.val; omega
    | ⟨1, _⟩ => by show 256 * k + i.val = 256 * (k % 27) + 1 * i.val; omega

theorem tile54_key (j : ℕ) (x : S1x16x128.Idx) : (((tile54 j).emb x) 0).val = j % 54 := by
  have h : (x 0).val < 1 := (x 0).isLt
  show j % 54 + 1 * (x 0).val = j % 54; omega
theorem tile20_key (j : ℕ) (x : S1x16x128.Idx) : (((tile20 j).emb x) 0).val = j % 20 := by
  have h : (x 0).val < 1 := (x 0).isLt
  show j % 20 + 1 * (x 0).val = j % 20; omega

theorem hidAt_lt (n : ℕ) (h : n < 54) : hidAt n < 54 := by unfold hidAt; split <;> omega
theorem hidAt_inj (i j : Fin 54) (h : hidAt i.val = hidAt j.val) : i = j := by revert i j; decide +kernel

/-! ## What a load of a stored block reads -/

section
variable {F : FTy → Type} [FloatOps F]

/-- A tile of 54 read back after every tile of a list was stored at its place. -/
theorem load54 {e : EltTy} (v : View sig .tc .vmem S54x16x128 e) (N : ℕ) (ρ : ℕ → ℕ) (hρ : ∀ n < N, ρ n < 54)
    (inj : ∀ i j : Fin N, ρ i.val = ρ j.val → i = j) (w : ℕ → Vec F S1x16x128 e) (base : List (View.Piece (Elt F) S54x16x128 e)) (n : ℕ) (hn : n < N) :
    (v.readCov (newestOn (N := N) (fun j => ⟨tile54 (ρ j.val), w j.val⟩) base N le_rfl) (tile54 (ρ n)).toLoadRect : Vec F S1x16x128 e) = w n := by
  rw [View.readCov_eq_canon']
  funext x
  exact canon_stored (N := N) (fun j => ⟨tile54 (ρ j.val), w j.val⟩) base (fun y => (y 0).val) (fun j => ρ j.val)
    inj (fun j x => (tile54_key _ x).trans (Nat.mod_eq_of_lt (hρ _ j.isLt))) N le_rfl ⟨n, hn⟩ hn x _ rfl

/-- A tile of 20 likewise. -/
theorem load20 {e : EltTy} (v : View sig .tc .vmem S20x16x128 e) (ρ : ℕ → ℕ) (hρ : ∀ n < 20, ρ n < 20)
    (inj : ∀ i j : Fin 20, ρ i.val = ρ j.val → i = j) (w : ℕ → Vec F S1x16x128 e) (base : List (View.Piece (Elt F) S20x16x128 e)) (n : ℕ) (hn : n < 20) :
    (v.readCov (newestOn (N := 20) (fun j => ⟨tile20 (ρ j.val), w j.val⟩) base 20 le_rfl) (tile20 (ρ n)).toLoadRect : Vec F S1x16x128 e) = w n := by
  rw [View.readCov_eq_canon']
  funext x
  exact canon_stored (N := 20) (fun j => ⟨tile20 (ρ j.val), w j.val⟩) base (fun y => (y 0).val) (fun j => ρ j.val)
    inj (fun j x => (tile20_key _ x).trans (Nat.mod_eq_of_lt (hρ _ j.isLt))) 20 le_rfl ⟨n, hn⟩ hn x _ rfl

/-- A load from a buffer that was written whole. -/
theorem load_whole {s : Shape} {e : EltTy} (v : View sig .tc .vmem s e) (d : s.Idx → Elt F e) (base : List (View.Piece (Elt F) s e))
    (r : Rect s) (x : r.shape.Idx) (y : s.Idx) (h : r.emb x = y) :
    v.readCov (⟨Rect.whole s, d⟩ :: base) r.toLoadRect x = d y := by
  rw [View.readCov_eq_canon']
  subst h
  exact canon_whole d base _

theorem blockAt_inj (i j : Fin 20) (h : i.val % 4 * 5 + i.val / 4 = j.val % 4 * 5 + j.val / 4) : i = j := Fin.ext (by omega)

/-- Block `i * 5 + b` of a list of blocks stored five by five. -/
theorem loadBlock (v : View sig .tc .vmem S20x16x128 .f32) (w : ℕ → ℕ → Vec F S1x16x128 .f32) (base : List (View.Piece (Elt F) S20x16x128 .f32))
    (b i : ℕ) (hb : b < 5) (hi : i < 4) :
    (v.readCov (newestOn (N := 20) (fun n => ⟨tile20 (n.val % 4 * 5 + n.val / 4), w (n.val / 4) (n.val % 4)⟩) base 20 le_rfl)
      (tile20 (i * 5 + b)).toLoadRect : Vec F S1x16x128 .f32) = w b i := by
  have h := load20 v (fun n => n % 4 * 5 + n / 4) (fun n hn => by omega) blockAt_inj (fun n => w (n / 4) (n % 4)) base (4 * b + i) (by omega)
  have e1 : (4 * b + i) % 4 = i := by omega
  have e2 : (4 * b + i) / 4 = b := by omega
  have e3 : ∀ k, k = (4 * b + i) % 4 * 5 + (4 * b + i) / 4 →
      (v.readCov (newestOn (N := 20) (fun n => ⟨tile20 (n.val % 4 * 5 + n.val / 4), w (n.val / 4) (n.val % 4)⟩) base 20 le_rfl)
        (tile20 k).toLoadRect : Vec F S1x16x128 .f32) = w ((4 * b + i) / 4) ((4 * b + i) % 4) := by
    rintro _ rfl; exact h
  have h' := e3 (i * 5 + b) (by omega)
  rw [e1, e2] at h'
  exact h'
end

/-! ## What the run read back -/

namespace Env
variable {F : FTy → Type} [FloatOps F] (E : Env F)

theorem act2_0 (j : ℕ) (hj : j < 20) : E.loads0.act2 j = codeTile (E.loads0.code2 j) := by
  show E.arg31.view.readCov E.act2L0 (tile54 j).toLoadRect = _
  rw [Bridge.act2L0]
  have h := load54 (F := F) (e := .bf16) E.arg31.view 20 (fun j => j) (fun _ _ => by omega) (fun _ _ h => Fin.ext h) (fun j => codeTile (E.loads0.code2 j)) [] j hj
  exact h
theorem act3_0 (j : ℕ) (hj : j < 20) : E.loads0.act3 j = codeTile (E.loads0.code3 j) := by
  show E.arg31.view.readCov E.act3L0 (tile54 j).toLoadRect = _
  rw [Bridge.act3L0]
  have h := load54 (F := F) (e := .bf16) E.arg31.view 20 (fun j => j) (fun _ _ => by omega) (fun _ _ h => Fin.ext h) (fun j => codeTile (E.loads0.code3 j)) E.act2L0 j hj
  exact h
theorem act4_0 (j : ℕ) (hj : j < 54) : E.loads0.act4 j = codeTile (E.loads0.code4 j) := by
  show E.arg31.view.readCov E.act4L0 (tile54 j).toLoadRect = _
  rw [Bridge.act4L0]
  have h := load54 (F := F) (e := .bf16) E.arg31.view 54 (fun j => j) (fun _ h => h) (fun _ _ h => Fin.ext h) (fun j => codeTile (E.loads0.code4 j)) E.act3L0 j hj
  exact h
theorem mid_0 (b : ℕ) (hb : b < 5) (i : ℕ) (hi : i < 4) : E.loads0.mid (i * 5 + b) = tile (E.loads0.midBlock b i) := by
  show E.arg30.view.readCov E.midL0 (tile20 (i * 5 + b)).toLoadRect = _
  rw [Bridge.midL0]
  have h := loadBlock (F := F) E.arg30.view (fun b i => tile (E.loads0.midBlock b i)) [] b i hb hi
  exact h
theorem hid_0 (n : ℕ) (hn : n < 54) : E.loads0.hid (hidAt n) = tile (E.loads0.hidBlock n) := by
  show E.arg32.view.readCov E.hidL0 (tile54 (hidAt n)).toLoadRect = _
  rw [Bridge.hidL0]
  have h := load54 (F := F) (e := .f32) E.arg32.view 54 hidAt hidAt_lt hidAt_inj (fun n => tile (E.loads0.hidBlock n)) [] n hn
  exact h
theorem res_0 (j : ℕ) (hj : j < 20) : E.loads0.res j = tile (E.start j) := by
  show E.arg29.view.readCov E.resL (tile20 j).toLoadRect = _
  rw [Bridge.resL]
  have h := load20 (F := F) (e := .f32) E.arg29.view (fun j => j) (fun _ h => h) (fun _ _ h => Fin.ext h) (fun j => tile (E.start j)) [] j hj
  exact h

theorem act2_1 (j : ℕ) (hj : j < 20) : E.loads1.act2 j = codeTile (E.loads1.code2 j) := by
  show E.arg31.view.readCov E.act2L1 (tile54 j).toLoadRect = _
  rw [Bridge.act2L1]
  have h := load54 (F := F) (e := .bf16) E.arg31.view 20 (fun j => j) (fun _ _ => by omega) (fun _ _ h => Fin.ext h) (fun j => codeTile (E.loads1.code2 j)) E.act4L0 j hj
  exact h
theorem act3_1 (j : ℕ) (hj : j < 20) : E.loads1.act3 j = codeTile (E.loads1.code3 j) := by
  show E.arg31.view.readCov E.act3L1 (tile54 j).toLoadRect = _
  rw [Bridge.act3L1]
  have h := load54 (F := F) (e := .bf16) E.arg31.view 20 (fun j => j) (fun _ _ => by omega) (fun _ _ h => Fin.ext h) (fun j => codeTile (E.loads1.code3 j)) E.act2L1 j hj
  exact h
theorem act4_1 (j : ℕ) (hj : j < 54) : E.loads1.act4 j = codeTile (E.loads1.code4 j) := by
  show E.arg31.view.readCov E.act4L1 (tile54 j).toLoadRect = _
  rw [Bridge.act4L1]
  have h := load54 (F := F) (e := .bf16) E.arg31.view 54 (fun j => j) (fun _ h => h) (fun _ _ h => Fin.ext h) (fun j => codeTile (E.loads1.code4 j)) E.act3L1 j hj
  exact h
theorem mid_1 (b : ℕ) (hb : b < 5) (i : ℕ) (hi : i < 4) : E.loads1.mid (i * 5 + b) = tile (E.loads1.midBlock b i) := by
  show E.arg30.view.readCov E.midL1 (tile20 (i * 5 + b)).toLoadRect = _
  rw [Bridge.midL1]
  have h := loadBlock (F := F) E.arg30.view (fun b i => tile (E.loads1.midBlock b i)) E.midL0 b i hb hi
  exact h
theorem hid_1 (n : ℕ) (hn : n < 54) : E.loads1.hid (hidAt n) = tile (E.loads1.hidBlock n) := by
  show E.arg32.view.readCov E.hidL1 (tile54 (hidAt n)).toLoadRect = _
  rw [Bridge.hidL1]
  have h := load54 (F := F) (e := .f32) E.arg32.view 54 hidAt hidAt_lt hidAt_inj (fun n => tile (E.loads1.hidBlock n)) E.hidL0 n hn
  exact h
theorem res_1 (b : ℕ) (hb : b < 5) (i : ℕ) (hi : i < 4) : E.loads1.res (i * 5 + b) = tile (E.loads0.outBlock b i) := by
  show E.arg29.view.readCov E.resL0 (tile20 (i * 5 + b)).toLoadRect = _
  rw [Bridge.resL0]
  have h := loadBlock (F := F) E.arg29.view (fun b i => tile (E.loads0.outBlock b i)) E.resL b i hb hi
  exact h
end Env

/-! ## What was copied in -/

/-- A load from a buffer that page `l` of an array was copied to. -/
theorem loadPage {R C : ℕ} {e : EltTy} (z : Elt Ideal e) (v : View sig .tc .vmem ⟨2, ![R, C]⟩ e) (f : (⟨3, ![2, R, C]⟩ : Shape).Idx → Elt Ideal e)
    (d : (⟨2, ![R, C]⟩ : Shape).Idx → Elt Ideal e) (base : List (View.Piece (Elt Ideal) ⟨2, ![R, C]⟩ e)) (r : Rect ⟨2, ![R, C]⟩) (l : Fin 2)
    (hd : ∀ i j, d (ix2 i j) = f (ix3 l i j)) (x : r.shape.Idx) (i : Fin R) (j : Fin C) (h : r.emb x = ix2 i j) :
    v.readCov (⟨Rect.whole ⟨2, ![R, C]⟩, d⟩ :: base) r.toLoadRect x = Spec.at3 z f l.val i.val j.val :=
  (load_whole (F := Ideal) v d base r x _ h).trans ((hd i j).trans (Spec.at3_val z f l i j _ _ _ rfl rfl rfl).symm)

/-- A load from a buffer that an array was copied to. -/
theorem loadArray {R C : ℕ} {e : EltTy} (z : Elt Ideal e) (v : View sig .tc .vmem ⟨2, ![R, C]⟩ e) (f : (⟨2, ![R, C]⟩ : Shape).Idx → Elt Ideal e)
    (base : List (View.Piece (Elt Ideal) ⟨2, ![R, C]⟩ e)) (r : Rect ⟨2, ![R, C]⟩) (x : r.shape.Idx) (i : Fin R) (j : Fin C) (h : r.emb x = ix2 i j) :
    v.readCov (⟨Rect.whole ⟨2, ![R, C]⟩, f⟩ :: base) r.toLoadRect x = Spec.at2 z f i.val j.val :=
  (load_whole (F := Ideal) v f base r x _ h).trans (Spec.at2_val z f i j _ _ rfl rfl).symm

namespace Env
variable (E : Env Ideal)

/-- What the two layers are computed from. -/
def data : Spec.Data := Spec.Data.of E.fh0 E.fh1 E.fh2 E.fh3 E.fh4 E.fh5 E.fh6 E.fh7 E.fh8 E.fh9

theorem start_at (j : ℕ) (hj : j < 20) (b : Fin 16) (l : Fin 128) : E.start j (ix2 b l) = E.data.res 0 b.val (128 * j + l.val) :=
  loadArray (e := .bf16) (0 : EReal) E.arg20.view (bodyRun.sl.dma0 E.c E.fh0) [] (cols20 j) (ix2 b l : S16x128.Idx) _ _ (cols20_at j hj b l)

/-! ### The attention output -/

theorem attn_of (l : Fin 2) (d : S320x128.Idx → EReal) (base : List (View.Piece (Elt Ideal) S320x128 .f32))
    (hd : ∀ i j, d (ix2 i j) = E.fh1 (ix3 l i j)) :
    Cut (fun j => E.arg35.view.readCov (⟨Rect.whole S320x128, d⟩ :: base) (strided20 j).toLoadRect) (fun b => E.data.a l.val b.val) 20 := fun j hj b k => by
  refine (loadPage (e := .f32) (0 : EReal) E.arg35.view E.fh1 d base (strided20 j) l hd (ix2 b k : S16x128.Idx) _ _ (strided20_at j hj b k)).trans ?_
  show _ = Spec.at3 (0 : EReal) E.fh1 l.val (20 * b.val + (128 * j + k.val) / 128) ((128 * j + k.val) % 128)
  have e1 : 20 * b.val + (128 * j + k.val) / 128 = 20 * b.val + j := by omega
  have e2 : (128 * j + k.val) % 128 = k.val := by omega
  rw [e1, e2]

theorem attn_0 : Cut E.loads0.attn (fun b => E.data.a 0 b.val) 20 :=
  E.attn_of 0 (bodyRun.sl.dma61 E.c E.fh1) [] fun i j => page (n := 2) (a := 320) (b := 128) E.fh1 0 (by omega) (by decide) squeezes_S1x320x128_S320x128.numel_eq.symm i j
theorem attn_1 : Cut E.loads1.attn (fun b => E.data.a 1 b.val) 20 :=
  E.attn_of 1 (bodyRun.sl.dma2947 E.c E.fh1) _ fun i j => page (n := 2) (a := 320) (b := 128) E.fh1 1 (by omega) (by decide) squeezes_S1x320x128_S320x128.numel_eq.symm i j

/-! ### The packed weights -/

theorem wo_0 (b : ℕ) (hb : b < 5) : CutW (E.loads0.wo b) (fun c => (E.data.L 0).wo (128 * b + c.val)) 10 := fun k hk c i =>
  loadPage (e := .i8) 0#8 E.arg21.view E.fh2 (bodyRun.sl.dma0_5 E.c E.fh2) [] (wo128 b k) 0
    (fun i j => page (n := 2) (a := 640) (b := 2560) E.fh2 0 (by omega) (by decide) squeezes_S1x640x2560_S640x2560.numel_eq.symm i j) (ix2 c i : S128x256.Idx) _ _ (wo128_at b k hb hk c i)
theorem wo_1 (b : ℕ) (hb : b < 5) : CutW (E.loads1.wo b) (fun c => (E.data.L 1).wo (128 * b + c.val)) 10 := fun k hk c i =>
  loadPage (e := .i8) 0#8 E.arg21.view E.fh2 (bodyRun.sl.dma531 E.c E.fh2) _ (wo128 b k) 1
    (fun i j => page (n := 2) (a := 640) (b := 2560) E.fh2 1 (by omega) (by decide) squeezes_S1x640x2560_S640x2560.numel_eq.symm i j) (ix2 c i : S128x256.Idx) _ _ (wo128_at b k hb hk c i)
theorem wd_0 (b : ℕ) (hb : b < 5) : CutW (E.loads0.wd b) (fun c => (E.data.L 0).wd (128 * b + c.val)) 27 := fun k hk c i =>
  loadPage (e := .i8) 0#8 E.arg24.view E.fh5 (bodyRun.sl.dma0_8 E.c E.fh5) [] (wd128 b k) 0
    (fun i j => page (n := 2) (a := 640) (b := 6912) E.fh5 0 (by omega) (by decide) squeezes_S1x640x6912_S640x6912.numel_eq.symm i j) (ix2 c i : S128x256.Idx) _ _ (wd128_at b k hb hk c i)
theorem wd_1 (b : ℕ) (hb : b < 5) : CutW (E.loads1.wd b) (fun c => (E.data.L 1).wd (128 * b + c.val)) 27 := fun k hk c i =>
  loadPage (e := .i8) 0#8 E.arg24.view E.fh5 (bodyRun.sl.dma2940 E.c E.fh5) _ (wd128 b k) 1
    (fun i j => page (n := 2) (a := 640) (b := 6912) E.fh5 1 (by omega) (by decide) squeezes_S1x640x6912_S640x6912.numel_eq.symm i j) (ix2 c i : S128x256.Idx) _ _ (wd128_at b k hb hk c i)

theorem wgPage_0 (i : Fin 1728) (j : Fin 2560) : bodyRun.sl.dma0_6 E.c E.fh3 (ix2 i j) = E.fh3 (ix3 0 i j) :=
  page (n := 2) (a := 1728) (b := 2560) E.fh3 0 (by omega) (by decide) squeezes_S1x1728x2560_S1728x2560.numel_eq.symm i j
theorem wgPage_1 (i : Fin 1728) (j : Fin 2560) : bodyRun.sl.dma1679 E.c E.fh3 (ix2 i j) = E.fh3 (ix3 1 i j) :=
  page (n := 2) (a := 1728) (b := 2560) E.fh3 1 (by omega) (by decide) squeezes_S1x1728x2560_S1728x2560.numel_eq.symm i j
theorem wuPage_0 (i : Fin 1728) (j : Fin 2560) : bodyRun.sl.dma0_7 E.c E.fh4 (ix2 i j) = E.fh4 (ix3 0 i j) :=
  page (n := 2) (a := 1728) (b := 2560) E.fh4 0 (by omega) (by decide) squeezes_S1x1728x2560_S1728x2560.numel_eq.symm i j
theorem wuPage_1 (i : Fin 1728) (j : Fin 2560) : bodyRun.sl.dma1679_1 E.c E.fh4 (ix2 i j) = E.fh4 (ix3 1 i j) :=
  page (n := 2) (a := 1728) (b := 2560) E.fh4 1 (by omega) (by decide) squeezes_S1x1728x2560_S1728x2560.numel_eq.symm i j

theorem wg_0 (b : ℕ) (hb : b < 13) : CutW (E.loads0.wg b) (fun c => (E.data.L 0).wg (128 * b + c.val)) 10 := fun k hk c i =>
  loadPage (e := .i8) 0#8 E.arg22.view E.fh3 _ [] (wg128 b k) 0 E.wgPage_0 (ix2 c i : S128x256.Idx) _ _ (wg128_at b k hb hk c i)
theorem wg_1 (b : ℕ) (hb : b < 13) : CutW (E.loads1.wg b) (fun c => (E.data.L 1).wg (128 * b + c.val)) 10 := fun k hk c i =>
  loadPage (e := .i8) 0#8 E.arg22.view E.fh3 _ _ (wg128 b k) 1 E.wgPage_1 (ix2 c i : S128x256.Idx) _ _ (wg128_at b k hb hk c i)
theorem wu_0 (b : ℕ) (hb : b < 13) : CutW (E.loads0.wu b) (fun c => (E.data.L 0).wu (128 * b + c.val)) 10 := fun k hk c i =>
  loadPage (e := .i8) 0#8 E.arg23.view E.fh4 _ [] (wg128 b k) 0 E.wuPage_0 (ix2 c i : S128x256.Idx) _ _ (wg128_at b k hb hk c i)
theorem wu_1 (b : ℕ) (hb : b < 13) : CutW (E.loads1.wu b) (fun c => (E.data.L 1).wu (128 * b + c.val)) 10 := fun k hk c i =>
  loadPage (e := .i8) 0#8 E.arg23.view E.fh4 _ _ (wg128 b k) 1 E.wuPage_1 (ix2 c i : S128x256.Idx) _ _ (wg128_at b k hb hk c i)
theorem wgt_0 (k : ℕ) (hk : k < 10) (c : Fin 64) (i : Fin 256) : E.loads0.wgt k (ix2 c i) = (E.data.L 0).wg (1664 + c.val) (256 * k + i.val) :=
  loadPage (e := .i8) 0#8 E.arg22.view E.fh3 _ [] (wg64 k) 0 E.wgPage_0 (ix2 c i : S64x256.Idx) _ _ (wg64_at k hk c i)
theorem wgt_1 (k : ℕ) (hk : k < 10) (c : Fin 64) (i : Fin 256) : E.loads1.wgt k (ix2 c i) = (E.data.L 1).wg (1664 + c.val) (256 * k + i.val) :=
  loadPage (e := .i8) 0#8 E.arg22.view E.fh3 _ _ (wg64 k) 1 E.wgPage_1 (ix2 c i : S64x256.Idx) _ _ (wg64_at k hk c i)
theorem wut_0 (k : ℕ) (hk : k < 10) (c : Fin 64) (i : Fin 256) : E.loads0.wut k (ix2 c i) = (E.data.L 0).wu (1664 + c.val) (256 * k + i.val) :=
  loadPage (e := .i8) 0#8 E.arg23.view E.fh4 _ [] (wg64 k) 0 E.wuPage_0 (ix2 c i : S64x256.Idx) _ _ (wg64_at k hk c i)
theorem wut_1 (k : ℕ) (hk : k < 10) (c : Fin 64) (i : Fin 256) : E.loads1.wut k (ix2 c i) = (E.data.L 1).wu (1664 + c.val) (256 * k + i.val) :=
  loadPage (e := .i8) 0#8 E.arg23.view E.fh4 _ _ (wg64 k) 1 E.wuPage_1 (ix2 c i : S64x256.Idx) _ _ (wg64_at k hk c i)

/-! ### The gains -/

theorem ga_0 : CutRow E.loads0.ga (E.data.L 0).ga 20 := fun j hj l =>
  loadArray (e := .f32) (0 : EReal) E.arg26.view (bodyRun.sl.dma0_2 E.c E.fh7) [] (gain20 0 j) (ix2 0 l : S1x128.Idx) _ _ (gain20_at 0 j hj l)
theorem ga_1 : CutRow E.loads1.ga (E.data.L 1).ga 20 := fun j hj l =>
  loadArray (e := .f32) (0 : EReal) E.arg26.view (bodyRun.sl.dma0_2 E.c E.fh7) [] (gain20 1 j) (ix2 0 l : S1x128.Idx) _ _ (gain20_at 1 j hj l)
theorem gp_0 : CutRow E.loads0.gp (E.data.L 0).gp 20 := fun j hj l =>
  loadArray (e := .f32) (0 : EReal) E.arg27.view (bodyRun.sl.dma0_3 E.c E.fh8) [] (gain20 0 j) (ix2 0 l : S1x128.Idx) _ _ (gain20_at 0 j hj l)
theorem gp_1 : CutRow E.loads1.gp (E.data.L 1).gp 20 := fun j hj l =>
  loadArray (e := .f32) (0 : EReal) E.arg27.view (bodyRun.sl.dma0_3 E.c E.fh8) [] (gain20 1 j) (ix2 0 l : S1x128.Idx) _ _ (gain20_at 1 j hj l)
theorem gf_0 : CutRow E.loads0.gf (E.data.L 0).gf 54 := fun j hj l =>
  loadArray (e := .f32) (0 : EReal) E.arg28.view (bodyRun.sl.dma0_4 E.c E.fh9) [] (gain54 0 j) (ix2 0 l : S1x128.Idx) _ _ (gain54_at 0 j hj l)
theorem gf_1 : CutRow E.loads1.gf (E.data.L 1).gf 54 := fun j hj l =>
  loadArray (e := .f32) (0 : EReal) E.arg28.view (bodyRun.sl.dma0_4 E.c E.fh9) [] (gain54 1 j) (ix2 0 l : S1x128.Idx) _ _ (gain54_at 1 j hj l)

/-! ### The weights' scales -/

theorem wsAll_at (l : Fin 2) (i : Fin 7) : E.wsAll (ix2 l i) = Spec.at2 (0 : EReal) E.fh6 l.val i.val :=
  loadArray (e := .bf16) (0 : EReal) E.arg25.view (bodyRun.sl.dma0_1 E.c E.fh6) [] (Rect.unit ![0, 0] S2x7.size inb_S2x7_S2x7_0_0) (ix2 l i : S2x7.Idx) l i
    (Rect.emb_eq_of_coords _ _ _ fun d => match d with
      | ⟨0, _⟩ => by show l.val = 0 + 1 * l.val; omega
      | ⟨1, _⟩ => by show i.val = 0 + 1 * i.val; omega)

theorem wsRow_0 (i : Fin 7) : E.wsRow 1#1 (ix2 0 i) = Spec.at2 (0 : EReal) E.fh6 0 i.val :=
  (extractStridedSlice_apply ![0, 0] E.wsAll slices_S2x7_o0_0_S1x7 (ix2 0 i) (ix2 0 i) fun d => match d with
    | ⟨0, _⟩ => rfl | ⟨1, _⟩ => (Nat.zero_add _).symm).trans (E.wsAll_at 0 i)
theorem wsRow_1 (i : Fin 7) : E.wsRow 0#1 (ix2 0 i) = Spec.at2 (0 : EReal) E.fh6 1 i.val :=
  (extractStridedSlice_apply ![1, 0] E.wsAll slices_S2x7_o1_0_S1x7 (ix2 0 i) (ix2 1 i) fun d => match d with
    | ⟨0, _⟩ => rfl | ⟨1, _⟩ => (Nat.zero_add _).symm).trans (E.wsAll_at 1 i)

theorem ws_at (v : FVec Ideal S1x7 .f32) (k : ℕ) (hk : k < 7) (h : S1x7.Slices ![0, k] S1x1) :
    extractStridedSlice S1x1 ![0, k] v h (ix2 0 0) = v (ix2 0 ⟨k, hk⟩) :=
  extractStridedSlice_apply ![0, k] v h (ix2 0 0) (ix2 0 ⟨k, hk⟩) fun d => match d with | ⟨0, _⟩ => rfl | ⟨1, _⟩ => rfl

/-! ## The two layers -/

/-- Layer 0 of the run is layer 0 of the specification. -/
theorem holds0 : E.loads0.Holds (E.data.L 0) (fun b => E.data.res 0 b.val) (fun b => E.data.a 0 b.val) where
  attn := E.attn_0
  ga := E.ga_0
  gp := E.gp_0
  gf := E.gf_0
  act2 := E.act2_0
  act3 := E.act3_0
  act4 := E.act4_0
  wo := E.wo_0
  wg := E.wg_0
  wu := E.wu_0
  wd := E.wd_0
  wgt := E.wgt_0
  wut := E.wut_0
  so := (ws_at (E.wsRow 1#1) 3 (by omega) slices_S1x7_o0_3_S1x1).trans (E.wsRow_0 3)
  sg := (ws_at (E.wsRow 1#1) 4 (by omega) slices_S1x7_o0_4_S1x1).trans (E.wsRow_0 4)
  su := (ws_at (E.wsRow 1#1) 5 (by omega) slices_S1x7_o0_5_S1x1).trans (E.wsRow_0 5)
  sd := (ws_at (E.wsRow 1#1) 6 (by omega) slices_S1x7_o0_6_S1x1).trans (E.wsRow_0 6)
  res := fun j hj b l => by
    show flat (E.loads0.res j) (ix2 b l) = _
    rw [E.res_0 j hj, flat_tile, E.start_at j hj]
  mid := E.mid_0
  hid := E.hid_0

/-- The residual that layer 0 leaves. -/
theorem out0_at (b' : ℕ) (hb : b' < 5) (i : ℕ) (hi : i < 4) (b : Fin 16) (l : Fin 128) :
    E.loads0.outBlock b' i (ix2 b l) = E.data.res 1 b.val (128 * (i * 5 + b') + l.val) := E.holds0.out_at b' hb i hi b l

/-- Layer 1 of the run is layer 1 of the specification. -/
theorem holds1 : E.loads1.Holds (E.data.L 1) (fun b => E.data.res 1 b.val) (fun b => E.data.a 1 b.val) where
  attn := E.attn_1
  ga := E.ga_1
  gp := E.gp_1
  gf := E.gf_1
  act2 := E.act2_1
  act3 := E.act3_1
  act4 := E.act4_1
  wo := E.wo_1
  wg := E.wg_1
  wu := E.wu_1
  wd := E.wd_1
  wgt := E.wgt_1
  wut := E.wut_1
  so := (ws_at (E.wsRow 0#1) 3 (by omega) slices_S1x7_o0_3_S1x1).trans (E.wsRow_1 3)
  sg := (ws_at (E.wsRow 0#1) 4 (by omega) slices_S1x7_o0_4_S1x1).trans (E.wsRow_1 4)
  su := (ws_at (E.wsRow 0#1) 5 (by omega) slices_S1x7_o0_5_S1x1).trans (E.wsRow_1 5)
  sd := (ws_at (E.wsRow 0#1) 6 (by omega) slices_S1x7_o0_6_S1x1).trans (E.wsRow_1 6)
  res := fun j hj b l => by
    have e : j = j / 5 * 5 + j % 5 := by omega
    show flat (E.loads1.res j) (ix2 b l) = _
    rw [e, E.res_1 (j % 5) (by omega) (j / 5) (by omega), flat_tile, E.out0_at _ (by omega) _ (by omega)]
  mid := E.mid_1
  hid := E.hid_1

end Env

end Cert.KernelIdeal.Bridge
-- ==== Proof.Stored.lean ====
module

public import proofs.«01_k».proof.Proof.Loaded

/-!
# What the result buffers hold

A result is gathered block by block in a buffer on the chip and then copied out. These are the buffers read at an
entry: the residual, the middle residual and the hidden vector (every 20th or 54th row is one column block), the
codes (a column block is 128 columns), and the three rows of scales.
-/

@[expose] public section

set_option synthInstance.maxSize 4096
set_option maxRecDepth 65536

noncomputable section

namespace Cert.KernelIdeal.Bridge

open Cert.KernelIdeal Cert.KernelIdeal.Gen Cert.KernelIdeal.Hand Cert.KernelIdeal.Blocks Cert.Reading
open Idealize.ShloMosaic hiding ix1 ix2 ix3
open Idealize.ShloMosaic.ValueIdx Idealize.SL.Sem Finset

/-- The buffer of scales after rows 11, 12 and 13 were stored. -/
theorem scales {F : FTy → Type} [FloatOps F] (v : View sig .tc .vmem S14x1x16 .f32) (fs : v.ty.Contents (Elt F)) (w2 w3 w4 : FVec F S1x1x16 .f32)
    (base : List (View.Piece (Elt F) S14x1x16 .f32)) (j : Fin 3) (b : Fin 16) :
    (v.read (Elt F) (v.writes (Elt F) fs ([⟨row14 13, w4⟩, ⟨row14 12, w3⟩, ⟨row14 11, w2⟩] ++ base)) (ix3 ⟨11 + j.val, by omega⟩ 0 b) : Elt F .f32)
      = (![w2, w3, w4] : Fin 3 → FVec F S1x1x16 .f32) j (ix3 0 0 b) :=
  read_stored (Val := Elt F) v fs (N := 3) (fun n => ⟨row14 (11 + n.val), (![w2, w3, w4] : Fin 3 → FVec F S1x1x16 .f32) n⟩) base
    (fun y => (y 0).val) (fun n => 11 + n.val) (fun _ _ h => Fin.ext (by omega))
    (fun n y => by
      have hy : (y 0).val < 1 := (y 0).isLt
      show (11 + n.val) % 14 + 1 * (y 0).val = 11 + n.val
      omega) 3 le_rfl j j.isLt
    (ix3 0 0 b : S1x1x16.Idx) (ix3 ⟨11 + j.val, by omega⟩ 0 b)
    (Rect.emb_eq_of_coords _ _ _ fun d => match d with
      | ⟨0, _⟩ => by show 11 + j.val = (11 + j.val) % 14 + 1 * 0; omega
      | ⟨1, _⟩ => by show 0 = 0 + 1 * 0; omega
      | ⟨2, _⟩ => by show b.val = 0 + 1 * b.val; omega)

attribute [local irreducible] newestOn codeTile tile same flat codeWord

section
variable {F : FTy → Type} [FloatOps F]

/-- A buffer of 320 rows whose column blocks were stored five by five. -/
theorem rows20 (v : View sig .tc .vmem S320x128 .f32) (fs : v.ty.Contents (Elt F)) (w : ℕ → ℕ → FVec F S16x128 .f32)
    (base : List (View.Piece (Elt F) S320x128 .f32)) (i : Fin 320) (k : Fin 128) :
    (v.read (Elt F) (v.writes (Elt F) fs (newestOn (N := 20) (fun n => ⟨strided20 (n.val % 4 * 5 + n.val / 4), same (w (n.val / 4) (n.val % 4))⟩) base 20 le_rfl)) (ix2 i k) : Elt F .f32)
      = same (w (i.val % 20 % 5) (i.val % 20 / 5)) (ix2 ⟨i.val / 20, by omega⟩ k) := by
  have h := read_stored (Val := Elt F) v fs (N := 20) (fun n => ⟨strided20 (n.val % 4 * 5 + n.val / 4), same (w (n.val / 4) (n.val % 4))⟩) base
    (fun y => (y 0).val % 20) (fun n => n.val % 4 * 5 + n.val / 4) blockAt_inj
    (fun n x => by
      show ((n.val % 4 * 5 + n.val / 4) % 20 + 20 * (x 0).val) % 20 = n.val % 4 * 5 + n.val / 4
      omega) 20 le_rfl
    ⟨i.val % 20 % 5 * 4 + i.val % 20 / 5, by omega⟩ (by show i.val % 20 % 5 * 4 + i.val % 20 / 5 < 20; omega)
    (ix2 ⟨i.val / 20, by omega⟩ k : S16x128.Idx) (ix2 i k)
    ((strided20_at _ (by show (i.val % 20 % 5 * 4 + i.val % 20 / 5) % 4 * 5 + (i.val % 20 % 5 * 4 + i.val % 20 / 5) / 4 < 20; omega) _ _).trans
      (congrArg (fun r => ix2 r k) (Fin.ext (by
        show 20 * (i.val / 20) + ((i.val % 20 % 5 * 4 + i.val % 20 / 5) % 4 * 5 + (i.val % 20 % 5 * 4 + i.val % 20 / 5) / 4) = i.val
        omega))))
  have e : ∀ b' i', b' = (i.val % 20 % 5 * 4 + i.val % 20 / 5) / 4 → i' = (i.val % 20 % 5 * 4 + i.val % 20 / 5) % 4 →
      same (w ((i.val % 20 % 5 * 4 + i.val % 20 / 5) / 4) ((i.val % 20 % 5 * 4 + i.val % 20 / 5) % 4)) (ix2 ⟨i.val / 20, by omega⟩ k)
        = same (w b' i') (ix2 ⟨i.val / 20, by omega⟩ k) := by rintro _ _ rfl rfl; rfl
  exact h.trans (e _ _ (by omega) (by omega))

/-- A buffer of 864 rows whose column blocks were stored in order. -/
theorem rows54 (v : View sig .tc .vmem S864x128 .f32) (fs : v.ty.Contents (Elt F)) (w : ℕ → FVec F S16x128 .f32)
    (base : List (View.Piece (Elt F) S864x128 .f32)) (i : Fin 864) (k : Fin 128) :
    (v.read (Elt F) (v.writes (Elt F) fs (newestOn (N := 54) (fun n => ⟨strided54 n.val, same (w n.val)⟩) base 54 le_rfl)) (ix2 i k) : Elt F .f32)
      = same (w (i.val % 54)) (ix2 ⟨i.val / 54, by omega⟩ k) :=
  read_stored (Val := Elt F) v fs (N := 54) (fun n => ⟨strided54 n.val, same (w n.val)⟩) base
    (fun y => (y 0).val % 54) (fun n => n.val) (fun _ _ h => Fin.ext h)
    (fun n x => by
      show (n.val % 54 + 54 * (x 0).val) % 54 = n.val
      omega) 54 le_rfl
    ⟨i.val % 54, by omega⟩ (by show i.val % 54 < 54; omega)
    (ix2 ⟨i.val / 54, by omega⟩ k : S16x128.Idx) (ix2 i k)
    ((strided54_at _ (by show i.val % 54 < 54; omega) _ _).trans
      (congrArg (fun r => ix2 r k) (Fin.ext (by
        show 54 * (i.val / 54) + i.val % 54 = i.val
        omega))))

/-- A buffer of codes, 20 column blocks. -/
theorem codes20 (v : View sig .tc .vmem S16x2560 .i8) (fs : v.ty.Contents (Elt F)) (w : ℕ → FVec F S16x128 .f32)
    (base : List (View.Piece (Elt F) S16x2560 .i8)) (b : Fin 16) (x : Fin 2560) :
    (v.read (Elt F) (v.writes (Elt F) fs (newestOn (N := 20) (fun n => ⟨cols20 n.val, codeWord (w n.val)⟩) base 20 le_rfl)) (ix2 b x) : Elt F .i8)
      = codeWord (w (x.val / 128)) (ix2 b ⟨x.val % 128, by omega⟩) :=
  read_stored (Val := Elt F) v fs (N := 20) (fun n => ⟨cols20 n.val, codeWord (w n.val)⟩) base
    (fun y => (y 1).val / 128) (fun n => n.val) (fun _ _ h => Fin.ext h)
    (fun n y => by
      have hy : (y 1).val < 128 := (y 1).isLt
      show (128 * (n.val % 20) + 1 * (y 1).val) / 128 = n.val
      omega) 20 le_rfl
    ⟨x.val / 128, by omega⟩ (by show x.val / 128 < 20; omega)
    (ix2 b ⟨x.val % 128, by omega⟩ : S16x128.Idx) (ix2 b x)
    ((cols20_at _ (by show x.val / 128 < 20; omega) _ _).trans
      (congrArg (fun r => ix2 b r) (Fin.ext (by
        show 128 * (x.val / 128) + x.val % 128 = x.val
        omega))))

/-- A buffer of codes, 54 column blocks. -/
theorem codes54 (v : View sig .tc .vmem S16x6912 .i8) (fs : v.ty.Contents (Elt F)) (w : ℕ → FVec F S16x128 .f32)
    (base : List (View.Piece (Elt F) S16x6912 .i8)) (b : Fin 16) (x : Fin 6912) :
    (v.read (Elt F) (v.writes (Elt F) fs (newestOn (N := 54) (fun n => ⟨cols54 n.val, codeWord (w n.val)⟩) base 54 le_rfl)) (ix2 b x) : Elt F .i8)
      = codeWord (w (x.val / 128)) (ix2 b ⟨x.val % 128, by omega⟩) :=
  read_stored (Val := Elt F) v fs (N := 54) (fun n => ⟨cols54 n.val, codeWord (w n.val)⟩) base
    (fun y => (y 1).val / 128) (fun n => n.val) (fun _ _ h => Fin.ext h)
    (fun n y => by
      have hy : (y 1).val < 128 := (y 1).isLt
      show (128 * (n.val % 54) + 1 * (y 1).val) / 128 = n.val
      omega) 54 le_rfl
    ⟨x.val / 128, by omega⟩ (by show x.val / 128 < 54; omega)
    (ix2 b ⟨x.val % 128, by omega⟩ : S16x128.Idx) (ix2 b x)
    ((cols54_at _ (by show x.val / 128 < 54; omega) _ _).trans
      (congrArg (fun r => ix2 b r) (Fin.ext (by
        show 128 * (x.val / 128) + x.val % 128 = x.val
        omega))))

end

end Cert.KernelIdeal.Bridge
-- ==== Proof.LaunchKernelIdeal.lean ====
/- The launch with named results: the triple of the body (`bodyRun`) discharges what the pipeline asks of the body
   at its one grid point. `G` names what the result arrays hold at the end, and `Named` asks that the body leaves them
   so whatever the scratch buffers held before. The library turns this into a statement about the whole program: it
   terminates without a fault, leaves its arguments as they were, every semaphore at zero and the results at `G`. -/
module

public import proofs.«01_k».proof.Proof.RunKernelIdeal
public import Idealize.ShloMosaic.Lib.Pipeline.FrameValue
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The triple of the body: from any contents of the operands, to results holding `G10` … `G18`. -/
def Triple (c : Dev nD) (arg10 : Memref sig .tc .smem S16 .i32) (harg10 : arg10.IsWhole) (arg20 : Memref sig .tc .vmem S16x2560 .bf16) (harg20 : arg20.IsWhole) (arg21 : Memref sig .tc .vmem S640x2560 .i8) (harg21 : arg21.IsWhole) (arg22 : Memref sig .tc .vmem S1728x2560 .i8) (harg22 : arg22.IsWhole) (arg23 : Memref sig .tc .vmem S1728x2560 .i8) (harg23 : arg23.IsWhole) (arg24 : Memref sig .tc .vmem S640x6912 .i8) (harg24 : arg24.IsWhole) (arg25 : Memref sig .tc .vmem S2x7 .bf16) (harg25 : arg25.IsWhole) (arg26 : Memref sig .tc .vmem S2x2560 .f32) (harg26 : arg26.IsWhole) (arg27 : Memref sig .tc .vmem S2x2560 .f32) (harg27 : arg27.IsWhole) (arg28 : Memref sig .tc .vmem S2x6912 .f32) (harg28 : arg28.IsWhole) (arg29 : Memref sig .tc .vmem S20x16x128 .f32) (harg29 : arg29.IsWhole) (arg30 : Memref sig .tc .vmem S20x16x128 .f32) (harg30 : arg30.IsWhole) (arg31 : Memref sig .tc .vmem S54x16x128 .bf16) (harg31 : arg31.IsWhole) (arg32 : Memref sig .tc .vmem S54x16x128 .f32) (harg32 : arg32.IsWhole) (arg33 : Memref sig .tc .vmem S320x128 .f32) (harg33 : arg33.IsWhole) (arg34 : Memref sig .tc .vmem S320x128 .f32) (harg34 : arg34.IsWhole) (arg35 : Memref sig .tc .vmem S320x128 .f32) (harg35 : arg35.IsWhole) (arg36 : Memref sig .tc .vmem S864x128 .f32) (harg36 : arg36.IsWhole) (arg37 : Memref sig .tc .vmem S16x2560 .i8) (harg37 : arg37.IsWhole) (arg38 : Memref sig .tc .vmem S16x2560 .i8) (harg38 : arg38.IsWhole) (arg39 : Memref sig .tc .vmem S16x6912 .i8) (harg39 : arg39.IsWhole) (arg40 : Memref sig .tc .vmem S14x1x16 .f32) (harg40 : arg40.IsWhole)
    (x0 : Vec F S16 .i32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9)
    (fw10 : HbBuf0 (F := F) c hbM0_10) (fw11 : HbBuf0 (F := F) c hbM0_11) (fw12 : HbBuf0 (F := F) c hbM0_12) (fw13 : HbBuf0 (F := F) c hbM0_13) (fw14 : HbBuf0 (F := F) c hbM0_14) (fw15 : HbBuf0 (F := F) c hbM0_15) (fw16 : HbBuf0 (F := F) c hbM0_16) (fw17 : HbBuf0 (F := F) c hbM0_17) (fw18 : HbBuf0 (F := F) c hbM0_18)
    (fs0 : Buf (Elt F) (View.loc (c : Thread nD τ) arg20.view)) (fs1 : Buf (Elt F) (View.loc (c : Thread nD τ) arg21.view)) (fs2 : Buf (Elt F) (View.loc (c : Thread nD τ) arg22.view)) (fs3 : Buf (Elt F) (View.loc (c : Thread nD τ) arg23.view)) (fs4 : Buf (Elt F) (View.loc (c : Thread nD τ) arg24.view)) (fs5 : Buf (Elt F) (View.loc (c : Thread nD τ) arg25.view)) (fs6 : Buf (Elt F) (View.loc (c : Thread nD τ) arg26.view)) (fs7 : Buf (Elt F) (View.loc (c : Thread nD τ) arg27.view)) (fs8 : Buf (Elt F) (View.loc (c : Thread nD τ) arg28.view)) (fs9 : Buf (Elt F) (View.loc (c : Thread nD τ) arg29.view)) (fs10 : Buf (Elt F) (View.loc (c : Thread nD τ) arg30.view)) (fs11 : Buf (Elt F) (View.loc (c : Thread nD τ) arg31.view)) (fs12 : Buf (Elt F) (View.loc (c : Thread nD τ) arg32.view)) (fs13 : Buf (Elt F) (View.loc (c : Thread nD τ) arg33.view)) (fs14 : Buf (Elt F) (View.loc (c : Thread nD τ) arg34.view)) (fs15 : Buf (Elt F) (View.loc (c : Thread nD τ) arg35.view)) (fs16 : Buf (Elt F) (View.loc (c : Thread nD τ) arg36.view)) (fs17 : Buf (Elt F) (View.loc (c : Thread nD τ) arg37.view)) (fs18 : Buf (Elt F) (View.loc (c : Thread nD τ) arg38.view)) (fs19 : Buf (Elt F) (View.loc (c : Thread nD τ) arg39.view)) (fs20 : Buf (Elt F) (View.loc (c : Thread nD τ) arg40.view))
    (G10 : HbBuf0 (F := F) c hbM0_10) (G11 : HbBuf0 (F := F) c hbM0_11) (G12 : HbBuf0 (F := F) c hbM0_12) (G13 : HbBuf0 (F := F) c hbM0_13) (G14 : HbBuf0 (F := F) c hbM0_14) (G15 : HbBuf0 (F := F) c hbM0_15) (G16 : HbBuf0 (F := F) c hbM0_16) (G17 : HbBuf0 (F := F) c hbM0_17) (G18 : HbBuf0 (F := F) c hbM0_18) : Prop :=
  ∀ (W : Waits sig Unit) (K : PUnit → sProp 𝕄),
        iprop(owns (c : Thread nD τ) arg10 fullShare x0 ∗ (View.loc (c : Thread nD τ) arg20.view ↦[arg20.view.set]{fullShare} fs0) ∗ (View.loc (c : Thread nD τ) arg21.view ↦[arg21.view.set]{fullShare} fs1) ∗ (View.loc (c : Thread nD τ) arg22.view ↦[arg22.view.set]{fullShare} fs2) ∗ (View.loc (c : Thread nD τ) arg23.view ↦[arg23.view.set]{fullShare} fs3) ∗ (View.loc (c : Thread nD τ) arg24.view ↦[arg24.view.set]{fullShare} fs4) ∗ (View.loc (c : Thread nD τ) arg25.view ↦[arg25.view.set]{fullShare} fs5) ∗ (View.loc (c : Thread nD τ) arg26.view ↦[arg26.view.set]{fullShare} fs6) ∗ (View.loc (c : Thread nD τ) arg27.view ↦[arg27.view.set]{fullShare} fs7) ∗ (View.loc (c : Thread nD τ) arg28.view ↦[arg28.view.set]{fullShare} fs8) ∗ (View.loc (c : Thread nD τ) arg29.view ↦[arg29.view.set]{fullShare} fs9) ∗ (View.loc (c : Thread nD τ) arg30.view ↦[arg30.view.set]{fullShare} fs10) ∗ (View.loc (c : Thread nD τ) arg31.view ↦[arg31.view.set]{fullShare} fs11) ∗ (View.loc (c : Thread nD τ) arg32.view ↦[arg32.view.set]{fullShare} fs12) ∗ (View.loc (c : Thread nD τ) arg33.view ↦[arg33.view.set]{fullShare} fs13) ∗ (View.loc (c : Thread nD τ) arg34.view ↦[arg34.view.set]{fullShare} fs14) ∗ (View.loc (c : Thread nD τ) arg35.view ↦[arg35.view.set]{fullShare} fs15) ∗ (View.loc (c : Thread nD τ) arg36.view ↦[arg36.view.set]{fullShare} fs16) ∗ (View.loc (c : Thread nD τ) arg37.view ↦[arg37.view.set]{fullShare} fs17) ∗ (View.loc (c : Thread nD τ) arg38.view ↦[arg38.view.set]{fullShare} fs18) ∗ (View.loc (c : Thread nD τ) arg39.view ↦[arg39.view.set]{fullShare} fs19) ∗ (View.loc (c : Thread nD τ) arg40.view ↦[arg40.view.set]{fullShare} fs20) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fw10 ∗ hbPt0 c hbM0_11 fw11 ∗ hbPt0 c hbM0_12 fw12 ∗ hbPt0 c hbM0_13 fw13 ∗ hbPt0 c hbM0_14 fw14 ∗ hbPt0 c hbM0_15 fw15 ∗ hbPt0 c hbM0_16 fw16 ∗ hbPt0 c hbM0_17 fw17 ∗ hbPt0 c hbM0_18 fw18 ∗ owes (c : Thread nD τ) 0 W
            ∗ (iprop(owns (c : Thread nD τ) arg10 fullShare x0 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 G10 ∗ hbPt0 c hbM0_11 G11 ∗ hbPt0 c hbM0_12 G12 ∗ hbPt0 c hbM0_13 G13 ∗ hbPt0 c hbM0_14 G14 ∗ hbPt0 c hbM0_15 G15 ∗ hbPt0 c hbM0_16 G16 ∗ hbPt0 c hbM0_17 G17 ∗ hbPt0 c hbM0_18 G18 ∗ (∃ W', owes (c : Thread nD τ) 0 W')) -∗ K ⟨⟩))
          ⊢ wp frame (wpE (defs₀ (F := F)) Variants.none c none) Set.univ (cc0_bitnet_layers (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) arg10 harg10 (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 cc0_scratch21 cc0_scratch22 cc0_scratch23) K

/-- The written operands' points-tos at the contents `W`, listed. -/
theorem routedPts0_eq (c : Dev nD) (W : (b : Ref sig .tc) → Buf (Elt F) ((c : Thread nD τ).loc b)) :
    (Pipeline.routed R0 c W : sProp 𝕄) = iprop(hbPt0 c hbM0_10 (W main_v1_0) ∗ hbPt0 c hbM0_11 (W main_v1_1) ∗ hbPt0 c hbM0_12 (W main_v1_2) ∗ hbPt0 c hbM0_13 (W main_v1_3) ∗ hbPt0 c hbM0_14 (W main_v1_4) ∗ hbPt0 c hbM0_15 (W main_v1_5) ∗ hbPt0 c hbM0_16 (W main_v1_6) ∗ hbPt0 c hbM0_17 (W main_v1_7) ∗ hbPt0 c hbM0_18 (W main_v1_8)) := by
  unfold Pipeline.routed; rw [BI.bigSep_eq_bigSepL_of_eq [main_v1_0, main_v1_1, main_v1_2, main_v1_3, main_v1_4, main_v1_5, main_v1_6, main_v1_7, main_v1_8] (by decide) (by decide)]; rfl

/-- The invariant of the body, the written operands at the contents `W`, conjunct by conjunct. -/
theorem PhiDRG0_eq (W : (c : Dev nD) → (b : Ref sig .tc) → Buf (Elt F) ((c : Thread nD τ).loc b)) (c : Dev nD) :
    (Pipeline.ΦDRG osem0 spec0 H0 R0 (V m) W c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v0) ∗ hbPt0 c hbM0_1 (V m c main_arg1) ∗ hbPt0 c hbM0_2 (V m c main_arg2) ∗ hbPt0 c hbM0_3 (V m c main_arg3) ∗ hbPt0 c hbM0_4 (V m c main_arg4) ∗ hbPt0 c hbM0_5 (V m c main_arg5) ∗ hbPt0 c hbM0_6 (V m c main_arg6) ∗ hbPt0 c hbM0_7 (V m c main_arg7) ∗ hbPt0 c hbM0_8 (V m c main_arg8) ∗ hbPt0 c hbM0_9 (V m c main_arg9)) ∗ iprop(hbPt0 c hbM0_10 (W c main_v1_0) ∗ hbPt0 c hbM0_11 (W c main_v1_1) ∗ hbPt0 c hbM0_12 (W c main_v1_2) ∗ hbPt0 c hbM0_13 (W c main_v1_3) ∗ hbPt0 c hbM0_14 (W c main_v1_4) ∗ hbPt0 c hbM0_15 (W c main_v1_5) ∗ hbPt0 c hbM0_16 (W c main_v1_6) ∗ hbPt0 c hbM0_17 (W c main_v1_7) ∗ hbPt0 c hbM0_18 (W c main_v1_8))) := by
  rw [Pipeline.ΦDRG_eq, scopedRest0_eq, ownSems00_eq, hbmPts0_eq, routedPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, owns_whole]; try rfl

/-- The body leaves the result arrays at `G`, whatever the scratch buffers held. -/
def Named (G : (c : Dev nD) → (b : Ref sig .tc) → Buf (Elt F) ((c : Thread nD τ).loc b)) : Prop :=
  ∀ (c : Dev nD) (t : Fin cfg0.N) (fs0 : Buf (Elt F) (View.loc (c : Thread nD τ) scM0_0.view)) (fs1 : Buf (Elt F) (View.loc (c : Thread nD τ) scM0_1.view)) (fs2 : Buf (Elt F) (View.loc (c : Thread nD τ) scM0_2.view)) (fs3 : Buf (Elt F) (View.loc (c : Thread nD τ) scM0_3.view)) (fs4 : Buf (Elt F) (View.loc (c : Thread nD τ) scM0_4.view)) (fs5 : Buf (Elt F) (View.loc (c : Thread nD τ) scM0_5.view)) (fs6 : Buf (Elt F) (View.loc (c : Thread nD τ) scM0_6.view)) (fs7 : Buf (Elt F) (View.loc (c : Thread nD τ) scM0_7.view)) (fs8 : Buf (Elt F) (View.loc (c : Thread nD τ) scM0_8.view)) (fs9 : Buf (Elt F) (View.loc (c : Thread nD τ) scM0_9.view)) (fs10 : Buf (Elt F) (View.loc (c : Thread nD τ) scM0_10.view)) (fs11 : Buf (Elt F) (View.loc (c : Thread nD τ) scM0_11.view)) (fs12 : Buf (Elt F) (View.loc (c : Thread nD τ) scM0_12.view)) (fs13 : Buf (Elt F) (View.loc (c : Thread nD τ) scM0_13.view)) (fs14 : Buf (Elt F) (View.loc (c : Thread nD τ) scM0_14.view)) (fs15 : Buf (Elt F) (View.loc (c : Thread nD τ) scM0_15.view)) (fs16 : Buf (Elt F) (View.loc (c : Thread nD τ) scM0_16.view)) (fs17 : Buf (Elt F) (View.loc (c : Thread nD τ) scM0_17.view)) (fs18 : Buf (Elt F) (View.loc (c : Thread nD τ) scM0_18.view)) (fs19 : Buf (Elt F) (View.loc (c : Thread nD τ) scM0_19.view)) (fs20 : Buf (Elt F) (View.loc (c : Thread nD τ) scM0_20.view)),
    Triple c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) (iblk m c 0 t) (V m c main_v0) (V m c main_arg1) (V m c main_arg2) (V m c main_arg3) (V m c main_arg4) (V m c main_arg5) (V m c main_arg6) (V m c main_arg7) (V m c main_arg8) (V m c main_arg9) (V m c main_v1_0) (V m c main_v1_1) (V m c main_v1_2) (V m c main_v1_3) (V m c main_v1_4) (V m c main_v1_5) (V m c main_v1_6) (V m c main_v1_7) (V m c main_v1_8) fs0 fs1 fs2 fs3 fs4 fs5 fs6 fs7 fs8 fs9 fs10 fs11 fs12 fs13 fs14 fs15 fs16 fs17 fs18 fs19 fs20
      (G c main_v1_0) (G c main_v1_1) (G c main_v1_2) (G c main_v1_3) (G c main_v1_4) (G c main_v1_5) (G c main_v1_6) (G c main_v1_7) (G c main_v1_8)

variable (G : (c : Dev nD) → (b : Ref sig .tc) → Buf (Elt F) ((c : Thread nD τ).loc b))

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRG osem0 spec0 H0 R0 (V m) (if t.val = 0 then V m else G) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m G 0 c).A w = V m c (Pipeline.arrRef spec0 w) := by
  dsimp only [dats]

/-- What the body leaves, window by window (the proof data's `match` reduced by `dsimp`). -/
theorem after0_0 (c : Dev nD) (t : Fin cfg0.N) : (dats m G 0 c).after 0 t = iblk m c 0 t := by dsimp only [dats]

/-- Each input's current staging buffer holds its block at every point, fetched there or not (`beforeK_W_of`). -/
theorem before0_0 (c : Dev nD) (t : Fin cfg0.N) (d) : (dats m G 0 c).before 0 t d = iblk m c 0 t :=
  before0_0_of m (dats m G 0 c) (A_eq m G c 0) (after0_0 m G c) t d

/-- Before the one grid point the result arrays hold what they held when the call was reached, -/
theorem Phi_in (c : Dev nD) (t : Fin cfg0.N) : (dats m G 0 c).Φ t.castSucc = Pipeline.ΦDRG osem0 spec0 H0 R0 (V m) (V m) c := by
  have ht : t.val = 0 := by have := t.isLt; have : cfg0.N = 1 := rfl; omega
  show Pipeline.ΦDRG osem0 spec0 H0 R0 (V m) (if t.castSucc.val = 0 then V m else G) c = _
  rw [if_pos (by simpa using ht)]

/-- and after it they hold `G`. -/
theorem Phi_out (c : Dev nD) (t : Fin cfg0.N) : (dats m G 0 c).Φ t.succ = Pipeline.ΦDRG osem0 spec0 H0 R0 (V m) G c := by
  show Pipeline.ΦDRG osem0 spec0 H0 R0 (V m) (if t.succ.val = 0 then V m else G) c = _
  rw [if_neg (by simp)]

/-! ## The body obligation, at a generic point -/

/-- What the body is called with at point `t` (Lib/Pipeline.lean `BodyObligation`'s precondition, the windows one by one), -/
def bodyPre (c : Dev nD) (t : Fin cfg0.N) : sProp 𝕄 :=
  iprop((dats m G 0 c).Φ t.castSucc ∗ (dats m G 0 c).owesAt () t.castSucc
    ∗ (∃ d, owns (c : Thread nD τ) (ms0_0 t) fullShare ((dats m G 0 c).before 0 t d)))

/-- and what it returns. -/
def bodyPost (c : Dev nD) (t : Fin cfg0.N) : sProp 𝕄 :=
  iprop((dats m G 0 c).Φ t.succ ∗ (dats m G 0 c).owesAt () t.succ
    ∗ owns (c : Thread nD τ) (ms0_0 t) fullShare ((dats m G 0 c).after 0 t))

set_option maxHeartbeats 2000000 in
/-- The body at any point: the inputs' memrefs hold their blocks (`before0_W`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (hG : Named m G) (c : Dev nD) (t : Fin cfg0.N) :
    bodyPre m G c t ⊢ wp frame (wpE (defs₀ (F := F)) Variants.none c none) Set.univ (bodyAt0 t) (fun _ => bodyPost m G c t) := by
  unfold bodyPre bodyPost bodyAt0
  simp only [before0_0]
  rw [after0_0]
  rw [Phi_in, Phi_out, PhiDRG0_eq, PhiDRG0_eq]
  unfold Dat.owesAt Pipeline.owesWithin
  rw [show (dats m G 0 c).owed t.castSucc = 0 from rfl, show (dats m G 0 c).owed t.succ = 0 from rfl]
  unfold owns
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32⟩, ⟨Hh0, Hh1, Hh2, Hh3, Hh4, Hh5, Hh6, Hh7, Hh8, Hh9⟩, ⟨Hh10, Hh11, Hh12, Hh13, Hh14, Hh15, Hh16, Hh17, Hh18⟩⟩, ⟨%W, -, HW⟩, ⟨%d0, H0⟩⟩
  have run := hG c t fs0 fs1 fs2 fs3 fs4 fs5 fs6 fs7 fs8 fs9 fs10 fs11 fs12 fs13 fs14 fs15 fs16 fs17 fs18 fs19 fs20
  unfold Triple at run
  iapply (run W _)
  isplitl [H0]; · unfold owns; iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hq27]; · iexact Hq27
  isplitl [Hq28]; · iexact Hq28
  isplitl [Hq29]; · iexact Hq29
  isplitl [Hq30]; · iexact Hq30
  isplitl [Hq31]; · iexact Hq31
  isplitl [Hq32]; · iexact Hq32
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [HW]; · iexact HW
  unfold owns
  iintro ⟨H0, HS0, HS1, HS2, HS3, HS4, HS5, HS6, HS7, HS8, HS9, HS10, HS11, HS12, HS13, HS14, HS15, HS16, HS17, HS18, HS19, HS20, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hh0, Hh1, Hh2, Hh3, Hh4, Hh5, Hh6, Hh7, Hh8, Hh9, Hh10, Hh11, Hh12, Hh13, Hh14, Hh15, Hh16, Hh17, Hh18, ⟨%W', HW'⟩⟩
  isplitl [HS0 HS1 HS2 HS3 HS4 HS5 HS6 HS7 HS8 HS9 HS10 HS11 HS12 HS13 HS14 HS15 HS16 HS17 HS18 HS19 HS20 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hh0 Hh1 Hh2 Hh3 Hh4 Hh5 Hh6 Hh7 Hh8 Hh9 Hh10 Hh11 Hh12 Hh13 Hh14 Hh15 Hh16 Hh17 Hh18]
  · isplitl [HS0 HS1 HS2 HS3 HS4 HS5 HS6 HS7 HS8 HS9 HS10 HS11 HS12 HS13 HS14 HS15 HS16 HS17 HS18 HS19 HS20]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      iexact HS20
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      iexact Hq32
    isplitl [Hh0 Hh1 Hh2 Hh3 Hh4 Hh5 Hh6 Hh7 Hh8 Hh9]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    iexact Hh18
  isplitl [HW']
  · iexists W'; isplitr; · ipureintro; exact fun _ _ => Or.inl trivial
    iexact HW'
  iexact H0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hG : Named m G) (c : Dev nD) : BodyObligation (dats (F := F) m G 0 c) (defs₀ (F := F)) Variants.none () Set.univ := fun t => by
  rw [bigSep_W0, bigSep_W0, defs₀_row]
  exact triple_restated (sound_body m G hG c t) rfl .rfl fun _ => .rfl

/-! ## The run and the frame -/

-- `θ_run_frame_dmaR`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hG : Named m G) : θ_run defs (onTc (τ := τ) (main (F := F))) (s₀ m ρ) (fun r => (Pipeline.FramePostRG cfgs (dats m G) 0 R0 (V m) G) r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hG c).loose) (hshare := fun c => (dats m G 0 c).share_full fun _ => rfl)
    (howed := fun _ _ => rfl) (V := V m) (hmain := hmain m Variants.none) (hA := A_eq m G) (G := G)
    (hin := fun _ => .rfl) (hout := fun _ => .rfl)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main (hG : Named m G) : θ_run defs (onTc (τ := τ) (main (F := F))) (s₀ m ρ) (Pipeline.FramePostRG cfgs (dats m G) 0 R0 (V m) G) :=
  (θ_run defs _ _).mono (fun _ h => h.1) (run_main_quiescent m ρ G hG)

/-- `frame` without the counters: the argument arrays end unchanged. -/
theorem unchanged (hG : Named m G) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m G) (A_eq m G) ((θ_run defs _ _).mono (fun _ h => h.toR) (run_main m ρ G hG))

/-- THE FRAME: `Cert.quiescent_KernelIdeal`'s statement (Defs.lean) at any `F` — Proof.lean cites it at `Bits`:
    the claim. -/
theorem frame (hG : Named m G) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ G hG) ((θ_run defs _ _).mono (fun _ h => h.2) (run_main_quiescent m ρ G hG))

end Cert.KernelIdeal.Hand

end
-- ==== Proof.Results.lean ====
module

public import proofs.«01_k».proof.Proof.Stored
public import proofs.«01_k».proof.Proof.LaunchKernelIdeal

/-!
# The results of the run are the specification's arrays

First what layer 0 and layer 1 of the run leave in each result buffer on the chip, by the specification's rows; then the
nine result arrays in HBM, whose two pages are copies of those buffers.
-/

@[expose] public section

set_option synthInstance.maxSize 4096
set_option maxRecDepth 65536

noncomputable section

namespace Cert.KernelIdeal.Bridge

open Cert.KernelIdeal Cert.KernelIdeal.Gen Cert.KernelIdeal.Hand Cert.KernelIdeal.Blocks Cert.Reading
open Idealize.ShloMosaic hiding ix1 ix2 ix3
open Idealize.ShloMosaic.ValueIdx Idealize.SL.Sem Finset

attribute [local irreducible] newestOn codeTile tile same flat codeWord

namespace Env
variable (E : Env Ideal)

/-! ## The buffers after layer 0 -/

theorem residO0_at (v : View sig .tc .vmem S320x128 .f32) (fs : v.ty.Contents (Elt Ideal)) (i : Fin 320) (k : Fin 128) :
    (v.read (Elt Ideal) (v.writes (Elt Ideal) fs E.residO0) (ix2 i k) : EReal) = E.data.res 1 (i.val / 20) (128 * (i.val % 20) + k.val) := by
  rw [Bridge.residO0 E]
  refine (rows20 v fs (fun b i => E.loads0.outBlock b i) [] i k).trans ((same_at _ _ _).trans ?_)
  have h := E.holds0.out_at (i.val % 20 % 5) (by omega) (i.val % 20 / 5) (by omega) ⟨i.val / 20, by omega⟩ k
  rw [show i.val % 20 / 5 * 5 + i.val % 20 % 5 = i.val % 20 by omega] at h
  exact h
theorem midO0_at (v : View sig .tc .vmem S320x128 .f32) (fs : v.ty.Contents (Elt Ideal)) (i : Fin 320) (k : Fin 128) :
    (v.read (Elt Ideal) (v.writes (Elt Ideal) fs E.midO0) (ix2 i k) : EReal) = E.data.mid 0 (i.val / 20) (128 * (i.val % 20) + k.val) := by
  rw [Bridge.midO0 E]
  refine (rows20 v fs (fun b i => E.loads0.midBlock b i) [] i k).trans ((same_at _ _ _).trans ?_)
  have h := E.holds0.mid_at (i.val % 20 % 5) (by omega) (i.val % 20 / 5) (by omega) ⟨i.val / 20, by omega⟩ k
  rw [show i.val % 20 / 5 * 5 + i.val % 20 % 5 = i.val % 20 by omega] at h
  exact h
theorem hidO0_at (v : View sig .tc .vmem S864x128 .f32) (fs : v.ty.Contents (Elt Ideal)) (i : Fin 864) (k : Fin 128) :
    (v.read (Elt Ideal) (v.writes (Elt Ideal) fs E.hidO0) (ix2 i k) : EReal) = E.data.hid 0 (i.val / 54) (128 * (i.val % 54) + k.val) := by
  rw [Bridge.hidO0 E]
  exact (rows54 v fs (fun j => flat (E.loads0.hid j)) [] i k).trans ((same_at _ _ _).trans (E.holds0.hid_cut (i.val % 54) (by omega) ⟨i.val / 54, by omega⟩ k))
theorem c2O0_at (v : View sig .tc .vmem S16x2560 .i8) (fs : v.ty.Contents (Elt Ideal)) (b : Fin 16) (x : Fin 2560) :
    (v.read (Elt Ideal) (v.writes (Elt Ideal) fs E.c2O0) (ix2 b x) : BitVec 8) = Ideal.fptosi 8 ((E.data.L 0).c2 (E.data.a 0 b.val) x.val) := by
  rw [Bridge.c2O0 E]
  refine (codes20 v fs (fun j => E.loads0.code2 j) [] b x).trans ((codeWord_at E.holds0.code2_cut (x.val / 128) (by omega) b ⟨x.val % 128, by omega⟩).trans ?_)
  show Ideal.fptosi 8 ((E.data.L 0).c2 _ (128 * (x.val / 128) + x.val % 128)) = _
  exact congrArg (fun i => Ideal.fptosi 8 ((E.data.L 0).c2 (E.data.a 0 b.val) i)) (Nat.div_add_mod x.val 128)
theorem c3O0_at (v : View sig .tc .vmem S16x2560 .i8) (fs : v.ty.Contents (Elt Ideal)) (b : Fin 16) (x : Fin 2560) :
    (v.read (Elt Ideal) (v.writes (Elt Ideal) fs E.c3O0) (ix2 b x) : BitVec 8) = Ideal.fptosi 8 ((E.data.L 0).c3 (E.data.mid 0 b.val) x.val) := by
  rw [Bridge.c3O0 E]
  refine (codes20 v fs (fun j => E.loads0.code3 j) [] b x).trans ((codeWord_at E.holds0.code3_cut (x.val / 128) (by omega) b ⟨x.val % 128, by omega⟩).trans ?_)
  show Ideal.fptosi 8 ((E.data.L 0).c3 _ (128 * (x.val / 128) + x.val % 128)) = _
  exact congrArg (fun i => Ideal.fptosi 8 ((E.data.L 0).c3 (E.data.mid 0 b.val) i)) (Nat.div_add_mod x.val 128)
theorem c4O0_at (v : View sig .tc .vmem S16x6912 .i8) (fs : v.ty.Contents (Elt Ideal)) (b : Fin 16) (x : Fin 6912) :
    (v.read (Elt Ideal) (v.writes (Elt Ideal) fs E.c4O0) (ix2 b x) : BitVec 8) = Ideal.fptosi 8 ((E.data.L 0).c4 (E.data.hid 0 b.val) x.val) := by
  rw [Bridge.c4O0 E]
  refine (codes54 v fs (fun j => E.loads0.code4 j) [] b x).trans ((codeWord_at E.holds0.code4_cut (x.val / 128) (by omega) b ⟨x.val % 128, by omega⟩).trans ?_)
  show Ideal.fptosi 8 ((E.data.L 0).c4 _ (128 * (x.val / 128) + x.val % 128)) = _
  exact congrArg (fun i => Ideal.fptosi 8 ((E.data.L 0).c4 (E.data.hid 0 b.val) i)) (Nat.div_add_mod x.val 128)
theorem s2O0_at (v : View sig .tc .vmem S14x1x16 .f32) (fs : v.ty.Contents (Elt Ideal)) (b : Fin 16) :
    (v.read (Elt Ideal) (v.writes (Elt Ideal) fs E.scO0) (ix3 11 0 b) : EReal) = (E.data.L 0).s2 (E.data.a 0 b.val) := by
  rw [Bridge.scO0 E]
  exact (scales v fs E.loads0.scaleRow2 E.loads0.scaleRow3 E.loads0.scaleRow4 ([] : List (View.Piece (Elt Ideal) S14x1x16 .f32)) 0 b).trans (E.holds0.scaleRow2_at b)
theorem s3O0_at (v : View sig .tc .vmem S14x1x16 .f32) (fs : v.ty.Contents (Elt Ideal)) (b : Fin 16) :
    (v.read (Elt Ideal) (v.writes (Elt Ideal) fs E.scO0) (ix3 12 0 b) : EReal) = (E.data.L 0).s3 (E.data.mid 0 b.val) := by
  rw [Bridge.scO0 E]
  exact (scales v fs E.loads0.scaleRow2 E.loads0.scaleRow3 E.loads0.scaleRow4 ([] : List (View.Piece (Elt Ideal) S14x1x16 .f32)) 1 b).trans (E.holds0.scaleRow3_at b)
theorem s4O0_at (v : View sig .tc .vmem S14x1x16 .f32) (fs : v.ty.Contents (Elt Ideal)) (b : Fin 16) :
    (v.read (Elt Ideal) (v.writes (Elt Ideal) fs E.scO0) (ix3 13 0 b) : EReal) = (E.data.L 0).s4 (E.data.hid 0 b.val) := by
  rw [Bridge.scO0 E]
  exact (scales v fs E.loads0.scaleRow2 E.loads0.scaleRow3 E.loads0.scaleRow4 ([] : List (View.Piece (Elt Ideal) S14x1x16 .f32)) 2 b).trans (E.holds0.scaleRow4_at b)

/-! ## The buffers after layer 1 -/

theorem residO1_at (v : View sig .tc .vmem S320x128 .f32) (fs : v.ty.Contents (Elt Ideal)) (i : Fin 320) (k : Fin 128) :
    (v.read (Elt Ideal) (v.writes (Elt Ideal) fs E.residO1) (ix2 i k) : EReal) = E.data.res 2 (i.val / 20) (128 * (i.val % 20) + k.val) := by
  rw [Bridge.residO1 E]
  refine (rows20 v fs (fun b i => E.loads1.outBlock b i) E.residO0 i k).trans ((same_at _ _ _).trans ?_)
  have h := E.holds1.out_at (i.val % 20 % 5) (by omega) (i.val % 20 / 5) (by omega) ⟨i.val / 20, by omega⟩ k
  rw [show i.val % 20 / 5 * 5 + i.val % 20 % 5 = i.val % 20 by omega] at h
  exact h
theorem midO1_at (v : View sig .tc .vmem S320x128 .f32) (fs : v.ty.Contents (Elt Ideal)) (i : Fin 320) (k : Fin 128) :
    (v.read (Elt Ideal) (v.writes (Elt Ideal) fs E.midO1) (ix2 i k) : EReal) = E.data.mid 1 (i.val / 20) (128 * (i.val % 20) + k.val) := by
  rw [Bridge.midO1 E]
  refine (rows20 v fs (fun b i => E.loads1.midBlock b i) E.midO0 i k).trans ((same_at _ _ _).trans ?_)
  have h := E.holds1.mid_at (i.val % 20 % 5) (by omega) (i.val % 20 / 5) (by omega) ⟨i.val / 20, by omega⟩ k
  rw [show i.val % 20 / 5 * 5 + i.val % 20 % 5 = i.val % 20 by omega] at h
  exact h
theorem hidO1_at (v : View sig .tc .vmem S864x128 .f32) (fs : v.ty.Contents (Elt Ideal)) (i : Fin 864) (k : Fin 128) :
    (v.read (Elt Ideal) (v.writes (Elt Ideal) fs E.hidO1) (ix2 i k) : EReal) = E.data.hid 1 (i.val / 54) (128 * (i.val % 54) + k.val) := by
  rw [Bridge.hidO1 E]
  exact (rows54 v fs (fun j => flat (E.loads1.hid j)) E.hidO0 i k).trans ((same_at _ _ _).trans (E.holds1.hid_cut (i.val % 54) (by omega) ⟨i.val / 54, by omega⟩ k))
theorem c2O1_at (v : View sig .tc .vmem S16x2560 .i8) (fs : v.ty.Contents (Elt Ideal)) (b : Fin 16) (x : Fin 2560) :
    (v.read (Elt Ideal) (v.writes (Elt Ideal) fs E.c2O1) (ix2 b x) : BitVec 8) = Ideal.fptosi 8 ((E.data.L 1).c2 (E.data.a 1 b.val) x.val) := by
  rw [Bridge.c2O1 E]
  refine (codes20 v fs (fun j => E.loads1.code2 j) E.c2O0 b x).trans ((codeWord_at E.holds1.code2_cut (x.val / 128) (by omega) b ⟨x.val % 128, by omega⟩).trans ?_)
  show Ideal.fptosi 8 ((E.data.L 1).c2 _ (128 * (x.val / 128) + x.val % 128)) = _
  exact congrArg (fun i => Ideal.fptosi 8 ((E.data.L 1).c2 (E.data.a 1 b.val) i)) (Nat.div_add_mod x.val 128)
theorem c3O1_at (v : View sig .tc .vmem S16x2560 .i8) (fs : v.ty.Contents (Elt Ideal)) (b : Fin 16) (x : Fin 2560) :
    (v.read (Elt Ideal) (v.writes (Elt Ideal) fs E.c3O1) (ix2 b x) : BitVec 8) = Ideal.fptosi 8 ((E.data.L 1).c3 (E.data.mid 1 b.val) x.val) := by
  rw [Bridge.c3O1 E]
  refine (codes20 v fs (fun j => E.loads1.code3 j) E.c3O0 b x).trans ((codeWord_at E.holds1.code3_cut (x.val / 128) (by omega) b ⟨x.val % 128, by omega⟩).trans ?_)
  show Ideal.fptosi 8 ((E.data.L 1).c3 _ (128 * (x.val / 128) + x.val % 128)) = _
  exact congrArg (fun i => Ideal.fptosi 8 ((E.data.L 1).c3 (E.data.mid 1 b.val) i)) (Nat.div_add_mod x.val 128)
theorem c4O1_at (v : View sig .tc .vmem S16x6912 .i8) (fs : v.ty.Contents (Elt Ideal)) (b : Fin 16) (x : Fin 6912) :
    (v.read (Elt Ideal) (v.writes (Elt Ideal) fs E.c4O1) (ix2 b x) : BitVec 8) = Ideal.fptosi 8 ((E.data.L 1).c4 (E.data.hid 1 b.val) x.val) := by
  rw [Bridge.c4O1 E]
  refine (codes54 v fs (fun j => E.loads1.code4 j) E.c4O0 b x).trans ((codeWord_at E.holds1.code4_cut (x.val / 128) (by omega) b ⟨x.val % 128, by omega⟩).trans ?_)
  show Ideal.fptosi 8 ((E.data.L 1).c4 _ (128 * (x.val / 128) + x.val % 128)) = _
  exact congrArg (fun i => Ideal.fptosi 8 ((E.data.L 1).c4 (E.data.hid 1 b.val) i)) (Nat.div_add_mod x.val 128)
theorem s2O1_at (v : View sig .tc .vmem S14x1x16 .f32) (fs : v.ty.Contents (Elt Ideal)) (b : Fin 16) :
    (v.read (Elt Ideal) (v.writes (Elt Ideal) fs E.scO1) (ix3 11 0 b) : EReal) = (E.data.L 1).s2 (E.data.a 1 b.val) := by
  rw [Bridge.scO1 E]
  exact (scales v fs E.loads1.scaleRow2 E.loads1.scaleRow3 E.loads1.scaleRow4 E.scO0 0 b).trans (E.holds1.scaleRow2_at b)
theorem s3O1_at (v : View sig .tc .vmem S14x1x16 .f32) (fs : v.ty.Contents (Elt Ideal)) (b : Fin 16) :
    (v.read (Elt Ideal) (v.writes (Elt Ideal) fs E.scO1) (ix3 12 0 b) : EReal) = (E.data.L 1).s3 (E.data.mid 1 b.val) := by
  rw [Bridge.scO1 E]
  exact (scales v fs E.loads1.scaleRow2 E.loads1.scaleRow3 E.loads1.scaleRow4 E.scO0 1 b).trans (E.holds1.scaleRow3_at b)
theorem s4O1_at (v : View sig .tc .vmem S14x1x16 .f32) (fs : v.ty.Contents (Elt Ideal)) (b : Fin 16) :
    (v.read (Elt Ideal) (v.writes (Elt Ideal) fs E.scO1) (ix3 13 0 b) : EReal) = (E.data.L 1).s4 (E.data.hid 1 b.val) := by
  rw [Bridge.scO1 E]
  exact (scales v fs E.loads1.scaleRow2 E.loads1.scaleRow3 E.loads1.scaleRow4 E.scO0 2 b).trans (E.holds1.scaleRow4_at b)

end Env

end Cert.KernelIdeal.Bridge
-- ==== Proof.Arrays.lean ====
module

public import proofs.«01_k».proof.Proof.Results

/-!
# The result arrays

Each result array has two pages, one for each layer, copied out of a buffer on the chip. The nine arrays that the run
leaves are the specification's.
-/

@[expose] public section

set_option synthInstance.maxSize 4096
set_option maxRecDepth 65536

noncomputable section

namespace Cert.KernelIdeal.Bridge

open Cert.KernelIdeal Cert.KernelIdeal.Gen Cert.KernelIdeal.Hand Cert.KernelIdeal.Blocks Cert.Reading
open Idealize.ShloMosaic hiding ix1 ix2 ix3
open Idealize.ShloMosaic.ValueIdx Idealize.SL.Sem Finset
open Idealize.ShloMosaic.TcCoe

attribute [local irreducible] newestOn codeTile tile same flat codeWord

/-- Three-axis arrays that agree at all coordinates. -/
theorem ext3 {α : Type} {a b c : ℕ} {f g : (⟨3, ![a, b, c]⟩ : Shape).Idx → α} (h : ∀ l i j, f (ix3 l i j) = g (ix3 l i j)) : f = g :=
  funext fun x => by
    have e : x = ix3 (x 0) (x 1) (x 2) := funext fun d => match d with | ⟨0, _⟩ => rfl | ⟨1, _⟩ => rfl | ⟨2, _⟩ => rfl
    exact (congrArg f e).trans ((h _ _ _).trans (congrArg g e.symm))

/-- Two pages, each an array's page. -/
theorem two_pages {α : Type} {a b : ℕ} (p0 p1 : Fin a → Fin b → α) (f : (⟨3, ![2, a, b]⟩ : Shape).Idx → α)
    (h0 : ∀ i j, p0 i j = f (ix3 0 i j)) (h1 : ∀ i j, p1 i j = f (ix3 1 i j)) (l : Fin 2) (i : Fin a) (j : Fin b) :
    (if l.val = 0 then p0 i j else p1 i j) = f (ix3 l i j) := by
  rcases l with ⟨l, hl⟩
  rcases (by omega : l = 0 ∨ l = 1) with rfl | rfl
  · exact h0 i j
  · exact h1 i j

namespace Env
variable (E : Env Ideal)
variable {arg10 : Memref sig .tc .smem S16 .i32} {harg10 : arg10.IsWhole} {harg20 : E.arg20.IsWhole} {harg21 : E.arg21.IsWhole} {harg22 : E.arg22.IsWhole} {harg23 : E.arg23.IsWhole} {harg24 : E.arg24.IsWhole} {harg25 : E.arg25.IsWhole} {harg26 : E.arg26.IsWhole} {harg27 : E.arg27.IsWhole} {harg28 : E.arg28.IsWhole} {harg29 : E.arg29.IsWhole} {harg30 : E.arg30.IsWhole} {harg31 : E.arg31.IsWhole} {harg32 : E.arg32.IsWhole} {harg33 : E.arg33.IsWhole} {harg34 : E.arg34.IsWhole} {harg35 : E.arg35.IsWhole} {harg36 : E.arg36.IsWhole} {harg37 : E.arg37.IsWhole} {harg38 : E.arg38.IsWhole} {harg39 : E.arg39.IsWhole} {harg40 : E.arg40.IsWhole}
  {x0 : Vec Ideal S16 .i32} {fw10 : HbBuf0 (F := Ideal) E.c hbM0_10} {fw11 : HbBuf0 (F := Ideal) E.c hbM0_11} {fw12 : HbBuf0 (F := Ideal) E.c hbM0_12} {fw13 : HbBuf0 (F := Ideal) E.c hbM0_13} {fw14 : HbBuf0 (F := Ideal) E.c hbM0_14} {fw15 : HbBuf0 (F := Ideal) E.c hbM0_15} {fw16 : HbBuf0 (F := Ideal) E.c hbM0_16} {fw17 : HbBuf0 (F := Ideal) E.c hbM0_17} {fw18 : HbBuf0 (F := Ideal) E.c hbM0_18}
  {fs0 : Buf (Elt Ideal) (View.loc (E.c : Thread nD τ) E.arg20.view)} {fs1 : Buf (Elt Ideal) (View.loc (E.c : Thread nD τ) E.arg21.view)} {fs2 : Buf (Elt Ideal) (View.loc (E.c : Thread nD τ) E.arg22.view)} {fs3 : Buf (Elt Ideal) (View.loc (E.c : Thread nD τ) E.arg23.view)} {fs4 : Buf (Elt Ideal) (View.loc (E.c : Thread nD τ) E.arg24.view)} {fs5 : Buf (Elt Ideal) (View.loc (E.c : Thread nD τ) E.arg25.view)} {fs6 : Buf (Elt Ideal) (View.loc (E.c : Thread nD τ) E.arg26.view)} {fs7 : Buf (Elt Ideal) (View.loc (E.c : Thread nD τ) E.arg27.view)} {fs8 : Buf (Elt Ideal) (View.loc (E.c : Thread nD τ) E.arg28.view)} {fs9 : Buf (Elt Ideal) (View.loc (E.c : Thread nD τ) E.arg29.view)} {fs10 : Buf (Elt Ideal) (View.loc (E.c : Thread nD τ) E.arg30.view)} {fs11 : Buf (Elt Ideal) (View.loc (E.c : Thread nD τ) E.arg31.view)} {fs12 : Buf (Elt Ideal) (View.loc (E.c : Thread nD τ) E.arg32.view)} {fs13 : Buf (Elt Ideal) (View.loc (E.c : Thread nD τ) E.arg33.view)} {fs14 : Buf (Elt Ideal) (View.loc (E.c : Thread nD τ) E.arg34.view)} {fs15 : Buf (Elt Ideal) (View.loc (E.c : Thread nD τ) E.arg35.view)} {fs16 : Buf (Elt Ideal) (View.loc (E.c : Thread nD τ) E.arg36.view)} {fs17 : Buf (Elt Ideal) (View.loc (E.c : Thread nD τ) E.arg37.view)} {fs18 : Buf (Elt Ideal) (View.loc (E.c : Thread nD τ) E.arg38.view)} {fs19 : Buf (Elt Ideal) (View.loc (E.c : Thread nD τ) E.arg39.view)} {fs20 : Buf (Elt Ideal) (View.loc (E.c : Thread nD τ) E.arg40.view)}

/-- Result `resid`. -/
theorem run_resid : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).1 = E.data.resid := by
  refine ext3 (a := 2) (b := 320) (c := 128) fun l i j => ?_
  have h := pages (Val := Elt Ideal) hbM0_10.view fw10 (by decide) (by decide)
    squeezes_S1x320x128_S320x128.numel_eq squeezes_S1x320x128_S320x128.numel_eq (bodyRun.sl.dma2946 E.c E.arg20 E.arg21 E.arg22 E.arg23 E.arg24 E.arg25 E.arg26 E.arg27 E.arg28 E.arg29 E.arg30 E.arg31 E.arg32 E.arg33 E.arg35 E.fh0 E.fh1 E.fh2 E.fh3 E.fh4 E.fh5 E.fh6 E.fh7 E.fh8 E.fh9 fs13) (bodyRun.sl.dma5832 E.c E.arg20 E.arg21 E.arg22 E.arg23 E.arg24 E.arg25 E.arg26 E.arg27 E.arg28 E.arg29 E.arg30 E.arg31 E.arg32 E.arg33 E.arg35 E.fh0 E.fh1 E.fh2 E.fh3 E.fh4 E.fh5 E.fh6 E.fh7 E.fh8 E.fh9 fs13) l i j
  have h' := h.trans (two_pages (fun i j => (bodyRun.sl.dma2946 E.c E.arg20 E.arg21 E.arg22 E.arg23 E.arg24 E.arg25 E.arg26 E.arg27 E.arg28 E.arg29 E.arg30 E.arg31 E.arg32 E.arg33 E.arg35 E.fh0 E.fh1 E.fh2 E.fh3 E.fh4 E.fh5 E.fh6 E.fh7 E.fh8 E.fh9 fs13) (ix2 i j)) (fun i j => (bodyRun.sl.dma5832 E.c E.arg20 E.arg21 E.arg22 E.arg23 E.arg24 E.arg25 E.arg26 E.arg27 E.arg28 E.arg29 E.arg30 E.arg31 E.arg32 E.arg33 E.arg35 E.fh0 E.fh1 E.fh2 E.fh3 E.fh4 E.fh5 E.fh6 E.fh7 E.fh8 E.fh9 fs13) (ix2 i j)) E.data.resid
    (fun i j => E.residO0_at E.arg33.view fs13 i j) (fun i j => E.residO1_at E.arg33.view fs13 i j) l i j)
  exact h'

/-- Result `midA`. -/
theorem run_midA : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.1 = E.data.midA := by
  refine ext3 (a := 2) (b := 320) (c := 128) fun l i j => ?_
  have h := pages (Val := Elt Ideal) hbM0_11.view fw11 (by decide) (by decide)
    squeezes_S1x320x128_S320x128.numel_eq squeezes_S1x320x128_S320x128.numel_eq (bodyRun.sl.dma2946_1 E.c E.arg20 E.arg21 E.arg25 E.arg26 E.arg29 E.arg31 E.arg34 E.arg35 E.fh0 E.fh1 E.fh2 E.fh6 E.fh7 fs14) (bodyRun.sl.dma5832_1 E.c E.arg20 E.arg21 E.arg22 E.arg23 E.arg24 E.arg25 E.arg26 E.arg27 E.arg28 E.arg29 E.arg30 E.arg31 E.arg32 E.arg34 E.arg35 E.fh0 E.fh1 E.fh2 E.fh3 E.fh4 E.fh5 E.fh6 E.fh7 E.fh8 E.fh9 fs14) l i j
  have h' := h.trans (two_pages (fun i j => (bodyRun.sl.dma2946_1 E.c E.arg20 E.arg21 E.arg25 E.arg26 E.arg29 E.arg31 E.arg34 E.arg35 E.fh0 E.fh1 E.fh2 E.fh6 E.fh7 fs14) (ix2 i j)) (fun i j => (bodyRun.sl.dma5832_1 E.c E.arg20 E.arg21 E.arg22 E.arg23 E.arg24 E.arg25 E.arg26 E.arg27 E.arg28 E.arg29 E.arg30 E.arg31 E.arg32 E.arg34 E.arg35 E.fh0 E.fh1 E.fh2 E.fh3 E.fh4 E.fh5 E.fh6 E.fh7 E.fh8 E.fh9 fs14) (ix2 i j)) E.data.midA
    (fun i j => E.midO0_at E.arg34.view fs14 i j) (fun i j => E.midO1_at E.arg34.view fs14 i j) l i j)
  exact h'

/-- Result `hidA`. -/
theorem run_hidA : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.1 = E.data.hidA := by
  refine ext3 (a := 2) (b := 864) (c := 128) fun l i j => ?_
  have h := pages (Val := Elt Ideal) hbM0_12.view fw12 (by decide) (by decide)
    squeezes_S1x864x128_S864x128.numel_eq squeezes_S1x864x128_S864x128.numel_eq (bodyRun.sl.dma2946_2 E.c E.arg20 E.arg21 E.arg22 E.arg23 E.arg25 E.arg26 E.arg27 E.arg29 E.arg30 E.arg31 E.arg32 E.arg35 E.arg36 E.fh0 E.fh1 E.fh2 E.fh3 E.fh4 E.fh6 E.fh7 E.fh8 fs16) (bodyRun.sl.dma5832_2 E.c E.arg20 E.arg21 E.arg22 E.arg23 E.arg24 E.arg25 E.arg26 E.arg27 E.arg28 E.arg29 E.arg30 E.arg31 E.arg32 E.arg35 E.arg36 E.fh0 E.fh1 E.fh2 E.fh3 E.fh4 E.fh5 E.fh6 E.fh7 E.fh8 E.fh9 fs16) l i j
  have h' := h.trans (two_pages (fun i j => (bodyRun.sl.dma2946_2 E.c E.arg20 E.arg21 E.arg22 E.arg23 E.arg25 E.arg26 E.arg27 E.arg29 E.arg30 E.arg31 E.arg32 E.arg35 E.arg36 E.fh0 E.fh1 E.fh2 E.fh3 E.fh4 E.fh6 E.fh7 E.fh8 fs16) (ix2 i j)) (fun i j => (bodyRun.sl.dma5832_2 E.c E.arg20 E.arg21 E.arg22 E.arg23 E.arg24 E.arg25 E.arg26 E.arg27 E.arg28 E.arg29 E.arg30 E.arg31 E.arg32 E.arg35 E.arg36 E.fh0 E.fh1 E.fh2 E.fh3 E.fh4 E.fh5 E.fh6 E.fh7 E.fh8 E.fh9 fs16) (ix2 i j)) E.data.hidA
    (fun i j => E.hidO0_at E.arg36.view fs16 i j) (fun i j => E.hidO1_at E.arg36.view fs16 i j) l i j)
  exact h'

/-- Result `c2`. -/
theorem run_c2 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.1 = E.data.c2 := by
  refine ext3 (a := 2) (b := 16) (c := 2560) fun l i j => ?_
  have h := pages (Val := Elt Ideal) hbM0_13.view fw13 (by decide) (by decide)
    squeezes_S1x16x2560_S16x2560.numel_eq squeezes_S1x16x2560_S16x2560.numel_eq (bodyRun.sl.dma2946_3 E.c E.arg26 E.arg35 E.arg37 E.fh1 E.fh7 fs17) (bodyRun.sl.dma5832_3 E.c E.arg26 E.arg35 E.arg37 E.fh1 E.fh7 fs17) l i j
  have h' := h.trans (two_pages (fun i j => (bodyRun.sl.dma2946_3 E.c E.arg26 E.arg35 E.arg37 E.fh1 E.fh7 fs17) (ix2 i j)) (fun i j => (bodyRun.sl.dma5832_3 E.c E.arg26 E.arg35 E.arg37 E.fh1 E.fh7 fs17) (ix2 i j)) E.data.c2
    (fun i j => E.c2O0_at E.arg37.view fs17 i j) (fun i j => E.c2O1_at E.arg37.view fs17 i j) l i j)
  exact h'

theorem s2_page0 (i : Fin 1) (j : Fin 16) : (bodyRun.sl.dma2946_6 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j) = E.data.s2 (ix3 0 i j) := by
  have e := page ((E.arg40.view.read (Elt Ideal) (E.arg40.view.writes (Elt Ideal) fs20 E.scO0) : S14x1x16.Idx → EReal)) 11 (by omega) inb_S14x1x16_S1x1x16_11_0_0 squeezes_S1x1x16_S1x16.numel_eq.symm i j
  have i0 : i = 0 := Fin.ext (by omega)
  subst i0
  exact e.trans (E.s2O0_at E.arg40.view fs20 j)
theorem s2_page1 (i : Fin 1) (j : Fin 16) : (bodyRun.sl.dma5832_6 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j) = E.data.s2 (ix3 1 i j) := by
  have e := page ((E.arg40.view.read (Elt Ideal) (E.arg40.view.writes (Elt Ideal) fs20 E.scO1) : S14x1x16.Idx → EReal)) 11 (by omega) inb_S14x1x16_S1x1x16_11_0_0 squeezes_S1x1x16_S1x16.numel_eq.symm i j
  have i0 : i = 0 := Fin.ext (by omega)
  subst i0
  exact e.trans (E.s2O1_at E.arg40.view fs20 j)
/-- Result `s2`. -/
theorem run_s2 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.1 = E.data.s2 := by
  refine ext3 (a := 2) (b := 1) (c := 16) fun l i j => ?_
  have h := pages (Val := Elt Ideal) hbM0_14.view fw14 (by decide) (by decide)
    squeezes_S1x1x16_S1x16.numel_eq squeezes_S1x1x16_S1x16.numel_eq (bodyRun.sl.dma2946_6 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (bodyRun.sl.dma5832_6 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) l i j
  have h' := h.trans (two_pages (fun i j => (bodyRun.sl.dma2946_6 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j)) (fun i j => (bodyRun.sl.dma5832_6 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j)) E.data.s2
    E.s2_page0 E.s2_page1 l i j)
  exact h'

/-- Result `c3`. -/
theorem run_c3 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.2.1 = E.data.c3 := by
  refine ext3 (a := 2) (b := 16) (c := 2560) fun l i j => ?_
  have h := pages (Val := Elt Ideal) hbM0_15.view fw15 (by decide) (by decide)
    squeezes_S1x16x2560_S16x2560.numel_eq squeezes_S1x16x2560_S16x2560.numel_eq (bodyRun.sl.dma2946_4 E.c E.arg20 E.arg21 E.arg25 E.arg26 E.arg27 E.arg29 E.arg30 E.arg31 E.arg35 E.arg38 E.fh0 E.fh1 E.fh2 E.fh6 E.fh7 E.fh8 fs18) (bodyRun.sl.dma5832_4 E.c E.arg20 E.arg21 E.arg22 E.arg23 E.arg24 E.arg25 E.arg26 E.arg27 E.arg28 E.arg29 E.arg30 E.arg31 E.arg32 E.arg35 E.arg38 E.fh0 E.fh1 E.fh2 E.fh3 E.fh4 E.fh5 E.fh6 E.fh7 E.fh8 E.fh9 fs18) l i j
  have h' := h.trans (two_pages (fun i j => (bodyRun.sl.dma2946_4 E.c E.arg20 E.arg21 E.arg25 E.arg26 E.arg27 E.arg29 E.arg30 E.arg31 E.arg35 E.arg38 E.fh0 E.fh1 E.fh2 E.fh6 E.fh7 E.fh8 fs18) (ix2 i j)) (fun i j => (bodyRun.sl.dma5832_4 E.c E.arg20 E.arg21 E.arg22 E.arg23 E.arg24 E.arg25 E.arg26 E.arg27 E.arg28 E.arg29 E.arg30 E.arg31 E.arg32 E.arg35 E.arg38 E.fh0 E.fh1 E.fh2 E.fh3 E.fh4 E.fh5 E.fh6 E.fh7 E.fh8 E.fh9 fs18) (ix2 i j)) E.data.c3
    (fun i j => E.c3O0_at E.arg38.view fs18 i j) (fun i j => E.c3O1_at E.arg38.view fs18 i j) l i j)
  exact h'

theorem s3_page0 (i : Fin 1) (j : Fin 16) : (bodyRun.sl.dma2946_7 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j) = E.data.s3 (ix3 0 i j) := by
  have e := page ((E.arg40.view.read (Elt Ideal) (E.arg40.view.writes (Elt Ideal) fs20 E.scO0) : S14x1x16.Idx → EReal)) 12 (by omega) inb_S14x1x16_S1x1x16_12_0_0 squeezes_S1x1x16_S1x16.numel_eq.symm i j
  have i0 : i = 0 := Fin.ext (by omega)
  subst i0
  exact e.trans (E.s3O0_at E.arg40.view fs20 j)
theorem s3_page1 (i : Fin 1) (j : Fin 16) : (bodyRun.sl.dma5832_7 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j) = E.data.s3 (ix3 1 i j) := by
  have e := page ((E.arg40.view.read (Elt Ideal) (E.arg40.view.writes (Elt Ideal) fs20 E.scO1) : S14x1x16.Idx → EReal)) 12 (by omega) inb_S14x1x16_S1x1x16_12_0_0 squeezes_S1x1x16_S1x16.numel_eq.symm i j
  have i0 : i = 0 := Fin.ext (by omega)
  subst i0
  exact e.trans (E.s3O1_at E.arg40.view fs20 j)
/-- Result `s3`. -/
theorem run_s3 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.2.2.1 = E.data.s3 := by
  refine ext3 (a := 2) (b := 1) (c := 16) fun l i j => ?_
  have h := pages (Val := Elt Ideal) hbM0_16.view fw16 (by decide) (by decide)
    squeezes_S1x1x16_S1x16.numel_eq squeezes_S1x1x16_S1x16.numel_eq (bodyRun.sl.dma2946_7 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (bodyRun.sl.dma5832_7 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) l i j
  have h' := h.trans (two_pages (fun i j => (bodyRun.sl.dma2946_7 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j)) (fun i j => (bodyRun.sl.dma5832_7 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j)) E.data.s3
    E.s3_page0 E.s3_page1 l i j)
  exact h'

/-- Result `c4`. -/
theorem run_c4 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.2.2.2.1 = E.data.c4 := by
  refine ext3 (a := 2) (b := 16) (c := 6912) fun l i j => ?_
  have h := pages (Val := Elt Ideal) hbM0_17.view fw17 (by decide) (by decide)
    squeezes_S1x16x6912_S16x6912.numel_eq squeezes_S1x16x6912_S16x6912.numel_eq (bodyRun.sl.dma2946_5 E.c E.arg20 E.arg21 E.arg22 E.arg23 E.arg25 E.arg26 E.arg27 E.arg28 E.arg29 E.arg30 E.arg31 E.arg32 E.arg35 E.arg39 E.fh0 E.fh1 E.fh2 E.fh3 E.fh4 E.fh6 E.fh7 E.fh8 E.fh9 fs19) (bodyRun.sl.dma5832_5 E.c E.arg20 E.arg21 E.arg22 E.arg23 E.arg24 E.arg25 E.arg26 E.arg27 E.arg28 E.arg29 E.arg30 E.arg31 E.arg32 E.arg35 E.arg39 E.fh0 E.fh1 E.fh2 E.fh3 E.fh4 E.fh5 E.fh6 E.fh7 E.fh8 E.fh9 fs19) l i j
  have h' := h.trans (two_pages (fun i j => (bodyRun.sl.dma2946_5 E.c E.arg20 E.arg21 E.arg22 E.arg23 E.arg25 E.arg26 E.arg27 E.arg28 E.arg29 E.arg30 E.arg31 E.arg32 E.arg35 E.arg39 E.fh0 E.fh1 E.fh2 E.fh3 E.fh4 E.fh6 E.fh7 E.fh8 E.fh9 fs19) (ix2 i j)) (fun i j => (bodyRun.sl.dma5832_5 E.c E.arg20 E.arg21 E.arg22 E.arg23 E.arg24 E.arg25 E.arg26 E.arg27 E.arg28 E.arg29 E.arg30 E.arg31 E.arg32 E.arg35 E.arg39 E.fh0 E.fh1 E.fh2 E.fh3 E.fh4 E.fh5 E.fh6 E.fh7 E.fh8 E.fh9 fs19) (ix2 i j)) E.data.c4
    (fun i j => E.c4O0_at E.arg39.view fs19 i j) (fun i j => E.c4O1_at E.arg39.view fs19 i j) l i j)
  exact h'

theorem s4_page0 (i : Fin 1) (j : Fin 16) : (bodyRun.sl.dma2946_8 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j) = E.data.s4 (ix3 0 i j) := by
  have e := page ((E.arg40.view.read (Elt Ideal) (E.arg40.view.writes (Elt Ideal) fs20 E.scO0) : S14x1x16.Idx → EReal)) 13 (by omega) inb_S14x1x16_S1x1x16_13_0_0 squeezes_S1x1x16_S1x16.numel_eq.symm i j
  have i0 : i = 0 := Fin.ext (by omega)
  subst i0
  exact e.trans (E.s4O0_at E.arg40.view fs20 j)
theorem s4_page1 (i : Fin 1) (j : Fin 16) : (bodyRun.sl.dma5832_8 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j) = E.data.s4 (ix3 1 i j) := by
  have e := page ((E.arg40.view.read (Elt Ideal) (E.arg40.view.writes (Elt Ideal) fs20 E.scO1) : S14x1x16.Idx → EReal)) 13 (by omega) inb_S14x1x16_S1x1x16_13_0_0 squeezes_S1x1x16_S1x16.numel_eq.symm i j
  have i0 : i = 0 := Fin.ext (by omega)
  subst i0
  exact e.trans (E.s4O1_at E.arg40.view fs20 j)
/-- Result `s4`. -/
theorem run_s4 : (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20).2.2.2.2.2.2.2.2.1 = E.data.s4 := by
  refine ext3 (a := 2) (b := 1) (c := 16) fun l i j => ?_
  have h := pages (Val := Elt Ideal) hbM0_18.view fw18 (by decide) (by decide)
    squeezes_S1x1x16_S1x16.numel_eq squeezes_S1x1x16_S1x16.numel_eq (bodyRun.sl.dma2946_8 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (bodyRun.sl.dma5832_8 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) l i j
  have h' := h.trans (two_pages (fun i j => (bodyRun.sl.dma2946_8 E.c E.arg20 E.arg21 E.arg22 E.arg23 E.arg25 E.arg26 E.arg27 E.arg28 E.arg29 E.arg30 E.arg31 E.arg32 E.arg35 E.arg40 E.fh0 E.fh1 E.fh2 E.fh3 E.fh4 E.fh6 E.fh7 E.fh8 E.fh9 fs20) (ix2 i j)) (fun i j => (bodyRun.sl.dma5832_8 E.c E.arg20 E.arg21 E.arg22 E.arg23 E.arg24 E.arg25 E.arg26 E.arg27 E.arg28 E.arg29 E.arg30 E.arg31 E.arg32 E.arg35 E.arg40 E.fh0 E.fh1 E.fh2 E.fh3 E.fh4 E.fh5 E.fh6 E.fh7 E.fh8 E.fh9 fs20) (ix2 i j)) E.data.s4
    E.s4_page0 E.s4_page1 l i j)
  exact h'

end Env

end Cert.KernelIdeal.Bridge
-- ==== Proof.Named.lean ====
module

public import proofs.«01_k».proof.Proof.Arrays

/-!
# The triple of the run, the results named

The run of the body names what it leaves in each result array; the nine names are the specification's arrays.
-/

@[expose] public section

set_option synthInstance.maxSize 4096
set_option maxRecDepth 65536

noncomputable section

namespace Cert.KernelIdeal.Bridge

open Cert.KernelIdeal Cert.KernelIdeal.Gen Cert.KernelIdeal.Hand
open Idealize.ShloMosaic hiding ix1 ix2 ix3
open Idealize.ShloMosaic.TcCoe Idealize.SL.Sem

/-- A run that names its nine results, at other names for them. -/
theorem of_run {A0 A1 A2 A3 A4 A5 A6 A7 A8 : Type} {P : A0 → A1 → A2 → A3 → A4 → A5 → A6 → A7 → A8 → Prop}
    (r : Σ' (a0 : A0), Σ' (a1 : A1), Σ' (a2 : A2), Σ' (a3 : A3), Σ' (a4 : A4), Σ' (a5 : A5), Σ' (a6 : A6), Σ' (a7 : A7), { a8 : A8 // P a0 a1 a2 a3 a4 a5 a6 a7 a8 })
    {g0 : A0} {g1 : A1} {g2 : A2} {g3 : A3} {g4 : A4} {g5 : A5} {g6 : A6} {g7 : A7} {g8 : A8}
    (e0 : r.1 = g0) (e1 : r.2.1 = g1) (e2 : r.2.2.1 = g2) (e3 : r.2.2.2.1 = g3) (e4 : r.2.2.2.2.1 = g4) (e5 : r.2.2.2.2.2.1 = g5) (e6 : r.2.2.2.2.2.2.1 = g6) (e7 : r.2.2.2.2.2.2.2.1 = g7) (e8 : r.2.2.2.2.2.2.2.2.1 = g8) : P g0 g1 g2 g3 g4 g5 g6 g7 g8 := by
  subst e0 e1 e2 e3 e4 e5 e6 e7 e8
  exact r.2.2.2.2.2.2.2.2.2

namespace Env
variable (E : Env Ideal)
variable {arg10 : Memref sig .tc .smem S16 .i32} {harg10 : arg10.IsWhole} {harg20 : E.arg20.IsWhole} {harg21 : E.arg21.IsWhole} {harg22 : E.arg22.IsWhole} {harg23 : E.arg23.IsWhole} {harg24 : E.arg24.IsWhole} {harg25 : E.arg25.IsWhole} {harg26 : E.arg26.IsWhole} {harg27 : E.arg27.IsWhole} {harg28 : E.arg28.IsWhole} {harg29 : E.arg29.IsWhole} {harg30 : E.arg30.IsWhole} {harg31 : E.arg31.IsWhole} {harg32 : E.arg32.IsWhole} {harg33 : E.arg33.IsWhole} {harg34 : E.arg34.IsWhole} {harg35 : E.arg35.IsWhole} {harg36 : E.arg36.IsWhole} {harg37 : E.arg37.IsWhole} {harg38 : E.arg38.IsWhole} {harg39 : E.arg39.IsWhole} {harg40 : E.arg40.IsWhole}
  {x0 : Vec Ideal S16 .i32} {fw10 : HbBuf0 (F := Ideal) E.c hbM0_10} {fw11 : HbBuf0 (F := Ideal) E.c hbM0_11} {fw12 : HbBuf0 (F := Ideal) E.c hbM0_12} {fw13 : HbBuf0 (F := Ideal) E.c hbM0_13} {fw14 : HbBuf0 (F := Ideal) E.c hbM0_14} {fw15 : HbBuf0 (F := Ideal) E.c hbM0_15} {fw16 : HbBuf0 (F := Ideal) E.c hbM0_16} {fw17 : HbBuf0 (F := Ideal) E.c hbM0_17} {fw18 : HbBuf0 (F := Ideal) E.c hbM0_18}
  {fs0 : Buf (Elt Ideal) (View.loc (E.c : Thread nD τ) E.arg20.view)} {fs1 : Buf (Elt Ideal) (View.loc (E.c : Thread nD τ) E.arg21.view)} {fs2 : Buf (Elt Ideal) (View.loc (E.c : Thread nD τ) E.arg22.view)} {fs3 : Buf (Elt Ideal) (View.loc (E.c : Thread nD τ) E.arg23.view)} {fs4 : Buf (Elt Ideal) (View.loc (E.c : Thread nD τ) E.arg24.view)} {fs5 : Buf (Elt Ideal) (View.loc (E.c : Thread nD τ) E.arg25.view)} {fs6 : Buf (Elt Ideal) (View.loc (E.c : Thread nD τ) E.arg26.view)} {fs7 : Buf (Elt Ideal) (View.loc (E.c : Thread nD τ) E.arg27.view)} {fs8 : Buf (Elt Ideal) (View.loc (E.c : Thread nD τ) E.arg28.view)} {fs9 : Buf (Elt Ideal) (View.loc (E.c : Thread nD τ) E.arg29.view)} {fs10 : Buf (Elt Ideal) (View.loc (E.c : Thread nD τ) E.arg30.view)} {fs11 : Buf (Elt Ideal) (View.loc (E.c : Thread nD τ) E.arg31.view)} {fs12 : Buf (Elt Ideal) (View.loc (E.c : Thread nD τ) E.arg32.view)} {fs13 : Buf (Elt Ideal) (View.loc (E.c : Thread nD τ) E.arg33.view)} {fs14 : Buf (Elt Ideal) (View.loc (E.c : Thread nD τ) E.arg34.view)} {fs15 : Buf (Elt Ideal) (View.loc (E.c : Thread nD τ) E.arg35.view)} {fs16 : Buf (Elt Ideal) (View.loc (E.c : Thread nD τ) E.arg36.view)} {fs17 : Buf (Elt Ideal) (View.loc (E.c : Thread nD τ) E.arg37.view)} {fs18 : Buf (Elt Ideal) (View.loc (E.c : Thread nD τ) E.arg38.view)} {fs19 : Buf (Elt Ideal) (View.loc (E.c : Thread nD τ) E.arg39.view)} {fs20 : Buf (Elt Ideal) (View.loc (E.c : Thread nD τ) E.arg40.view)}

set_option maxHeartbeats 2000000 in
/-- From any contents of the result arrays and of the buffers on the chip, the body leaves the specification's arrays. -/
theorem triple : Triple E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20
    E.data.resid E.data.midA E.data.hidA E.data.c2 E.data.s2 E.data.c3 E.data.s3 E.data.c4 E.data.s4 :=
  of_run (P := Triple E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20) (bodyRun E.c arg10 harg10 E.arg20 harg20 E.arg21 harg21 E.arg22 harg22 E.arg23 harg23 E.arg24 harg24 E.arg25 harg25 E.arg26 harg26 E.arg27 harg27 E.arg28 harg28 E.arg29 harg29 E.arg30 harg30 E.arg31 harg31 E.arg32 harg32 E.arg33 harg33 E.arg34 harg34 E.arg35 harg35 E.arg36 harg36 E.arg37 harg37 E.arg38 harg38 E.arg39 harg39 E.arg40 harg40 x0 E.fh0 E.fh1 E.fh2 E.fh3 E.fh4 E.fh5 E.fh6 E.fh7 E.fh8 E.fh9 fw10 fw11 fw12 fw13 fw14 fw15 fw16 fw17 fw18 fs0 fs1 fs2 fs3 fs4 fs5 fs6 fs7 fs8 fs9 fs10 fs11 fs12 fs13 fs14 fs15 fs16 fs17 fs18 fs19 fs20)
    E.run_resid E.run_midA E.run_hidA E.run_c2 E.run_s2 E.run_c3 E.run_s3 E.run_c4 E.run_s4

end Env

end Cert.KernelIdeal.Bridge
-- ==== Proof.KernelFinal.lean ====
module

public import proofs.«01_k».proof.Proof.Named

/-!
# What the kernel leaves in memory

The launch with the results named: every result array is the specification's, over the memory the kernel starts from.
-/

@[expose] public section

set_option synthInstance.maxSize 4096
set_option maxRecDepth 65536

noncomputable section

namespace Cert.KernelIdeal.Final

open Cert.KernelIdeal Cert.KernelIdeal.Gen Cert.KernelIdeal.Hand Cert.KernelIdeal.Bridge
open Idealize.ShloMosaic Idealize.ShloMosaic.TcCoe Idealize.SL.Sem

variable (m : (ℓ : Loc nD τ sig) → Buf (Elt Ideal) ℓ) (ρ : Dev nD → PrngReg) (c : Dev nD)

/-- The operands and the buffers on the chip at the launch. -/
abbrev theEnv : Env Ideal := ⟨c, scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, V m c main_v0, V m c main_arg1, V m c main_arg2, V m c main_arg3, V m c main_arg4, V m c main_arg5, V m c main_arg6, V m c main_arg7, V m c main_arg8, V m c main_arg9⟩

/-- What the two layers are computed from. -/
abbrev theData : Spec.Data := (theEnv m c).data

/-- What the buffers hold at the end: each result array its specification. -/
def final (b : Ref sig .tc) : Buf (Elt Ideal) ((c : Thread nD τ).loc b) :=
  Function.update (Function.update (Function.update (Function.update (Function.update (Function.update (Function.update (Function.update (Function.update (V m c) main_v1_0 (theData m c).resid) main_v1_1 (theData m c).midA) main_v1_2 (theData m c).hidA) main_v1_3 (theData m c).c2) main_v1_4 (theData m c).s2) main_v1_5 (theData m c).c3) main_v1_6 (theData m c).s3) main_v1_7 (theData m c).c4) main_v1_8 (theData m c).s4 b

theorem final_0 : final m c main_v1_0 = (theData m c).resid := by
  unfold final
  rw [Function.update_of_ne (show (main_v1_0 : Ref sig .tc) ≠ main_v1_8 by decide), Function.update_of_ne (show (main_v1_0 : Ref sig .tc) ≠ main_v1_7 by decide), Function.update_of_ne (show (main_v1_0 : Ref sig .tc) ≠ main_v1_6 by decide), Function.update_of_ne (show (main_v1_0 : Ref sig .tc) ≠ main_v1_5 by decide), Function.update_of_ne (show (main_v1_0 : Ref sig .tc) ≠ main_v1_4 by decide), Function.update_of_ne (show (main_v1_0 : Ref sig .tc) ≠ main_v1_3 by decide), Function.update_of_ne (show (main_v1_0 : Ref sig .tc) ≠ main_v1_2 by decide), Function.update_of_ne (show (main_v1_0 : Ref sig .tc) ≠ main_v1_1 by decide), Function.update_self]
theorem final_1 : final m c main_v1_1 = (theData m c).midA := by
  unfold final
  rw [Function.update_of_ne (show (main_v1_1 : Ref sig .tc) ≠ main_v1_8 by decide), Function.update_of_ne (show (main_v1_1 : Ref sig .tc) ≠ main_v1_7 by decide), Function.update_of_ne (show (main_v1_1 : Ref sig .tc) ≠ main_v1_6 by decide), Function.update_of_ne (show (main_v1_1 : Ref sig .tc) ≠ main_v1_5 by decide), Function.update_of_ne (show (main_v1_1 : Ref sig .tc) ≠ main_v1_4 by decide), Function.update_of_ne (show (main_v1_1 : Ref sig .tc) ≠ main_v1_3 by decide), Function.update_of_ne (show (main_v1_1 : Ref sig .tc) ≠ main_v1_2 by decide), Function.update_self]
theorem final_2 : final m c main_v1_2 = (theData m c).hidA := by
  unfold final
  rw [Function.update_of_ne (show (main_v1_2 : Ref sig .tc) ≠ main_v1_8 by decide), Function.update_of_ne (show (main_v1_2 : Ref sig .tc) ≠ main_v1_7 by decide), Function.update_of_ne (show (main_v1_2 : Ref sig .tc) ≠ main_v1_6 by decide), Function.update_of_ne (show (main_v1_2 : Ref sig .tc) ≠ main_v1_5 by decide), Function.update_of_ne (show (main_v1_2 : Ref sig .tc) ≠ main_v1_4 by decide), Function.update_of_ne (show (main_v1_2 : Ref sig .tc) ≠ main_v1_3 by decide), Function.update_self]
theorem final_3 : final m c main_v1_3 = (theData m c).c2 := by
  unfold final
  rw [Function.update_of_ne (show (main_v1_3 : Ref sig .tc) ≠ main_v1_8 by decide), Function.update_of_ne (show (main_v1_3 : Ref sig .tc) ≠ main_v1_7 by decide), Function.update_of_ne (show (main_v1_3 : Ref sig .tc) ≠ main_v1_6 by decide), Function.update_of_ne (show (main_v1_3 : Ref sig .tc) ≠ main_v1_5 by decide), Function.update_of_ne (show (main_v1_3 : Ref sig .tc) ≠ main_v1_4 by decide), Function.update_self]
theorem final_4 : final m c main_v1_4 = (theData m c).s2 := by
  unfold final
  rw [Function.update_of_ne (show (main_v1_4 : Ref sig .tc) ≠ main_v1_8 by decide), Function.update_of_ne (show (main_v1_4 : Ref sig .tc) ≠ main_v1_7 by decide), Function.update_of_ne (show (main_v1_4 : Ref sig .tc) ≠ main_v1_6 by decide), Function.update_of_ne (show (main_v1_4 : Ref sig .tc) ≠ main_v1_5 by decide), Function.update_self]
theorem final_5 : final m c main_v1_5 = (theData m c).c3 := by
  unfold final
  rw [Function.update_of_ne (show (main_v1_5 : Ref sig .tc) ≠ main_v1_8 by decide), Function.update_of_ne (show (main_v1_5 : Ref sig .tc) ≠ main_v1_7 by decide), Function.update_of_ne (show (main_v1_5 : Ref sig .tc) ≠ main_v1_6 by decide), Function.update_self]
theorem final_6 : final m c main_v1_6 = (theData m c).s3 := by
  unfold final
  rw [Function.update_of_ne (show (main_v1_6 : Ref sig .tc) ≠ main_v1_8 by decide), Function.update_of_ne (show (main_v1_6 : Ref sig .tc) ≠ main_v1_7 by decide), Function.update_self]
theorem final_7 : final m c main_v1_7 = (theData m c).c4 := by
  unfold final
  rw [Function.update_of_ne (show (main_v1_7 : Ref sig .tc) ≠ main_v1_8 by decide), Function.update_self]
theorem final_8 : final m c main_v1_8 = (theData m c).s4 := by
  unfold final
  rw [Function.update_self]

set_option maxHeartbeats 2000000 in
/-- The body leaves the results at the specification's arrays. -/
theorem named : Named m (final m) := fun c t fs0 fs1 fs2 fs3 fs4 fs5 fs6 fs7 fs8 fs9 fs10 fs11 fs12 fs13 fs14 fs15 fs16 fs17 fs18 fs19 fs20 => by
  rw [final_0, final_1, final_2, final_3, final_4, final_5, final_6, final_7, final_8]
  exact (theEnv m c).triple

/-- The kernel runs, and every result array is the specification's. -/
theorem run_values : θ_run defs (onTc (τ := τ) (main (F := Ideal))) ⟨m, fun _ => 0, ρ⟩ (fun r => ∀ c : Dev nD,
      r.2.mem ((c : Thread nD τ).loc main_v1_0) = (theData m c).resid
      ∧ r.2.mem ((c : Thread nD τ).loc main_v1_1) = (theData m c).midA
      ∧ r.2.mem ((c : Thread nD τ).loc main_v1_2) = (theData m c).hidA
      ∧ r.2.mem ((c : Thread nD τ).loc main_v1_3) = (theData m c).c2
      ∧ r.2.mem ((c : Thread nD τ).loc main_v1_4) = (theData m c).s2
      ∧ r.2.mem ((c : Thread nD τ).loc main_v1_5) = (theData m c).c3
      ∧ r.2.mem ((c : Thread nD τ).loc main_v1_6) = (theData m c).s3
      ∧ r.2.mem ((c : Thread nD τ).loc main_v1_7) = (theData m c).c4
      ∧ r.2.mem ((c : Thread nD τ).loc main_v1_8) = (theData m c).s4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h.1.written c (by decide)).trans (final_0 m c), (h.1.written c (by decide)).trans (final_1 m c), (h.1.written c (by decide)).trans (final_2 m c), (h.1.written c (by decide)).trans (final_3 m c), (h.1.written c (by decide)).trans (final_4 m c), (h.1.written c (by decide)).trans (final_5 m c), (h.1.written c (by decide)).trans (final_6 m c), (h.1.written c (by decide)).trans (final_7 m c), (h.1.written c (by decide)).trans (final_8 m c), h.2 c⟩)
    (θ_run_and (run_main m ρ (final m) (named m)) (unchanged m ρ (final m) (named m)))

/-- The layers' data, off the memory the kernel starts from. -/
theorem theData_eq : theData m c = Spec.Data.of (shapeCast S16x2560 (m ((c : Thread nD τ).loc main_arg0)) shapeCasts_S16x1x2560_S16x2560)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show Spec.Data.of (V m c main_v0) (V m c main_arg1) (V m c main_arg2) (V m c main_arg3) (V m c main_arg4) (V m c main_arg5) (V m c main_arg6) (V m c main_arg7) (V m c main_arg8) (V m c main_arg9) = _
  rw [show V m c main_v0 = shapeCast S16x2560 (m ((c : Thread nD τ).loc main_arg0)) shapeCasts_S16x1x2560_S16x2560 from rfl, V_main_arg1, V_main_arg2, V_main_arg3, V_main_arg4, V_main_arg5, V_main_arg6, V_main_arg7, V_main_arg8, V_main_arg9]

end Cert.KernelIdeal.Final
-- ==== Proof.Equality.lean ====
module

public import proofs.«01_k».proof.Proof.RefFinal
public import proofs.«01_k».proof.Proof.KernelFinal
public import proofs.«01_k».proof.Defs

/-!
# The kernel and the reference leave the same results

Both are the specification's arrays over arguments that agree.
-/

@[expose] public section

noncomputable section

namespace Cert.Equality

open Idealize.ShloMosaic Idealize.ShloMosaic.TcCoe Idealize.SL.Sem

/-- The reference runs, and every result array is the specification's. -/
theorem run_values (m : (ℓ : Loc ReferenceIdeal.nD ReferenceIdeal.τ ReferenceIdeal.sig) → Buf (Elt Ideal) ℓ) (ρ : Dev ReferenceIdeal.nD → PrngReg) :
    θ_run ReferenceIdeal.defs (onTc (τ := ReferenceIdeal.τ) (ReferenceIdeal.main (F := Ideal))) ⟨m, fun _ => 0, ρ⟩ (fun r => ∀ c : Dev ReferenceIdeal.nD,
      r.2.mem ((c : Thread ReferenceIdeal.nD ReferenceIdeal.τ).loc ReferenceIdeal.main_v1_0) = (RefLayer.start m c).resid
      ∧ r.2.mem ((c : Thread ReferenceIdeal.nD ReferenceIdeal.τ).loc ReferenceIdeal.main_v1_1) = (RefLayer.start m c).midA
      ∧ r.2.mem ((c : Thread ReferenceIdeal.nD ReferenceIdeal.τ).loc ReferenceIdeal.main_v1_2) = (RefLayer.start m c).hidA
      ∧ r.2.mem ((c : Thread ReferenceIdeal.nD ReferenceIdeal.τ).loc ReferenceIdeal.main_v1_3) = (RefLayer.start m c).c2
      ∧ r.2.mem ((c : Thread ReferenceIdeal.nD ReferenceIdeal.τ).loc ReferenceIdeal.main_v1_4) = (RefLayer.start m c).s2
      ∧ r.2.mem ((c : Thread ReferenceIdeal.nD ReferenceIdeal.τ).loc ReferenceIdeal.main_v1_5) = (RefLayer.start m c).c3
      ∧ r.2.mem ((c : Thread ReferenceIdeal.nD ReferenceIdeal.τ).loc ReferenceIdeal.main_v1_6) = (RefLayer.start m c).s3
      ∧ r.2.mem ((c : Thread ReferenceIdeal.nD ReferenceIdeal.τ).loc ReferenceIdeal.main_v1_7) = (RefLayer.start m c).c4
      ∧ r.2.mem ((c : Thread ReferenceIdeal.nD ReferenceIdeal.τ).loc ReferenceIdeal.main_v1_8) = (RefLayer.start m c).s4
      ∧ r.2.mem ((c : Thread ReferenceIdeal.nD ReferenceIdeal.τ).loc ReferenceIdeal.main_arg0) = m ((c : Thread ReferenceIdeal.nD ReferenceIdeal.τ).loc ReferenceIdeal.main_arg0)
      ∧ r.2.mem ((c : Thread ReferenceIdeal.nD ReferenceIdeal.τ).loc ReferenceIdeal.main_arg1) = m ((c : Thread ReferenceIdeal.nD ReferenceIdeal.τ).loc ReferenceIdeal.main_arg1)
      ∧ r.2.mem ((c : Thread ReferenceIdeal.nD ReferenceIdeal.τ).loc ReferenceIdeal.main_arg2) = m ((c : Thread ReferenceIdeal.nD ReferenceIdeal.τ).loc ReferenceIdeal.main_arg2)
      ∧ r.2.mem ((c : Thread ReferenceIdeal.nD ReferenceIdeal.τ).loc ReferenceIdeal.main_arg3) = m ((c : Thread ReferenceIdeal.nD ReferenceIdeal.τ).loc ReferenceIdeal.main_arg3)
      ∧ r.2.mem ((c : Thread ReferenceIdeal.nD ReferenceIdeal.τ).loc ReferenceIdeal.main_arg4) = m ((c : Thread ReferenceIdeal.nD ReferenceIdeal.τ).loc ReferenceIdeal.main_arg4)
      ∧ r.2.mem ((c : Thread ReferenceIdeal.nD ReferenceIdeal.τ).loc ReferenceIdeal.main_arg5) = m ((c : Thread ReferenceIdeal.nD ReferenceIdeal.τ).loc ReferenceIdeal.main_arg5)
      ∧ r.2.mem ((c : Thread ReferenceIdeal.nD ReferenceIdeal.τ).loc ReferenceIdeal.main_arg6) = m ((c : Thread ReferenceIdeal.nD ReferenceIdeal.τ).loc ReferenceIdeal.main_arg6)
      ∧ r.2.mem ((c : Thread ReferenceIdeal.nD ReferenceIdeal.τ).loc ReferenceIdeal.main_arg7) = m ((c : Thread ReferenceIdeal.nD ReferenceIdeal.τ).loc ReferenceIdeal.main_arg7)
      ∧ r.2.mem ((c : Thread ReferenceIdeal.nD ReferenceIdeal.τ).loc ReferenceIdeal.main_arg8) = m ((c : Thread ReferenceIdeal.nD ReferenceIdeal.τ).loc ReferenceIdeal.main_arg8)
      ∧ r.2.mem ((c : Thread ReferenceIdeal.nD ReferenceIdeal.τ).loc ReferenceIdeal.main_arg9) = m ((c : Thread ReferenceIdeal.nD ReferenceIdeal.τ).loc ReferenceIdeal.main_arg9)
      ∧ r.2.mem ((c : Thread ReferenceIdeal.nD ReferenceIdeal.τ).loc ReferenceIdeal.main_arg10) = m ((c : Thread ReferenceIdeal.nD ReferenceIdeal.τ).loc ReferenceIdeal.main_arg10)) :=
  (θ_run ReferenceIdeal.defs _ _).mono (fun r h c => by
    obtain ⟨h0, h1, h2, h3, h4, h5, h6, h7, h8, h⟩ := h c
    exact ⟨h0.trans (RefLayer.final10 m c), h1.trans (RefLayer.final11 m c), h2.trans (RefLayer.final12 m c), h3.trans (RefLayer.final13 m c), h4.trans (RefLayer.final14 m c), h5.trans (RefLayer.final15 m c), h6.trans (RefLayer.final16 m c), h7.trans (RefLayer.final17 m c), h8.trans (RefLayer.final18 m c), h⟩) (ReferenceIdeal.Value.run_blocks m ρ)

/-- From memories that agree on the arguments the kernel and the reference end with equal results. -/
theorem algebraic : Cert.algebraic_KernelIdeal_ReferenceIdeal := by
  intro m g m' g' _ h
  have e : ∀ c, KernelIdeal.Final.theData m c = RefLayer.start m' c := fun c => by
    obtain ⟨h0, h1, h2, h3, h4, h5, h6, h7, h8, h9, h10⟩ := h c
    rw [KernelIdeal.Final.theData_eq]
    show _ = Spec.Data.of _ _ _ _ _ _ _ _ _ _
    rw [h0, h1, h2, h3, h4, h5, h6, h7, h8, h9]
  refine ⟨fun c => (KernelIdeal.Final.theData m c).resid, fun c => (KernelIdeal.Final.theData m c).midA, fun c => (KernelIdeal.Final.theData m c).hidA, fun c => (KernelIdeal.Final.theData m c).c2, fun c => (KernelIdeal.Final.theData m c).s2, fun c => (KernelIdeal.Final.theData m c).c3, fun c => (KernelIdeal.Final.theData m c).s3, fun c => (KernelIdeal.Final.theData m c).c4, fun c => (KernelIdeal.Final.theData m c).s4, KernelIdeal.Final.run_values m g, ?_⟩
  refine (θ_run ReferenceIdeal.defs _ _).mono (fun r hr c => ?_) (run_values m' g')
  obtain ⟨r0, r1, r2, r3, r4, r5, r6, r7, r8, hr⟩ := hr c
  have ec := e c
  exact ⟨r0.trans (congrArg Spec.Data.resid ec.symm), r1.trans (congrArg Spec.Data.midA ec.symm), r2.trans (congrArg Spec.Data.hidA ec.symm), r3.trans (congrArg Spec.Data.c2 ec.symm), r4.trans (congrArg Spec.Data.s2 ec.symm), r5.trans (congrArg Spec.Data.c3 ec.symm), r6.trans (congrArg Spec.Data.s3 ec.symm), r7.trans (congrArg Spec.Data.c4 ec.symm), r8.trans (congrArg Spec.Data.s4 ec.symm), hr⟩

end Cert.Equality
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.LaunchKernel
public import proofs.«01_k».proof.Proof.Equality
public import Idealize.ShloMosaic.Adequacy
public import Idealize.ShloMosaic.Init

@[expose] public section

noncomputable section

namespace Cert.Proof

open Idealize.ShloMosaic Idealize.SL.Sem Cert.Kernel

/-- The frames of the three programs, and the kernel's nine results equal to the reference's. -/
theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ (Cert.KernelIdeal.Final.final m) (Cert.KernelIdeal.Final.named m),
    fun m ρ _ => Cert.ReferenceIdeal.Gen.frame m ρ,
    trivial, Cert.Equality.algebraic⟩

end Cert.Proof

end
